-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v43) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v25_0)) (v1 : (c : Dev Cert.Kernel6Ideal.nD) → Buf (Elt Ideal) ((c.tc : Thread Cert.Kernel6Ideal.nD Cert.Kernel6Ideal.τ).loc Cert.Kernel6Ideal.main_v25_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v25_0) = v0 c
          ∧ r.2.mem ((c.tc : Thread Cert.Kernel6Ideal.nD Cert.Kernel6Ideal.τ).loc Cert.Kernel6Ideal.main_v25_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_v37) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v51) = v0 c
          ∧ r.2.mem ((c.tc : Thread Cert.Reference7Ideal.nD Cert.Reference7Ideal.τ).loc Cert.Reference7Ideal.main_v31) = v1 c
          ∧ r.2.mem ((c.tc : Thread Cert.Reference7Ideal.nD Cert.Reference7Ideal.τ).loc Cert.Reference7Ideal.main_v34) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S32768x15360 : Shape := ⟨2, ![32768, 15360]⟩
abbrev S8x2x8x256x128 : Shape := ⟨5, ![8, 2, 8, 256, 128]⟩
abbrev S128 : Shape := ⟨1, ![128]⟩
abbrev S8x15x31 : Shape := ⟨3, ![8, 15, 31]⟩
abbrev S32768x2048 : Shape := ⟨2, ![32768, 2048]⟩
abbrev S_ : Shape := ⟨0, ![]⟩
abbrev S8x1x8x256x128 : Shape := ⟨5, ![8, 1, 8, 256, 128]⟩
abbrev S8x8x256x128 : Shape := ⟨4, ![8, 8, 256, 128]⟩

class Facts : Prop where
  slices_S32768x15360_S32768x2048_0_3072 : S32768x15360.Slices ![0, 3072] S32768x2048
  bcast_S_S32768x2048 : S_.BroadcastsInDim S32768x2048 (![] : Fin 0 → Fin S32768x2048.rank)
  slices_S8x2x8x256x128_S8x1x8x256x128_0_0_0_0_0 : S8x2x8x256x128.Slices ![0, 0, 0, 0, 0] S8x1x8x256x128
  shapeCasts_S8x1x8x256x128_S8x8x256x128 : S8x1x8x256x128.ShapeCasts S8x8x256x128
  bcast_S_S8x8x256x128 : S_.BroadcastsInDim S8x8x256x128 (![] : Fin 0 → Fin S8x8x256x128.rank)
  bcast_S_S128 : S_.BroadcastsInDim S128 (![] : Fin 0 → Fin S128.rank)
  bcast_S_S8x15x31 : S_.BroadcastsInDim S8x15x31 (![] : Fin 0 → Fin S8x15x31.rank)

variable [Facts]

def fn {F : FTy → Type} [FloatOps F] (main_arg0 : FVec F S32768x15360 .f32) (main_arg1 : FVec F S8x2x8x256x128 .f32) (main_arg2 : FVec F S8x2x8x256x128 .f32) (main_arg3 : FVec F S128 .f32) (main_arg4 : FVec F S128 .f32) (main_arg5 : FVec F S8x15x31 .f32) : IVec S32768x2048 1 × IVec S8x8x256x128 1 × IVec S128 1 × IVec S128 1 × IVec S8x15x31 1 :=
  let main_v0 : FVec F S32768x2048 .f32 := (extractStridedSlice S32768x2048 ![0, 3072] · slices_S32768x15360_S32768x2048_0_3072) main_arg0
  let main_v1 : FVec F S32768x2048 .f32 := Host.absf main_v0
  let main_cst : FVec F S_ .f32 := constant S_ .f32 0x7F800000#32
  let main_v2 : FVec F S32768x2048 .f32 := broadcastInDim S32768x2048 ![] bcast_S_S32768x2048 main_cst
  let main_v3 : IVec S32768x2048 1 := cmpf .olt main_v1 main_v2
  let main_v4 : FVec F S8x1x8x256x128 .f32 := (extractStridedSlice S8x1x8x256x128 ![0, 0, 0, 0, 0] · slices_S8x2x8x256x128_S8x1x8x256x128_0_0_0_0_0) main_arg1
  let main_v5 : FVec F S8x8x256x128 .f32 := shapeCast S8x8x256x128 main_v4 shapeCasts_S8x1x8x256x128_S8x8x256x128
  let main_v6 : FVec F S8x8x256x128 .f32 := Host.absf main_v5
  let main_cst_0 : FVec F S_ .f32 := constant S_ .f32 0x7F800000#32
  let main_v7 : FVec F S8x8x256x128 .f32 := broadcastInDim S8x8x256x128 ![] bcast_S_S8x8x256x128 main_cst_0
  let main_v8 : IVec S8x8x256x128 1 := cmpf .olt main_v6 main_v7
  let main_v9 : FVec F S128 .f32 := Host.absf main_arg3
  let main_cst_1 : FVec F S_ .f32 := constant S_ .f32 0x7F800000#32
  let main_v10 : FVec F S128 .f32 := broadcastInDim S128 ![] bcast_S_S128 main_cst_1
  let main_v11 : IVec S128 1 := cmpf .olt main_v9 main_v10
  let main_v12 : FVec F S128 .f32 := Host.absf main_arg4
  let main_cst_2 : FVec F S_ .f32 := constant S_ .f32 0x7F800000#32
  let main_v13 : FVec F S128 .f32 := broadcastInDim S128 ![] bcast_S_S128 main_cst_2
  let main_v14 : IVec S128 1 := cmpf .olt main_v12 main_v13
  let main_v15 : FVec F S8x15x31 .f32 := Host.absf main_arg5
  let main_cst_3 : FVec F S_ .f32 := constant S_ .f32 0x7F800000#32
  let main_v16 : FVec F S8x15x31 .f32 := broadcastInDim S8x15x31 ![] bcast_S_S8x15x31 main_cst_3
  let main_v17 : IVec S8x15x31 1 := cmpf .olt main_v15 main_v16
  (main_v3, main_v8, main_v11, main_v14, main_v17)
-- ==== Kernel.lean ====
abbrev S32768x15360 : Shape := ⟨2, ![32768, 15360]⟩
abbrev S8x2x8x256x128 : Shape := ⟨5, ![8, 2, 8, 256, 128]⟩
abbrev S128 : Shape := ⟨1, ![128]⟩
abbrev S8x15x31 : Shape := ⟨3, ![8, 15, 31]⟩
abbrev S64x64 : Shape := ⟨2, ![64, 64]⟩
abbrev S1x1x64x64 : Shape := ⟨4, ![1, 1, 64, 64]⟩
abbrev S3x4x12 : Shape := ⟨3, ![3, 4, 12]⟩
abbrev S1x128 : Shape := ⟨2, ![1, 128]⟩
abbrev S_ : Shape := ⟨0, ![]⟩
abbrev S64x64x1 : Shape := ⟨3, ![64, 64, 1]⟩
abbrev S8x15x64x64 : Shape := ⟨4, ![8, 15, 64, 64]⟩
abbrev S8x1x64x64 : Shape := ⟨4, ![8, 1, 64, 64]⟩
abbrev S8x16x64x64 : Shape := ⟨4, ![8, 16, 64, 64]⟩
abbrev S3x4x12x1 : Shape := ⟨4, ![3, 4, 12, 1]⟩
abbrev S8x3x4x12x64x64 : Shape := ⟨6, ![8, 3, 4, 12, 64, 64]⟩
abbrev S8x3x4x64x12x64 : Shape := ⟨6, ![8, 3, 4, 64, 12, 64]⟩
abbrev S8x3x256x768 : Shape := ⟨4, ![8, 3, 256, 768]⟩
abbrev S32768x1024 : Shape := ⟨2, ![32768, 1024]⟩
abbrev S4096x128 : Shape := ⟨2, ![4096, 128]⟩
abbrev S1x1x1x256x128 : Shape := ⟨5, ![1, 1, 1, 256, 128]⟩
abbrev S1x3x256x768 : Shape := ⟨4, ![1, 3, 256, 768]⟩
abbrev S128x128 : Shape := ⟨2, ![128, 128]⟩
abbrev S256x128 : Shape := ⟨2, ![256, 128]⟩
abbrev S768x128 : Shape := ⟨2, ![768, 128]⟩
abbrev S256x768 : Shape := ⟨2, ![256, 768]⟩
abbrev S256x256 : Shape := ⟨2, ![256, 256]⟩
abbrev S1x1x256x768 : Shape := ⟨4, ![1, 1, 256, 768]⟩
abbrev S256 : Shape := ⟨1, ![256]⟩
abbrev S256x1 : Shape := ⟨2, ![256, 1]⟩

abbrev nBuf : Space → Nat
  | .hbm => 38
  | .vmem => 19
  | .smem => 0
  | _ => 0

abbrev bufTy : (tb : Table) → Fin (tcTables nBuf tb) → BufTy
  | .hbm, ⟨0, _⟩ => ⟨S32768x15360, .f32⟩
  | .hbm, ⟨1, _⟩ => ⟨S8x2x8x256x128, .f32⟩
  | .hbm, ⟨2, _⟩ => ⟨S8x2x8x256x128, .f32⟩
  | .hbm, ⟨3, _⟩ => ⟨S128, .f32⟩
  | .hbm, ⟨4, _⟩ => ⟨S128, .f32⟩
  | .hbm, ⟨5, _⟩ => ⟨S8x15x31, .f32⟩
  | .hbm, ⟨6, _⟩ => ⟨S64x64, .i32⟩
  | .hbm, ⟨7, _⟩ => ⟨S64x64, .i1⟩
  | .hbm, ⟨8, _⟩ => ⟨S64x64, .i1⟩
  | .hbm, ⟨9, _⟩ => ⟨S1x1x64x64, .i1⟩
  | .hbm, ⟨10, _⟩ => ⟨S3x4x12, .i32⟩
  | .hbm, ⟨11, _⟩ => ⟨S3x4x12, .i1⟩
  | .hbm, ⟨12, _⟩ => ⟨S1x128, .f32⟩
  | .hbm, ⟨13, _⟩ => ⟨S1x128, .f32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S64x64, .i32⟩
  | .hbm, ⟨18, _⟩ => ⟨S64x64x1, .i32⟩
  | .hbm, ⟨19, _⟩ => ⟨S8x15x64x64, .f32⟩
  | .hbm, ⟨20, _⟩ => ⟨S_, .f32⟩
  | .hbm, ⟨21, _⟩ => ⟨S_, .f32⟩
  | .hbm, ⟨22, _⟩ => ⟨S8x15x64x64, .i1⟩
  | .hbm, ⟨23, _⟩ => ⟨S8x15x64x64, .f32⟩
  | .hbm, ⟨24, _⟩ => ⟨S8x15x64x64, .f32⟩
  | .hbm, ⟨25, _⟩ => ⟨S8x1x64x64, .f32⟩
  | .hbm, ⟨26, _⟩ => ⟨S_, .f32⟩
  | .hbm, ⟨27, _⟩ => ⟨S8x1x64x64, .f32⟩
  | .hbm, ⟨28, _⟩ => ⟨S8x16x64x64, .f32⟩
  | .hbm, ⟨29, _⟩ => ⟨S_, .i32⟩
  | .hbm, ⟨30, _⟩ => ⟨S3x4x12, .i32⟩
  | .hbm, ⟨31, _⟩ => ⟨S3x4x12, .i32⟩
  | .hbm, ⟨32, _⟩ => ⟨S3x4x12, .i32⟩
  | .hbm, ⟨33, _⟩ => ⟨S3x4x12x1, .i32⟩
  | .hbm, ⟨34, _⟩ => ⟨S8x3x4x12x64x64, .f32⟩
  | .hbm, ⟨35, _⟩ => ⟨S8x3x4x64x12x64, .f32⟩
  | .hbm, ⟨36, _⟩ => ⟨S8x3x256x768, .f32⟩
  | .hbm, ⟨37, _⟩ => ⟨S32768x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x1x1x256x128, .f32⟩
  | .local _ .vmem, ⟨7, _⟩ => ⟨S1x1x1x256x128, .f32⟩
  | .local _ .vmem, ⟨8, _⟩ => ⟨S1x1x1x256x128, .f32⟩
  | .local _ .vmem, ⟨9, _⟩ => ⟨S1x1x1x256x128, .f32⟩
  | .local _ .vmem, ⟨10, _⟩ => ⟨S1x128, .f32⟩
  | .local _ .vmem, ⟨11, _⟩ => ⟨S1x128, .f32⟩
  | .local _ .vmem, ⟨12, _⟩ => ⟨S1x3x256x768, .f32⟩
  | .local _ .vmem, ⟨13, _⟩ => ⟨S1x3x256x768, .f32⟩
  | .local _ .vmem, ⟨14, _⟩ => ⟨S4096x128, .f32⟩
  | .local _ .vmem, ⟨15, _⟩ => ⟨S4096x128, .f32⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | _, _ => ⟨S32768x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_c_2 : Ref sig .tc := ⟨.hbm, 10, rfl⟩
abbrev main_c_3 : Ref sig .tc := ⟨.hbm, 11, rfl⟩
abbrev main_v1 : Ref sig .tc := ⟨.hbm, 12, rfl⟩
abbrev main_v2 : Ref sig .tc := ⟨.hbm, 13, rfl⟩
abbrev main_c_4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v8 : Ref sig .tc := ⟨.hbm, 24, rfl⟩
abbrev main_v9 : Ref sig .tc := ⟨.hbm, 25, rfl⟩
abbrev main_cst_5 : Ref sig .tc := ⟨.hbm, 26, rfl⟩
abbrev main_v10 : Ref sig .tc := ⟨.hbm, 27, rfl⟩
abbrev main_v11 : Ref sig .tc := ⟨.hbm, 28, rfl⟩
abbrev main_c_6 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c4_i32 : BitVec 32 := 4#32
  let v47 : BitVec 32 := Scalar.addi c0_i32 c4_i32
  let c1_i32 : BitVec 32 := 1#32
  ⟨c0_i32, v47, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32_32 : BitVec 32 := 4#32
  let v48 : BitVec 32 := Scalar.muli arg14 c4_i32_32
  let c0_i32_33 : BitVec 32 := 0#32
  let v49 : BitVec 32 := Scalar.addi v48 c0_i32_33
  let c256_i32 : BitVec 32 := 256#32
  let v58 : BitVec 32 := Scalar.muli v49 c256_i32
  v58
def k0_mult2 (k0_t1 : Fin k0_t1_loop.trips) : BitVec 32 :=
  let c52_i32 : BitVec 32 := 52#32
  let c0_i32_36 : BitVec 32 := 0#32
  let c0_i32 : BitVec 32 := 0#32
  let c1_i32 : BitVec 32 := 1#32
  let arg14 : BitVec 32 := Scf.iv c0_i32 c1_i32 k0_t1
  let c4_i32_32 : BitVec 32 := 4#32
  let v48 : BitVec 32 := Scalar.muli arg14 c4_i32_32
  let c0_i32_33 : BitVec 32 := 0#32
  let v49 : BitVec 32 := Scalar.addi v48 c0_i32_33
  let c4_i32_34 : BitVec 32 := 4#32
  let v50 : BitVec 32 := Scalar.muli v49 c4_i32_34
  let c4_i32_35 : BitVec 32 := 4#32
  let v51 : BitVec 32 := Scalar.subi v50 c4_i32_35
  let v52 : BitVec 32 := Scalar.maxsi c0_i32_36 v51
  let v53 : BitVec 32 := Scalar.minsi c52_i32 v52
  let c64_i32 : BitVec 32 := 64#32
  let v60 : BitVec 32 := Scalar.muli v53 c64_i32
  v60
def k0_off1 (k0_t1 : Fin k0_t1_loop.trips) (c0_i32_33 : BitVec 32) : Fin 2 → Nat :=
  let c0_i32 : BitVec 32 := 0#32
  let c1_i32 : BitVec 32 := 1#32
  let arg14 : BitVec 32 := Scf.iv c0_i32 c1_i32 k0_t1
  let c4_i32_32 : BitVec 32 := 4#32
  let v48 : BitVec 32 := Scalar.muli arg14 c4_i32_32
  let v49 : BitVec 32 := Scalar.addi v48 c0_i32_33
  let c256_i32 : BitVec 32 := 256#32
  let v58 : BitVec 32 := Scalar.muli v49 c256_i32
  let v59 : BitVec 32 := v58
  let v62 : Index := Scalar.indexCast v59
  let c0_40 : Index := 0#32
  ![v62.toNat, 0]
def k0_off2 (k0_t1 : Fin k0_t1_loop.trips) (c0_i32_33 : BitVec 32) : Fin 2 → Nat :=
  let c52_i32 : BitVec 32 := 52#32
  let c0_i32_36 : BitVec 32 := 0#32
  let c0_i32 : BitVec 32 := 0#32
  let c1_i32 : BitVec 32 := 1#32
  let arg14 : BitVec 32 := Scf.iv c0_i32 c1_i32 k0_t1
  let c4_i32_32 : BitVec 32 := 4#32
  let v48 : BitVec 32 := Scalar.muli arg14 c4_i32_32
  let v49 : BitVec 32 := Scalar.addi v48 c0_i32_33
  let c4_i32_34 : BitVec 32 := 4#32
  let v50 : BitVec 32 := Scalar.muli v49 c4_i32_34
  let c4_i32_35 : BitVec 32 := 4#32
  let v51 : BitVec 32 := Scalar.subi v50 c4_i32_35
  let v52 : BitVec 32 := Scalar.maxsi c0_i32_36 v51
  let v53 : BitVec 32 := Scalar.minsi c52_i32 v52
  let c64_i32 : BitVec 32 := 64#32
  let v60 : BitVec 32 := Scalar.muli v53 c64_i32
  let v61 : BitVec 32 := v60
  let v64 : Index := Scalar.indexCast v61
  let c0_41 : Index := 0#32
  ![v64.toNat, 0]
def k0_off3 (k0_t1 : Fin k0_t1_loop.trips) (c0_i32_33 : BitVec 32) : Fin 4 → Nat :=
  let c0_44 : Index := 0#32
  let c0_i32 : BitVec 32 := 0#32
  let c1_i32 : BitVec 32 := 1#32
  let arg14 : BitVec 32 := Scf.iv c0_i32 c1_i32 k0_t1
  let c4_i32_32 : BitVec 32 := 4#32
  let v48 : BitVec 32 := Scalar.muli arg14 c4_i32_32
  let v49 : BitVec 32 := Scalar.addi v48 c0_i32_33
  let c0_i32_37 : BitVec 32 := 0#32
  let v54 : BitVec 1 := Scalar.cmpi .eq v49 c0_i32_37
  let c0_i32_39 : BitVec 32 := 0#32
  let c15_i32 : BitVec 32 := 15#32
  let v55 : BitVec 1 := Scalar.cmpi .eq v49 c15_i32
  let c2_i32 : BitVec 32 := 2#32
  let c1_i32_38 : BitVec 32 := 1#32
  let v56 : BitVec 32 := Scalar.select v55 c2_i32 c1_i32_38
  let v57 : BitVec 32 := Scalar.select v54 c0_i32_39 v56
  let v68 : Index := Scalar.indexCast v57
  let c0_45 : Index := 0#32
  let c0_46 : Index := 0#32
  ![0, v68.toNat, 0, 0]
def k0_mult3 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32_47 : BitVec 32 := 4#32
  let v72 : BitVec 32 := Scalar.muli arg14 c4_i32_47
  let c1_i32_48 : BitVec 32 := 1#32
  let v73 : BitVec 32 := Scalar.addi v72 c1_i32_48
  let c256_i32_58 : BitVec 32 := 256#32
  let v82 : BitVec 32 := Scalar.muli v73 c256_i32_58
  v82
def k0_mult4 (k0_t1 : Fin k0_t1_loop.trips) : BitVec 32 :=
  let c52_i32_52 : BitVec 32 := 52#32
  let c0_i32_51 : BitVec 32 := 0#32
  let c0_i32 : BitVec 32 := 0#32
  let c1_i32 : BitVec 32 := 1#32
  let arg14 : BitVec 32 := Scf.iv c0_i32 c1_i32 k0_t1
  let c4_i32_47 : BitVec 32 := 4#32
  let v72 : BitVec 32 := Scalar.muli arg14 c4_i32_47
  let c1_i32_48 : BitVec 32 := 1#32
  let v73 : BitVec 32 := Scalar.addi v72 c1_i32_48
  let c4_i32_49 : BitVec 32 := 4#32
  let v74 : BitVec 32 := Scalar.muli v73 c4_i32_49
  let c4_i32_50 : BitVec 32 := 4#32
  let v75 : BitVec 32 := Scalar.subi v74 c4_i32_50
  let v76 : BitVec 32 := Scalar.maxsi c0_i32_51 v75
  let v77 : BitVec 32 := Scalar.minsi c52_i32_52 v76
  let c64_i32_59 : BitVec 32 := 64#32
  let v84 : BitVec 32 := Scalar.muli v77 c64_i32_59
  v84
def k0_mult5 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32_67 : BitVec 32 := 4#32
  let v96 : BitVec 32 := Scalar.muli arg14 c4_i32_67
  let c2_i32_68 : BitVec 32 := 2#32
  let v97 : BitVec 32 := Scalar.addi v96 c2_i32_68
  let c256_i32_78 : BitVec 32 := 256#32
  let v106 : BitVec 32 := Scalar.muli v97 c256_i32_78
  v106
def k0_mult6 (k0_t1 : Fin k0_t1_loop.trips) : BitVec 32 :=
  let c52_i32_72 : BitVec 32 := 52#32
  let c0_i32_71 : BitVec 32 := 0#32
  let c0_i32 : BitVec 32 := 0#32
  let c1_i32 : BitVec 32 := 1#32
  let arg14 : BitVec 32 := Scf.iv c0_i32 c1_i32 k0_t1
  let c4_i32_67 : BitVec 32 := 4#32
  let v96 : BitVec 32 := Scalar.muli arg14 c4_i32_67
  let c2_i32_68 : BitVec 32 := 2#32
  let v97 : BitVec 32 := Scalar.addi v96 c2_i32_68
  let c4_i32_69 : BitVec 32 := 4#32
  let v98 : BitVec 32 := Scalar.muli v97 c4_i32_69
  let c4_i32_70 : BitVec 32 := 4#32
  let v99 : BitVec 32 := Scalar.subi v98 c4_i32_70
  let v100 : BitVec 32 := Scalar.maxsi c0_i32_71 v99
  let v101 : BitVec 32 := Scalar.minsi c52_i32_72 v100
  let c64_i32_79 : BitVec 32 := 64#32
  let v108 : BitVec 32 := Scalar.muli v101 c64_i32_79
  v108
def k0_mult7 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32_87 : BitVec 32 := 4#32
  let v120 : BitVec 32 := Scalar.muli arg14 c4_i32_87
  let c3_i32 : BitVec 32 := 3#32
  let v121 : BitVec 32 := Scalar.addi v120 c3_i32
  let c256_i32_97 : BitVec 32 := 256#32
  let v130 : BitVec 32 := Scalar.muli v121 c256_i32_97
  v130
def k0_mult8 (k0_t1 : Fin k0_t1_loop.trips) : BitVec 32 :=
  let c52_i32_91 : BitVec 32 := 52#32
  let c0_i32_90 : BitVec 32 := 0#32
  let c0_i32 : BitVec 32 := 0#32
  let c1_i32 : BitVec 32 := 1#32
  let arg14 : BitVec 32 := Scf.iv c0_i32 c1_i32 k0_t1
  let c4_i32_87 : BitVec 32 := 4#32
  let v120 : BitVec 32 := Scalar.muli arg14 c4_i32_87
  let c3_i32 : BitVec 32 := 3#32
  let v121 : BitVec 32 := Scalar.addi v120 c3_i32
  let c4_i32_88 : BitVec 32 := 4#32
  let v122 : BitVec 32 := Scalar.muli v121 c4_i32_88
  let c4_i32_89 : BitVec 32 := 4#32
  let v123 : BitVec 32 := Scalar.subi v122 c4_i32_89
  let v124 : BitVec 32 := Scalar.maxsi c0_i32_90 v123
  let v125 : BitVec 32 := Scalar.minsi c52_i32_91 v124
  let c64_i32_98 : BitVec 32 := 64#32
  let v132 : BitVec 32 := Scalar.muli v125 c64_i32_98
  v132
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c24_i32 : BitVec 32 := 24#32
  let v1 : BitVec 32 := Scalar.addi c24_i32 arg1
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c32_i32 : BitVec 32 := 32#32
  let v1 : BitVec 32 := Scalar.addi c32_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c40_i32 : BitVec 32 := 40#32
  let v1 : BitVec 32 := Scalar.addi c40_i32 arg1
  let c0_i32_0 : BitVec 32 := 0#32
  ![v0.toNat, v1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x3x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S32768x15360 : Shape := ⟨2, ![32768, 15360]⟩
abbrev S8x2x8x256x128 : Shape := ⟨5, ![8, 2, 8, 256, 128]⟩
abbrev S128 : Shape := ⟨1, ![128]⟩
abbrev S8x15x31 : Shape := ⟨3, ![8, 15, 31]⟩
abbrev S32768x1024 : Shape := ⟨2, ![32768, 1024]⟩
abbrev S8x4096x8x128 : Shape := ⟨4, ![8, 4096, 8, 128]⟩
abbrev S8x8x4096x128 : Shape := ⟨4, ![8, 8, 4096, 128]⟩
abbrev S8x8x64x64x128 : Shape := ⟨5, ![8, 8, 64, 64, 128]⟩
abbrev S_ : Shape := ⟨0, ![]⟩
abbrev S8x8x64x64 : Shape := ⟨4, ![8, 8, 64, 64]⟩
abbrev S8x8x64x64x1 : Shape := ⟨5, ![8, 8, 64, 64, 1]⟩
abbrev S1x1x1x1x128 : Shape := ⟨5, ![1, 1, 1, 1, 128]⟩
abbrev S8x1x8x256x128 : Shape := ⟨5, ![8, 1, 8, 256, 128]⟩
abbrev S8x8x256x128 : Shape := ⟨4, ![8, 8, 256, 128]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S8x15x64x64 : Shape := ⟨4, ![8, 15, 64, 64]⟩
abbrev S8x64x64x64x64 : Shape := ⟨5, ![8, 64, 64, 64, 64]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S8x8x64x64x64x64 : Shape := ⟨6, ![8, 8, 64, 64, 64, 64]⟩
abbrev S1x8x64x64x64x64 : Shape := ⟨6, ![1, 8, 64, 64, 64, 64]⟩
abbrev S1x1x64x64x64x64 : Shape := ⟨6, ![1, 1, 64, 64, 64, 64]⟩
abbrev S8x8x64x64x256 : Shape := ⟨5, ![8, 8, 64, 64, 256]⟩
abbrev S8x8x64x64x4096 : Shape := ⟨5, ![8, 8, 64, 64, 4096]⟩
abbrev S8x8x64x64x4352 : Shape := ⟨5, ![8, 8, 64, 64, 4352]⟩

abbrev nBuf : Space → Nat
  | .hbm => 196
  | .vmem => 0
  | .smem => 0
  | _ => 0

abbrev hbmTy0_0 (i : Nat) : BufTy := match i % 128 with
  | 0 => ⟨S32768x15360, .f32⟩
  | 1 => ⟨S8x2x8x256x128, .f32⟩
  | 2 => ⟨S8x2x8x256x128, .f32⟩
  | 3 => ⟨S128, .f32⟩
  | 4 => ⟨S128, .f32⟩
  | 5 => ⟨S8x15x31, .f32⟩
  | 6 => ⟨S32768x1024, .f32⟩
  | 7 => ⟨S8x4096x8x128, .f32⟩
  | 8 => ⟨S8x8x4096x128, .f32⟩
  | 9 => ⟨S8x8x64x64x128, .f32⟩
  | 10 => ⟨S8x8x64x64x128, .f32⟩
  | 11 => ⟨S_, .f32⟩
  | 12 => ⟨S8x8x64x64, .f32⟩
  | 13 => ⟨S8x8x64x64x1, .f32⟩
  | 14 => ⟨S_, .f32⟩
  | 15 => ⟨S8x8x64x64x1, .f32⟩
  | 16 => ⟨S8x8x64x64x1, .f32⟩
  | 17 => ⟨S_, .f32⟩
  | 18 => ⟨S8x8x64x64x1, .f32⟩
  | 19 => ⟨S8x8x64x64x1, .f32⟩
  | 20 => ⟨S8x8x64x64x1, .f32⟩
  | 21 => ⟨S8x8x64x64x128, .f32⟩
  | 22 => ⟨S8x8x64x64x128, .f32⟩
  | 23 => ⟨S1x1x1x1x128, .f32⟩
  | 24 => ⟨S8x8x64x64x128, .f32⟩
  | 25 => ⟨S8x8x64x64x128, .f32⟩
  | 26 => ⟨S32768x1024, .f32⟩
  | 27 => ⟨S8x4096x8x128, .f32⟩
  | 28 => ⟨S8x8x4096x128, .f32⟩
  | 29 => ⟨S8x8x64x64x128, .f32⟩
  | 30 => ⟨S8x8x64x64x128, .f32⟩
  | 31 => ⟨S_, .f32⟩
  | 32 => ⟨S8x8x64x64, .f32⟩
  | 33 => ⟨S8x8x64x64x1, .f32⟩
  | 34 => ⟨S_, .f32⟩
  | 35 => ⟨S8x8x64x64x1, .f32⟩
  | 36 => ⟨S8x8x64x64x1, .f32⟩
  | 37 => ⟨S_, .f32⟩
  | 38 => ⟨S8x8x64x64x1, .f32⟩
  | 39 => ⟨S8x8x64x64x1, .f32⟩
  | 40 => ⟨S8x8x64x64x1, .f32⟩
  | 41 => ⟨S8x8x64x64x128, .f32⟩
  | 42 => ⟨S8x8x64x64x128, .f32⟩
  | 43 => ⟨S1x1x1x1x128, .f32⟩
  | 44 => ⟨S8x8x64x64x128, .f32⟩
  | 45 => ⟨S8x8x64x64x128, .f32⟩
  | 46 => ⟨S32768x1024, .f32⟩
  | 47 => ⟨S8x4096x8x128, .f32⟩
  | 48 => ⟨S8x8x4096x128, .f32⟩
  | 49 => ⟨S8x8x64x64x128, .f32⟩
  | 50 => ⟨S8x1x8x256x128, .f32⟩
  | 51 => ⟨S8x8x256x128, .f32⟩
  | 52 => ⟨S8x1x8x256x128, .f32⟩
  | 53 => ⟨S8x8x256x128, .f32⟩
  | 54 => ⟨S64, .i32⟩
  | 55 => ⟨S64, .i32⟩
  | 56 => ⟨S_, .i32⟩
  | 57 => ⟨S64, .i32⟩
  | 58 => ⟨S64, .i32⟩
  | 59 => ⟨S_, .i32⟩
  | 60 => ⟨S_, .i32⟩
  | 61 => ⟨S_, .i32⟩
  | 62 => ⟨S64, .i32⟩
  | 63 => ⟨S64, .i32⟩
  | 64 => ⟨S_, .i32⟩
  | 65 => ⟨S64, .i32⟩
  | 66 => ⟨S64, .i32⟩
  | 67 => ⟨S1x64, .i32⟩
  | 68 => ⟨S64x1, .i32⟩
  | 69 => ⟨S64x64, .i32⟩
  | 70 => ⟨S64x64, .i32⟩
  | 71 => ⟨S64x64, .i1⟩
  | 72 => ⟨S1x64, .i32⟩
  | 73 => ⟨S64x1, .i32⟩
  | 74 => ⟨S_, .i32⟩
  | 75 => ⟨S64x1, .i32⟩
  | 76 => ⟨S64x1, .i32⟩
  | 77 => ⟨S64x64, .i32⟩
  | 78 => ⟨S64x64, .i32⟩
  | 79 => ⟨S64x64, .i1⟩
  | 80 => ⟨S64x64, .i1⟩
  | 81 => ⟨S1x64, .i32⟩
  | 82 => ⟨S64x1, .i32⟩
  | 83 => ⟨S64x64, .i32⟩
  | 84 => ⟨S64x64, .i32⟩
  | 85 => ⟨S64x64, .i32⟩
  | 86 => ⟨S_, .i32⟩
  | 87 => ⟨S64x64, .i32⟩
  | 88 => ⟨S64x64, .i32⟩
  | 89 => ⟨S_, .i32⟩
  | 90 => ⟨S64x64, .i32⟩
  | 91 => ⟨S64x64, .i32⟩
  | 92 => ⟨S_, .i32⟩
  | 93 => ⟨S_, .i32⟩
  | 94 => ⟨S_, .i32⟩
  | 95 => ⟨S64x64, .i32⟩
  | 96 => ⟨S64x64, .i32⟩
  | 97 => ⟨S_, .i32⟩
  | 98 => ⟨S64x64, .i32⟩
  | 99 => ⟨S64x64, .i32⟩
  | 100 => ⟨S_, .i32⟩
  | 101 => ⟨S64, .i32⟩
  | 102 => ⟨S64, .i32⟩
  | 103 => ⟨S_, .i32⟩
  | 104 => ⟨S_, .i32⟩
  | 105 => ⟨S_, .i32⟩
  | 106 => ⟨S64, .i32⟩
  | 107 => ⟨S64, .i32⟩
  | 108 => ⟨S_, .i32⟩
  | 109 => ⟨S64, .i32⟩
  | 110 => ⟨S64, .i32⟩
  | 111 => ⟨S1x64, .i32⟩
  | 112 => ⟨S64x1, .i32⟩
  | 113 => ⟨S64x64, .i32⟩
  | 114 => ⟨S64x64, .i32⟩
  | 115 => ⟨S64x64, .i1⟩
  | 116 => ⟨S1x64, .i32⟩
  | 117 => ⟨S64x1, .i32⟩
  | 118 => ⟨S_, .i32⟩
  | 119 => ⟨S64x1, .i32⟩
  | 120 => ⟨S64x1, .i32⟩
  | 121 => ⟨S64x64, .i32⟩
  | 122 => ⟨S64x64, .i32⟩
  | 123 => ⟨S64x64, .i1⟩
  | 124 => ⟨S64x64, .i1⟩
  | 125 => ⟨S1x64, .i32⟩
  | 126 => ⟨S64x1, .i32⟩
  | 127 => ⟨S64x64, .i32⟩
  | _ => ⟨S32768x15360, .f32⟩

abbrev hbmTy0_1 (i : Nat) : BufTy := match i % 128 with
  | 0 => ⟨S64x64, .i32⟩
  | 1 => ⟨S64x64, .i32⟩
  | 2 => ⟨S_, .i32⟩
  | 3 => ⟨S64x64, .i32⟩
  | 4 => ⟨S64x64, .i32⟩
  | 5 => ⟨S_, .i32⟩
  | 6 => ⟨S64x64, .i32⟩
  | 7 => ⟨S64x64, .i32⟩
  | 8 => ⟨S_, .i32⟩
  | 9 => ⟨S_, .i32⟩
  | 10 => ⟨S_, .i32⟩
  | 11 => ⟨S64x64, .i32⟩
  | 12 => ⟨S64x64, .i32⟩
  | 13 => ⟨S_, .i32⟩
  | 14 => ⟨S64x64, .i32⟩
  | 15 => ⟨S64x64, .i32⟩
  | 16 => ⟨S64x64x1, .i32⟩
  | 17 => ⟨S8x15x64x64, .f32⟩
  | 18 => ⟨S64x64x1, .i32⟩
  | 19 => ⟨S8x64x64x64x64, .f32⟩
  | 20 => ⟨S8x64x64x64x64, .f32⟩
  | 21 => ⟨S64x1x64x1, .i1⟩
  | 22 => ⟨S1x64x1x64, .i1⟩
  | 23 => ⟨S64x64x64x64, .i1⟩
  | 24 => ⟨S64x64x64x64, .i1⟩
  | 25 => ⟨S64x64x64x64, .i1⟩
  | 26 => ⟨S8x8x64x64x64x64, .f32⟩
  | 27 => ⟨S_, .f32⟩
  | 28 => ⟨S8x8x64x64x64x64, .f32⟩
  | 29 => ⟨S8x8x64x64x64x64, .f32⟩
  | 30 => ⟨S1x8x64x64x64x64, .f32⟩
  | 31 => ⟨S8x8x64x64x64x64, .f32⟩
  | 32 => ⟨S8x8x64x64x64x64, .f32⟩
  | 33 => ⟨S1x1x64x64x64x64, .i1⟩
  | 34 => ⟨S_, .f32⟩
  | 35 => ⟨S_, .f32⟩
  | 36 => ⟨S8x8x64x64x64x64, .i1⟩
  | 37 => ⟨S8x8x64x64x64x64, .f32⟩
  | 38 => ⟨S8x8x64x64x64x64, .f32⟩
  | 39 => ⟨S8x8x64x64x256, .f32⟩
  | 40 => ⟨S_, .f32⟩
  | 41 => ⟨S8x8x64x64x256, .f32⟩
  | 42 => ⟨S8x8x64x64x256, .f32⟩
  | 43 => ⟨S8x8x64x64x4096, .f32⟩
  | 44 => ⟨S8x8x64x64x4352, .f32⟩
  | 45 => ⟨S_, .f32⟩
  | 46 => ⟨S8x8x64x64, .f32⟩
  | 47 => ⟨S_, .f32⟩
  | 48 => ⟨S8x8x64x64, .f32⟩
  | 49 => ⟨S8x8x64x64, .f32⟩
  | 50 => ⟨S8x8x64x64x1, .f32⟩
  | 51 => ⟨S8x8x64x64x4352, .f32⟩
  | 52 => ⟨S8x8x64x64x4352, .f32⟩
  | 53 => ⟨S8x8x64x64x4352, .f32⟩
  | 54 => ⟨S_, .f32⟩
  | 55 => ⟨S8x8x64x64, .f32⟩
  | 56 => ⟨S8x8x64x64x1, .f32⟩
  | 57 => ⟨S8x8x64x64x4352, .f32⟩
  | 58 => ⟨S8x8x64x64x4352, .f32⟩
  | 59 => ⟨S8x8x64x64x4096, .f32⟩
  | 60 => ⟨S8x8x64x64x64x64, .f32⟩
  | 61 => ⟨S8x8x64x64x256, .f32⟩
  | 62 => ⟨S8x8x64x64x128, .f32⟩
  | 63 => ⟨S8x8x64x64x128, .f32⟩
  | 64 => ⟨S8x8x64x64x128, .f32⟩
  | 65 => ⟨S8x8x4096x128, .f32⟩
  | 66 => ⟨S8x4096x8x128, .f32⟩
  | 67 => ⟨S32768x1024, .f32⟩
  | _ => ⟨S32768x15360, .f32⟩

abbrev hbmTy (i : Nat) : BufTy := match i / 128 with
  | 0 => hbmTy0_0 i
  | 1 => hbmTy0_1 i
  | _ => ⟨S32768x15360, .f32⟩

abbrev bufTy : (tb : Table) → Fin (tcTables nBuf tb) → BufTy
  | .hbm, ⟨i, _⟩ => hbmTy i
  | _, _ => ⟨S32768x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_c_6 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_7 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_8 : Ref sig .tc := ⟨.hbm, 86, rfl⟩
abbrev main_v65 : Ref sig .tc := ⟨.hbm, 87, rfl⟩
abbrev main_v66 : Ref sig .tc := ⟨.hbm, 88, rfl⟩
abbrev main_c_9 : Ref sig .tc := ⟨.hbm, 89, rfl⟩
abbrev main_v67 : Ref sig .tc := ⟨.hbm, 90, rfl⟩
abbrev main_v68 : Ref sig .tc := ⟨.hbm, 91, rfl⟩
abbrev main_c_10 : Ref sig .tc := ⟨.hbm, 92, rfl⟩
abbrev main_c_11 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_v69 : Ref sig .tc := ⟨.hbm, 99, rfl⟩
abbrev main_c_12 : Ref sig .tc := ⟨.hbm, 100, rfl⟩
abbrev main_v70 : Ref sig .tc := ⟨.hbm, 101, rfl⟩
abbrev main_v71 : Ref sig .tc := ⟨.hbm, 102, rfl⟩
abbrev main_c_13 : Ref sig .tc := ⟨.hbm, 103, rfl⟩
abbrev main_c_14 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_15 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_16 : Ref sig .tc := ⟨.hbm, 130, rfl⟩
abbrev main_v91 : Ref sig .tc := ⟨.hbm, 131, rfl⟩
abbrev main_v92 : Ref sig .tc := ⟨.hbm, 132, rfl⟩
abbrev main_c_17 : Ref sig .tc := ⟨.hbm, 133, rfl⟩
abbrev main_v93 : Ref sig .tc := ⟨.hbm, 134, rfl⟩
abbrev main_v94 : Ref sig .tc := ⟨.hbm, 135, rfl⟩
abbrev main_c_18 : Ref sig .tc := ⟨.hbm, 136, rfl⟩
abbrev main_c_19 : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_v95 : Ref sig .tc := ⟨.hbm, 143, rfl⟩
abbrev main_call4_v0 : Ref sig .tc := ⟨.hbm, 144, rfl⟩
abbrev main_v96 : Ref sig .tc := ⟨.hbm, 145, rfl⟩
abbrev main_call5_v0 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_20 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_21 : Ref sig .tc := ⟨.hbm, 162, rfl⟩
abbrev main_call6_v0 : Ref sig .tc := ⟨.hbm, 163, rfl⟩
abbrev main_call6_v1 : Ref sig .tc := ⟨.hbm, 164, rfl⟩
abbrev main_call6_v2 : Ref sig .tc := ⟨.hbm, 165, rfl⟩
abbrev main_v111 : Ref sig .tc := ⟨.hbm, 166, rfl⟩
abbrev main_v112 : Ref sig .tc := ⟨.hbm, 167, rfl⟩
abbrev main_cst_22 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_cst_23 : Ref sig .tc := ⟨.hbm, 173, rfl⟩
abbrev main_v117 : Ref sig .tc := ⟨.hbm, 174, rfl⟩
abbrev main_cst_24 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_25 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩

abbrev nD : Nat := 1
abbrev τ : Topo := Topo.v7x

variable {F : FTy → Type} [FloatOps F]
-- ==== Kernel2.lean ====
abbrev S32768x2048 : Shape := ⟨2, ![32768, 2048]⟩
abbrev S2048 : Shape := ⟨1, ![2048]⟩
abbrev S8x1x2048 : Shape := ⟨3, ![8, 1, 2048]⟩
abbrev S2048x8192 : Shape := ⟨2, ![2048, 8192]⟩
abbrev S1x2048 : Shape := ⟨2, ![1, 2048]⟩
abbrev S32768x8192 : Shape := ⟨2, ![32768, 8192]⟩
abbrev S512x2048 : Shape := ⟨2, ![512, 2048]⟩
abbrev S1x1x2048 : Shape := ⟨3, ![1, 1, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x8192, .f32⟩
  | .hbm, ⟨5, _⟩ => ⟨S1x2048, .f32⟩
  | .hbm, ⟨6, _⟩ => ⟨S2048x8192, .bf16⟩
  | .hbm, ⟨7, _⟩ => ⟨S32768x8192, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x2048, .bf16⟩
  | .local _ .vmem, ⟨8, _⟩ => ⟨S2048x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S32768x2048 : Shape := ⟨2, ![32768, 2048]⟩
abbrev S2048 : Shape := ⟨1, ![2048]⟩
abbrev S8x1x2048 : Shape := ⟨3, ![8, 1, 2048]⟩
abbrev S2048x8192 : Shape := ⟨2, ![2048, 8192]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x8192 : Shape := ⟨3, ![8, 4096, 8192]⟩
abbrev S32768x8192 : Shape := ⟨2, ![32768, 8192]⟩

abbrev nBuf : Space → Nat
  | .hbm => 36
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x8192, .f32⟩
  | .hbm, ⟨5, _⟩ => ⟨S8x4096x2048, .f32⟩
  | .hbm, ⟨6, _⟩ => ⟨S8x4096x2048, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x2048, .f32⟩
  | .hbm, ⟨18, _⟩ => ⟨S8x4096x2048, .f32⟩
  | .hbm, ⟨19, _⟩ => ⟨S1x1x2048, .f32⟩
  | .hbm, ⟨20, _⟩ => ⟨S8x4096x2048, .f32⟩
  | .hbm, ⟨21, _⟩ => ⟨S8x4096x2048, .f32⟩
  | .hbm, ⟨22, _⟩ => ⟨S_, .f32⟩
  | .hbm, ⟨23, _⟩ => ⟨S8x1x2048, .f32⟩
  | .hbm, ⟨24, _⟩ => ⟨S8x1x2048, .f32⟩
  | .hbm, ⟨25, _⟩ => ⟨S8x4096x2048, .f32⟩
  | .hbm, ⟨26, _⟩ => ⟨S8x4096x2048, .f32⟩
  | .hbm, ⟨27, _⟩ => ⟨S8x4096x2048, .f32⟩
  | .hbm, ⟨28, _⟩ => ⟨S8x4096x2048, .f32⟩
  | .hbm, ⟨29, _⟩ => ⟨S8x4096x8192, .f32⟩
  | .hbm, ⟨30, _⟩ => ⟨S_, .f32⟩
  | .hbm, ⟨31, _⟩ => ⟨S8x4096x8192, .f32⟩
  | .hbm, ⟨32, _⟩ => ⟨S8x4096x8192, .f32⟩
  | .hbm, ⟨33, _⟩ => ⟨S8x4096x8192, .f32⟩
  | .hbm, ⟨34, _⟩ => ⟨S32768x8192, .f32⟩
  | .hbm, ⟨35, _⟩ => ⟨S32768x8192, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_cst : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel3.lean ====
abbrev S32768x8192 : Shape := ⟨2, ![32768, 8192]⟩
abbrev S8192x2048 : Shape := ⟨2, ![8192, 2048]⟩
abbrev S8x1x2048 : Shape := ⟨3, ![8, 1, 2048]⟩
abbrev S32768x2048 : Shape := ⟨2, ![32768, 2048]⟩
abbrev S512x8192 : Shape := ⟨2, ![512, 8192]⟩
abbrev S8192x512 : Shape := ⟨2, ![8192, 512]⟩
abbrev S1x1x512 : Shape := ⟨3, ![1, 1, 512]⟩
abbrev S512x512 : Shape := ⟨2, ![512, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S32768x8192, .bf16⟩
  | .hbm, ⟨1, _⟩ => ⟨S8192x2048, .f32⟩
  | .hbm, ⟨2, _⟩ => ⟨S8x1x2048, .f32⟩
  | .hbm, ⟨3, _⟩ => ⟨S32768x2048, .f32⟩
  | .hbm, ⟨4, _⟩ => ⟨S8192x2048, .bf16⟩
  | .hbm, ⟨5, _⟩ => ⟨S32768x2048, .f32⟩
  | .local _ .vmem, ⟨0, _⟩ => ⟨S512x8192, .bf16⟩
  | .local _ .vmem, ⟨1, _⟩ => ⟨S512x8192, .bf16⟩
  | .local _ .vmem, ⟨2, _⟩ => ⟨S8192x512, .bf16⟩
  | .local _ .vmem, ⟨3, _⟩ => ⟨S8192x512, .bf16⟩
  | .local _ .vmem, ⟨4, _⟩ => ⟨S1x1x512, .f32⟩
  | .local _ .vmem, ⟨5, _⟩ => ⟨S1x1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | _, _ => ⟨S32768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S32768x8192 : Shape := ⟨2, ![32768, 8192]⟩
abbrev S8192x2048 : Shape := ⟨2, ![8192, 2048]⟩
abbrev S8x1x2048 : Shape := ⟨3, ![8, 1, 2048]⟩
abbrev S32768x2048 : Shape := ⟨2, ![32768, 2048]⟩
abbrev S8x4096x8192 : Shape := ⟨3, ![8, 4096, 8192]⟩
abbrev S8x4096x2048 : Shape := ⟨3, ![8, 4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S32768x8192, .bf16⟩
  | .hbm, ⟨1, _⟩ => ⟨S8192x2048, .f32⟩
  | .hbm, ⟨2, _⟩ => ⟨S8x1x2048, .f32⟩
  | .hbm, ⟨3, _⟩ => ⟨S32768x2048, .f32⟩
  | .hbm, ⟨4, _⟩ => ⟨S32768x8192, .f32⟩
  | .hbm, ⟨5, _⟩ => ⟨S8x4096x8192, .f32⟩
  | .hbm, ⟨6, _⟩ => ⟨S8x4096x2048, .f32⟩
  | .hbm, ⟨7, _⟩ => ⟨S8x4096x2048, .f32⟩
  | .hbm, ⟨8, _⟩ => ⟨S8x4096x2048, .f32⟩
  | .hbm, ⟨9, _⟩ => ⟨S8x4096x2048, .f32⟩
  | .hbm, ⟨10, _⟩ => ⟨S8x4096x2048, .f32⟩
  | .hbm, ⟨11, _⟩ => ⟨S32768x2048, .f32⟩
  | _, _ => ⟨S32768x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel4.lean ====
abbrev S32768x2048 : Shape := ⟨2, ![32768, 2048]⟩
abbrev S2048x2048 : Shape := ⟨2, ![2048, 2048]⟩
abbrev S8x1x2048 : Shape := ⟨3, ![8, 1, 2048]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 6
  | .vmem => 9
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S8x1x2048, .f32⟩
  | .hbm, ⟨3, _⟩ => ⟨S32768x2048, .f32⟩
  | .hbm, ⟨4, _⟩ => ⟨S2048x2048, .bf16⟩
  | .hbm, ⟨5, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x1x2048, .f32⟩
  | .local _ .vmem, ⟨4, _⟩ => ⟨S1x1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S32768x2048 : Shape := ⟨2, ![32768, 2048]⟩
abbrev S2048x2048 : Shape := ⟨2, ![2048, 2048]⟩
abbrev S8x1x2048 : Shape := ⟨3, ![8, 1, 2048]⟩
abbrev S8x4096x2048 : Shape := ⟨3, ![8, 4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S8x1x2048, .f32⟩
  | .hbm, ⟨3, _⟩ => ⟨S32768x2048, .f32⟩
  | .hbm, ⟨4, _⟩ => ⟨S32768x2048, .f32⟩
  | .hbm, ⟨5, _⟩ => ⟨S8x4096x2048, .f32⟩
  | .hbm, ⟨6, _⟩ => ⟨S8x4096x2048, .f32⟩
  | .hbm, ⟨7, _⟩ => ⟨S8x4096x2048, .f32⟩
  | .hbm, ⟨8, _⟩ => ⟨S8x4096x2048, .f32⟩
  | .hbm, ⟨9, _⟩ => ⟨S8x4096x2048, .f32⟩
  | .hbm, ⟨10, _⟩ => ⟨S8x4096x2048, .f32⟩
  | .hbm, ⟨11, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel5.lean ====
abbrev S32768x1024 : Shape := ⟨2, ![32768, 1024]⟩
abbrev S32768x15360 : Shape := ⟨2, ![32768, 15360]⟩
abbrev S256 : Shape := ⟨1, ![256]⟩
abbrev S1024x2048 : Shape := ⟨2, ![1024, 2048]⟩
abbrev S1x256 : Shape := ⟨2, ![1, 256]⟩
abbrev S32768x2048 : Shape := ⟨2, ![32768, 2048]⟩
abbrev S256x1024 : Shape := ⟨2, ![256, 1024]⟩
abbrev S256x2048 : Shape := ⟨2, ![256, 2048]⟩
abbrev S256x256 : Shape := ⟨2, ![256, 256]⟩
abbrev S256x1 : Shape := ⟨2, ![256, 1]⟩

abbrev nBuf : Space → Nat
  | .hbm => 14
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x15360, .f32⟩
  | .hbm, ⟨3, _⟩ => ⟨S256, .f32⟩
  | .hbm, ⟨4, _⟩ => ⟨S32768x1024, .f32⟩
  | .hbm, ⟨5, _⟩ => ⟨S32768x1024, .bf16⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1x256, .f32⟩
  | .hbm, ⟨10, _⟩ => ⟨S1024x2048, .bf16⟩
  | .hbm, ⟨11, _⟩ => ⟨S1024x2048, .bf16⟩
  | .hbm, ⟨12, _⟩ => ⟨S1024x2048, .bf16⟩
  | .hbm, ⟨13, _⟩ => ⟨S32768x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x256, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S1024x2048, .bf16⟩
  | .local _ .vmem, ⟨18, _⟩ => ⟨S1024x2048, .bf16⟩
  | .local _ .vmem, ⟨19, _⟩ => ⟨S1024x2048, .bf16⟩
  | .local _ .vmem, ⟨20, _⟩ => ⟨S256x2048, .bf16⟩
  | .local _ .vmem, ⟨21, _⟩ => ⟨S256x2048, .bf16⟩
  | .local _ .vmem, ⟨22, _⟩ => ⟨S256x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![128, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let c0_i32_0 : BitVec 32 := 0#32
  ![v0.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let v1 : BitVec 32 := Scalar.addi c3_i32 arg1
  let c0_i32_0 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c5_i32 : BitVec 32 := 5#32
  let v1 : BitVec 32 := Scalar.addi c5_i32 arg1
  let c0_i32_0 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference5Ideal.lean ====
abbrev S32768x1024 : Shape := ⟨2, ![32768, 1024]⟩
abbrev S32768x15360 : Shape := ⟨2, ![32768, 15360]⟩
abbrev S256 : Shape := ⟨1, ![256]⟩
abbrev S1024x2048 : Shape := ⟨2, ![1024, 2048]⟩
abbrev S8x4096x4x256 : Shape := ⟨4, ![8, 4096, 4, 256]⟩
abbrev S_ : Shape := ⟨0, ![]⟩
abbrev S8x4096x4 : Shape := ⟨3, ![8, 4096, 4]⟩
abbrev S8x4096x4x1 : Shape := ⟨4, ![8, 4096, 4, 1]⟩
abbrev S1x1x1x256 : Shape := ⟨4, ![1, 1, 1, 256]⟩
abbrev S8x4096x1024 : Shape := ⟨3, ![8, 4096, 1024]⟩
abbrev S32768x6144 : Shape := ⟨2, ![32768, 6144]⟩
abbrev S8x4096x6144 : Shape := ⟨3, ![8, 4096, 6144]⟩
abbrev S8x4096x2048 : Shape := ⟨3, ![8, 4096, 2048]⟩
abbrev S32768x2048 : Shape := ⟨2, ![32768, 2048]⟩

abbrev nBuf : Space → Nat
  | .hbm => 66
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x15360, .f32⟩
  | .hbm, ⟨3, _⟩ => ⟨S256, .f32⟩
  | .hbm, ⟨4, _⟩ => ⟨S32768x1024, .f32⟩
  | .hbm, ⟨5, _⟩ => ⟨S32768x1024, .bf16⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S32768x1024, .f32⟩
  | .hbm, ⟨10, _⟩ => ⟨S8x4096x4x256, .f32⟩
  | .hbm, ⟨11, _⟩ => ⟨S8x4096x4x256, .f32⟩
  | .hbm, ⟨12, _⟩ => ⟨S_, .f32⟩
  | .hbm, ⟨13, _⟩ => ⟨S8x4096x4, .f32⟩
  | .hbm, ⟨14, _⟩ => ⟨S8x4096x4x1, .f32⟩
  | .hbm, ⟨15, _⟩ => ⟨S_, .f32⟩
  | .hbm, ⟨16, _⟩ => ⟨S8x4096x4x1, .f32⟩
  | .hbm, ⟨17, _⟩ => ⟨S8x4096x4x1, .f32⟩
  | .hbm, ⟨18, _⟩ => ⟨S_, .f32⟩
  | .hbm, ⟨19, _⟩ => ⟨S8x4096x4x1, .f32⟩
  | .hbm, ⟨20, _⟩ => ⟨S8x4096x4x1, .f32⟩
  | .hbm, ⟨21, _⟩ => ⟨S8x4096x4x1, .f32⟩
  | .hbm, ⟨22, _⟩ => ⟨S8x4096x4x256, .f32⟩
  | .hbm, ⟨23, _⟩ => ⟨S8x4096x4x256, .f32⟩
  | .hbm, ⟨24, _⟩ => ⟨S1x1x1x256, .f32⟩
  | .hbm, ⟨25, _⟩ => ⟨S8x4096x4x256, .f32⟩
  | .hbm, ⟨26, _⟩ => ⟨S8x4096x4x256, .f32⟩
  | .hbm, ⟨27, _⟩ => ⟨S8x4096x1024, .f32⟩
  | .hbm, ⟨28, _⟩ => ⟨S32768x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S32768x1024, .f32⟩
  | .hbm, ⟨42, _⟩ => ⟨S8x4096x1024, .f32⟩
  | .hbm, ⟨43, _⟩ => ⟨S32768x6144, .f32⟩
  | .hbm, ⟨44, _⟩ => ⟨S8x4096x6144, .f32⟩
  | .hbm, ⟨45, _⟩ => ⟨S8x4096x6144, .f32⟩
  | .hbm, ⟨46, _⟩ => ⟨S8x4096x6144, .f32⟩
  | .hbm, ⟨47, _⟩ => ⟨S_, .f32⟩
  | .hbm, ⟨48, _⟩ => ⟨S8x4096x6144, .f32⟩
  | .hbm, ⟨49, _⟩ => ⟨S8x4096x6144, .f32⟩
  | .hbm, ⟨50, _⟩ => ⟨S_, .f32⟩
  | .hbm, ⟨51, _⟩ => ⟨S8x4096x6144, .f32⟩
  | .hbm, ⟨52, _⟩ => ⟨S8x4096x6144, .f32⟩
  | .hbm, ⟨53, _⟩ => ⟨S8x4096x2048, .f32⟩
  | .hbm, ⟨54, _⟩ => ⟨S8x4096x2048, .f32⟩
  | .hbm, ⟨55, _⟩ => ⟨S8x4096x2048, .f32⟩
  | .hbm, ⟨56, _⟩ => ⟨S8x4096x2048, .f32⟩
  | .hbm, ⟨57, _⟩ => ⟨S8x4096x2048, .f32⟩
  | .hbm, ⟨58, _⟩ => ⟨S8x4096x2048, .f32⟩
  | .hbm, ⟨59, _⟩ => ⟨S8x4096x2048, .f32⟩
  | .hbm, ⟨60, _⟩ => ⟨S8x4096x2048, .f32⟩
  | .hbm, ⟨61, _⟩ => ⟨S8x4096x2048, .f32⟩
  | .hbm, ⟨62, _⟩ => ⟨S8x4096x2048, .f32⟩
  | .hbm, ⟨63, _⟩ => ⟨S8x4096x2048, .f32⟩
  | .hbm, ⟨64, _⟩ => ⟨S32768x2048, .f32⟩
  | .hbm, ⟨65, _⟩ => ⟨S32768x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]
-- ==== Kernel6.lean ====
abbrev S32768x2048 : Shape := ⟨2, ![32768, 2048]⟩
abbrev S2048 : Shape := ⟨1, ![2048]⟩
abbrev S8x1x2048 : Shape := ⟨3, ![8, 1, 2048]⟩
abbrev S2048x15392 : Shape := ⟨2, ![2048, 15392]⟩
abbrev S2x16x512 : Shape := ⟨3, ![2, 16, 512]⟩
abbrev S2x512 : Shape := ⟨2, ![2, 512]⟩
abbrev S2048x3072 : Shape := ⟨2, ![2048, 3072]⟩
abbrev S2048x6144 : Shape := ⟨2, ![2048, 6144]⟩
abbrev S2048x15360 : Shape := ⟨2, ![2048, 15360]⟩
abbrev S2048x32 : Shape := ⟨2, ![2048, 32]⟩
abbrev S_ : Shape := ⟨0, ![]⟩
abbrev S2048x128 : Shape := ⟨2, ![2048, 128]⟩
abbrev S128x1024 : Shape := ⟨2, ![128, 1024]⟩
abbrev S1x16x512 : Shape := ⟨3, ![1, 16, 512]⟩
abbrev S16x512 : Shape := ⟨2, ![16, 512]⟩
abbrev S1 : Shape := ⟨1, ![1]⟩
abbrev S2 : Shape := ⟨1, ![2]⟩
abbrev S1x2048 : Shape := ⟨2, ![1, 2048]⟩
abbrev S1x1024 : Shape := ⟨2, ![1, 1024]⟩
abbrev S32768x15360 : Shape := ⟨2, ![32768, 15360]⟩
abbrev S32768x1024 : Shape := ⟨2, ![32768, 1024]⟩
abbrev S512x2048 : Shape := ⟨2, ![512, 2048]⟩
abbrev S1x1x2048 : Shape := ⟨3, ![1, 1, 2048]⟩
abbrev S2048x1536 : Shape := ⟨2, ![2048, 1536]⟩
abbrev S512x1536 : Shape := ⟨2, ![512, 1536]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩

abbrev nBuf : Space → Nat
  | .hbm => 41
  | .vmem => 17
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x15392, .f32⟩
  | .hbm, ⟨5, _⟩ => ⟨S2x16x512, .f32⟩
  | .hbm, ⟨6, _⟩ => ⟨S2x512, .f32⟩
  | .hbm, ⟨7, _⟩ => ⟨S2048x3072, .f32⟩
  | .hbm, ⟨8, _⟩ => ⟨S2048x3072, .f32⟩
  | .hbm, ⟨9, _⟩ => ⟨S2048x6144, .f32⟩
  | .hbm, ⟨10, _⟩ => ⟨S2048x3072, .f32⟩
  | .hbm, ⟨11, _⟩ => ⟨S2048x15360, .f32⟩
  | .hbm, ⟨12, _⟩ => ⟨S2048x15360, .bf16⟩
  | .hbm, ⟨13, _⟩ => ⟨S2048x32, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S2048x128, .bf16⟩
  | .hbm, ⟨18, _⟩ => ⟨S_, .f32⟩
  | .hbm, ⟨19, _⟩ => ⟨S128x1024, .f32⟩
  | .hbm, ⟨20, _⟩ => ⟨S1x16x512, .f32⟩
  | .hbm, ⟨21, _⟩ => ⟨S16x512, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S128x1024, .f32⟩
  | .hbm, ⟨28, _⟩ => ⟨S1x16x512, .f32⟩
  | .hbm, ⟨29, _⟩ => ⟨S16x512, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S128x1024, .f32⟩
  | .hbm, ⟨36, _⟩ => ⟨S1x2048, .f32⟩
  | .hbm, ⟨37, _⟩ => ⟨S128x1024, .bf16⟩
  | .hbm, ⟨38, _⟩ => ⟨S1x1024, .f32⟩
  | .hbm, ⟨39, _⟩ => ⟨S32768x15360, .f32⟩
  | .hbm, ⟨40, _⟩ => ⟨S32768x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1536, .bf16⟩
  | .local _ .vmem, ⟨8, _⟩ => ⟨S2048x1536, .bf16⟩
  | .local _ .vmem, ⟨9, _⟩ => ⟨S2048x128, .bf16⟩
  | .local _ .vmem, ⟨10, _⟩ => ⟨S128x1024, .bf16⟩
  | .local _ .vmem, ⟨11, _⟩ => ⟨S1x1024, .f32⟩
  | .local _ .vmem, ⟨12, _⟩ => ⟨S512x1536, .f32⟩
  | .local _ .vmem, ⟨13, _⟩ => ⟨S512x1536, .f32⟩
  | .local _ .vmem, ⟨14, _⟩ => ⟨S512x1024, .f32⟩
  | .local _ .vmem, ⟨15, _⟩ => ⟨S512x1024, .f32⟩
  | .local _ .vmem, ⟨16, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![64, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference6Ideal.lean ====
abbrev S32768x2048 : Shape := ⟨2, ![32768, 2048]⟩
abbrev S2048 : Shape := ⟨1, ![2048]⟩
abbrev S8x1x2048 : Shape := ⟨3, ![8, 1, 2048]⟩
abbrev S2048x15392 : Shape := ⟨2, ![2048, 15392]⟩
abbrev S2x16x512 : Shape := ⟨3, ![2, 16, 512]⟩
abbrev S2x512 : Shape := ⟨2, ![2, 512]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x15392 : Shape := ⟨3, ![8, 4096, 15392]⟩
abbrev S8x4096x3072 : Shape := ⟨3, ![8, 4096, 3072]⟩
abbrev S8x4096x32 : Shape := ⟨3, ![8, 4096, 32]⟩
abbrev S8x4096x6144 : Shape := ⟨3, ![8, 4096, 6144]⟩
abbrev S8x4096x2x16 : Shape := ⟨4, ![8, 4096, 2, 16]⟩
abbrev S2x512x8x4096 : Shape := ⟨4, ![2, 512, 8, 4096]⟩
abbrev S8x4096x2x512 : Shape := ⟨4, ![8, 4096, 2, 512]⟩
abbrev S1x1x2x512 : Shape := ⟨4, ![1, 1, 2, 512]⟩
abbrev S8x4096x15360 : Shape := ⟨3, ![8, 4096, 15360]⟩
abbrev S32768x15360 : Shape := ⟨2, ![32768, 15360]⟩
abbrev S32768x1024 : Shape := ⟨2, ![32768, 1024]⟩

abbrev nBuf : Space → Nat
  | .hbm => 65
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x15392, .f32⟩
  | .hbm, ⟨5, _⟩ => ⟨S2x16x512, .f32⟩
  | .hbm, ⟨6, _⟩ => ⟨S2x512, .f32⟩
  | .hbm, ⟨7, _⟩ => ⟨S8x4096x2048, .f32⟩
  | .hbm, ⟨8, _⟩ => ⟨S8x4096x2048, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x2048, .f32⟩
  | .hbm, ⟨20, _⟩ => ⟨S8x4096x2048, .f32⟩
  | .hbm, ⟨21, _⟩ => ⟨S1x1x2048, .f32⟩
  | .hbm, ⟨22, _⟩ => ⟨S8x4096x2048, .f32⟩
  | .hbm, ⟨23, _⟩ => ⟨S8x4096x2048, .f32⟩
  | .hbm, ⟨24, _⟩ => ⟨S_, .f32⟩
  | .hbm, ⟨25, _⟩ => ⟨S8x1x2048, .f32⟩
  | .hbm, ⟨26, _⟩ => ⟨S8x1x2048, .f32⟩
  | .hbm, ⟨27, _⟩ => ⟨S8x4096x2048, .f32⟩
  | .hbm, ⟨28, _⟩ => ⟨S8x4096x2048, .f32⟩
  | .hbm, ⟨29, _⟩ => ⟨S8x4096x2048, .f32⟩
  | .hbm, ⟨30, _⟩ => ⟨S8x4096x2048, .f32⟩
  | .hbm, ⟨31, _⟩ => ⟨S8x4096x15392, .f32⟩
  | .hbm, ⟨32, _⟩ => ⟨S8x4096x3072, .f32⟩
  | .hbm, ⟨33, _⟩ => ⟨S8x4096x32, .f32⟩
  | .hbm, ⟨34, _⟩ => ⟨S8x4096x3072, .f32⟩
  | .hbm, ⟨35, _⟩ => ⟨S8x4096x3072, .f32⟩
  | .hbm, ⟨36, _⟩ => ⟨S8x4096x6144, .f32⟩
  | .hbm, ⟨37, _⟩ => ⟨S8x4096x2x16, .f32⟩
  | .hbm, ⟨38, _⟩ => ⟨S2x512x8x4096, .f32⟩
  | .hbm, ⟨39, _⟩ => ⟨S8x4096x2x512, .f32⟩
  | .hbm, ⟨40, _⟩ => ⟨S1x1x2x512, .f32⟩
  | .hbm, ⟨41, _⟩ => ⟨S8x4096x2x512, .f32⟩
  | .hbm, ⟨42, _⟩ => ⟨S8x4096x2x512, .f32⟩
  | .hbm, ⟨43, _⟩ => ⟨S8x4096x2x512, .f32⟩
  | .hbm, ⟨44, _⟩ => ⟨S_, .f32⟩
  | .hbm, ⟨45, _⟩ => ⟨S8x4096x2x512, .f32⟩
  | .hbm, ⟨46, _⟩ => ⟨S8x4096x2x512, .f32⟩
  | .hbm, ⟨47, _⟩ => ⟨S8x4096x2x512, .f32⟩
  | .hbm, ⟨48, _⟩ => ⟨S8x4096x2x512, .f32⟩
  | .hbm, ⟨49, _⟩ => ⟨S8x4096x2x512, .i1⟩
  | .hbm, ⟨50, _⟩ => ⟨S8x4096x2x512, .f32⟩
  | .hbm, ⟨51, _⟩ => ⟨S8x4096x2x512, .f32⟩
  | .hbm, ⟨52, _⟩ => ⟨S8x4096x2x512, .f32⟩
  | .hbm, ⟨53, _⟩ => ⟨S8x4096x2x512, .f32⟩
  | .hbm, ⟨54, _⟩ => ⟨S8x4096x2x512, .f32⟩
  | .hbm, ⟨55, _⟩ => ⟨S8x4096x2x512, .f32⟩
  | .hbm, ⟨56, _⟩ => ⟨S8x4096x2x512, .f32⟩
  | .hbm, ⟨57, _⟩ => ⟨S8x4096x2x512, .f32⟩
  | .hbm, ⟨58, _⟩ => ⟨S8x4096x2x512, .f32⟩
  | .hbm, ⟨59, _⟩ => ⟨S_, .f32⟩
  | .hbm, ⟨60, _⟩ => ⟨S8x4096x2x512, .f32⟩
  | .hbm, ⟨61, _⟩ => ⟨S8x4096x2x512, .f32⟩
  | .hbm, ⟨62, _⟩ => ⟨S8x4096x15360, .f32⟩
  | .hbm, ⟨63, _⟩ => ⟨S32768x15360, .f32⟩
  | .hbm, ⟨64, _⟩ => ⟨S32768x1024, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_call0_cst : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_call0_v2 : Ref sig .tc := ⟨.hbm, 47, rfl⟩
abbrev main_call0_call0_v3 : Ref sig .tc := ⟨.hbm, 48, rfl⟩
abbrev main_call0_call0_v4 : Ref sig .tc := ⟨.hbm, 49, rfl⟩
abbrev main_call0_call0_v5 : Ref sig .tc := ⟨.hbm, 50, rfl⟩
abbrev main_call0_call0_v6 : Ref sig .tc := ⟨.hbm, 51, rfl⟩
abbrev main_call0_call0_v7 : Ref sig .tc := ⟨.hbm, 52, rfl⟩
abbrev main_call0_call0_v8 : Ref sig .tc := ⟨.hbm, 53, rfl⟩
abbrev main_call0_call0_v9 : Ref sig .tc := ⟨.hbm, 54, rfl⟩
abbrev main_call0_call0_v10 : Ref sig .tc := ⟨.hbm, 55, rfl⟩
abbrev main_call0_call0_v11 : Ref sig .tc := ⟨.hbm, 56, rfl⟩
abbrev main_call0_v1 : Ref sig .tc := ⟨.hbm, 57, rfl⟩
abbrev main_v32 : Ref sig .tc := ⟨.hbm, 58, rfl⟩
abbrev main_cst_3 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩

abbrev nD : Nat := 1
abbrev τ : Topo := Topo.v7x

variable {F : FTy → Type} [FloatOps F]
-- ==== Kernel7.lean ====
abbrev S8192x15360 : Shape := ⟨2, ![8192, 15360]⟩
abbrev S128 : Shape := ⟨1, ![128]⟩
abbrev S1x128 : Shape := ⟨2, ![1, 128]⟩
abbrev S8192x1024 : Shape := ⟨2, ![8192, 1024]⟩
abbrev S32x8x256x128 : Shape := ⟨4, ![32, 8, 256, 128]⟩
abbrev S256x1024 : Shape := ⟨2, ![256, 1024]⟩
abbrev S1x8x256x128 : Shape := ⟨4, ![1, 8, 256, 128]⟩
abbrev S256x128 : Shape := ⟨2, ![256, 128]⟩
abbrev S256 : Shape := ⟨1, ![256]⟩
abbrev S256x1 : Shape := ⟨2, ![256, 1]⟩
abbrev S1x1x256x128 : Shape := ⟨4, ![1, 1, 256, 128]⟩
abbrev S256x256 : Shape := ⟨2, ![256, 256]⟩

abbrev nBuf : Space → Nat
  | .hbm => 8
  | .vmem => 14
  | .smem => 0
  | _ => 0

abbrev bufTy : (tb : Table) → Fin (tcTables nBuf tb) → BufTy
  | .hbm, ⟨0, _⟩ => ⟨S8192x15360, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S8192x1024, .f32⟩
  | .hbm, ⟨6, _⟩ => ⟨S32x8x256x128, .f32⟩
  | .hbm, ⟨7, _⟩ => ⟨S32x8x256x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | .local _ .vmem, ⟨7, _⟩ => ⟨S1x128, .f32⟩
  | .local _ .vmem, ⟨8, _⟩ => ⟨S256x1024, .f32⟩
  | .local _ .vmem, ⟨9, _⟩ => ⟨S256x1024, .f32⟩
  | .local _ .vmem, ⟨10, _⟩ => ⟨S1x8x256x128, .f32⟩
  | .local _ .vmem, ⟨11, _⟩ => ⟨S1x8x256x128, .f32⟩
  | .local _ .vmem, ⟨12, _⟩ => ⟨S1x8x256x128, .f32⟩
  | .local _ .vmem, ⟨13, _⟩ => ⟨S1x8x256x128, .f32⟩
  | _, _ => ⟨S8192x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S8192x15360 : Shape := ⟨2, ![8192, 15360]⟩
abbrev S128 : Shape := ⟨1, ![128]⟩
abbrev S8192x1024 : Shape := ⟨2, ![8192, 1024]⟩
abbrev S32x256x8x128 : Shape := ⟨4, ![32, 256, 8, 128]⟩
abbrev S32x8x256x128 : Shape := ⟨4, ![32, 8, 256, 128]⟩
abbrev S_ : Shape := ⟨0, ![]⟩
abbrev S32x8x256 : Shape := ⟨3, ![32, 8, 256]⟩
abbrev S32x8x256x1 : Shape := ⟨4, ![32, 8, 256, 1]⟩
abbrev S1x1x1x128 : Shape := ⟨4, ![1, 1, 1, 128]⟩
abbrev S32x8x256x256 : Shape := ⟨4, ![32, 8, 256, 256]⟩

abbrev nBuf : Space → Nat
  | .hbm => 65
  | .vmem => 0
  | .smem => 0
  | _ => 0

abbrev bufTy : (tb : Table) → Fin (tcTables nBuf tb) → BufTy
  | .hbm, ⟨0, _⟩ => ⟨S8192x15360, .f32⟩
  | .hbm, ⟨1, _⟩ => ⟨S128, .f32⟩
  | .hbm, ⟨2, _⟩ => ⟨S128, .f32⟩
  | .hbm, ⟨3, _⟩ => ⟨S8192x1024, .f32⟩
  | .hbm, ⟨4, _⟩ => ⟨S32x256x8x128, .f32⟩
  | .hbm, ⟨5, _⟩ => ⟨S32x8x256x128, .f32⟩
  | .hbm, ⟨6, _⟩ => ⟨S32x8x256x128, .f32⟩
  | .hbm, ⟨7, _⟩ => ⟨S_, .f32⟩
  | .hbm, ⟨8, _⟩ => ⟨S32x8x256, .f32⟩
  | .hbm, ⟨9, _⟩ => ⟨S32x8x256x1, .f32⟩
  | .hbm, ⟨10, _⟩ => ⟨S_, .f32⟩
  | .hbm, ⟨11, _⟩ => ⟨S32x8x256x1, .f32⟩
  | .hbm, ⟨12, _⟩ => ⟨S32x8x256x1, .f32⟩
  | .hbm, ⟨13, _⟩ => ⟨S_, .f32⟩
  | .hbm, ⟨14, _⟩ => ⟨S32x8x256x1, .f32⟩
  | .hbm, ⟨15, _⟩ => ⟨S32x8x256x1, .f32⟩
  | .hbm, ⟨16, _⟩ => ⟨S32x8x256x1, .f32⟩
  | .hbm, ⟨17, _⟩ => ⟨S32x8x256x128, .f32⟩
  | .hbm, ⟨18, _⟩ => ⟨S32x8x256x128, .f32⟩
  | .hbm, ⟨19, _⟩ => ⟨S1x1x1x128, .f32⟩
  | .hbm, ⟨20, _⟩ => ⟨S32x8x256x128, .f32⟩
  | .hbm, ⟨21, _⟩ => ⟨S32x8x256x128, .f32⟩
  | .hbm, ⟨22, _⟩ => ⟨S8192x1024, .f32⟩
  | .hbm, ⟨23, _⟩ => ⟨S32x256x8x128, .f32⟩
  | .hbm, ⟨24, _⟩ => ⟨S32x8x256x128, .f32⟩
  | .hbm, ⟨25, _⟩ => ⟨S32x8x256x128, .f32⟩
  | .hbm, ⟨26, _⟩ => ⟨S_, .f32⟩
  | .hbm, ⟨27, _⟩ => ⟨S32x8x256, .f32⟩
  | .hbm, ⟨28, _⟩ => ⟨S32x8x256x1, .f32⟩
  | .hbm, ⟨29, _⟩ => ⟨S_, .f32⟩
  | .hbm, ⟨30, _⟩ => ⟨S32x8x256x1, .f32⟩
  | .hbm, ⟨31, _⟩ => ⟨S32x8x256x1, .f32⟩
  | .hbm, ⟨32, _⟩ => ⟨S_, .f32⟩
  | .hbm, ⟨33, _⟩ => ⟨S32x8x256x1, .f32⟩
  | .hbm, ⟨34, _⟩ => ⟨S32x8x256x1, .f32⟩
  | .hbm, ⟨35, _⟩ => ⟨S32x8x256x1, .f32⟩
  | .hbm, ⟨36, _⟩ => ⟨S32x8x256x128, .f32⟩
  | .hbm, ⟨37, _⟩ => ⟨S32x8x256x128, .f32⟩
  | .hbm, ⟨38, _⟩ => ⟨S1x1x1x128, .f32⟩
  | .hbm, ⟨39, _⟩ => ⟨S32x8x256x128, .f32⟩
  | .hbm, ⟨40, _⟩ => ⟨S32x8x256x128, .f32⟩
  | .hbm, ⟨41, _⟩ => ⟨S8192x1024, .f32⟩
  | .hbm, ⟨42, _⟩ => ⟨S32x256x8x128, .f32⟩
  | .hbm, ⟨43, _⟩ => ⟨S32x8x256x128, .f32⟩
  | .hbm, ⟨44, _⟩ => ⟨S32x8x256x256, .f32⟩
  | .hbm, ⟨45, _⟩ => ⟨S_, .f32⟩
  | .hbm, ⟨46, _⟩ => ⟨S32x8x256x256, .f32⟩
  | .hbm, ⟨47, _⟩ => ⟨S32x8x256x256, .f32⟩
  | .hbm, ⟨48, _⟩ => ⟨S_, .f32⟩
  | .hbm, ⟨49, _⟩ => ⟨S32x8x256, .f32⟩
  | .hbm, ⟨50, _⟩ => ⟨S_, .f32⟩
  | .hbm, ⟨51, _⟩ => ⟨S32x8x256, .f32⟩
  | .hbm, ⟨52, _⟩ => ⟨S32x8x256, .f32⟩
  | .hbm, ⟨53, _⟩ => ⟨S32x8x256x1, .f32⟩
  | .hbm, ⟨54, _⟩ => ⟨S32x8x256x256, .f32⟩
  | .hbm, ⟨55, _⟩ => ⟨S32x8x256x256, .f32⟩
  | .hbm, ⟨56, _⟩ => ⟨S32x8x256x256, .f32⟩
  | .hbm, ⟨57, _⟩ => ⟨S_, .f32⟩
  | .hbm, ⟨58, _⟩ => ⟨S32x8x256, .f32⟩
  | .hbm, ⟨59, _⟩ => ⟨S32x8x256x1, .f32⟩
  | .hbm, ⟨60, _⟩ => ⟨S32x8x256x256, .f32⟩
  | .hbm, ⟨61, _⟩ => ⟨S32x8x256x256, .f32⟩
  | .hbm, ⟨62, _⟩ => ⟨S32x8x256x128, .f32⟩
  | .hbm, ⟨63, _⟩ => ⟨S32x256x8x128, .f32⟩
  | .hbm, ⟨64, _⟩ => ⟨S8192x1024, .f32⟩
  | _, _ => ⟨S8192x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== Proof.NaBlock.lean ====
/- What one grid point of the neighbourhood attention writes: sixteen blocks of 256 query rows, each the same
   function of its queries, its window of 768 keys and values, the context's keys and values and its page of the
   bias table; read off the run's list of stores. -/
module

public import proofs.«01_k».proof.Proof.Gen.KernelIdeal.Value
public import Idealize.ShloMosaic.Lib.Pointwise
public import Idealize.ShloMosaic.Lib.VecWindow

set_option maxRecDepth 16384

@[expose] public section
noncomputable section
namespace Cert.Na
open Idealize.ShloMosaic Idealize.ShloMosaic.TcCoe Idealize.ShloMosaic.Tactic
open Cert.KernelIdeal Cert.KernelIdeal.Gen

variable {F : FTy → Type} [FloatOps F]

/-- One block: the softmax-weighted values of 256 queries `q` over 768 windowed keys and the 256 context keys. -/
def blockOut (kc vc : Vec F S1x1x1x256x128 .f32) (q : Vec F S256x128 .bf16) (kw vw : Vec F S768x128 .bf16)
    (tab : Vec F S1x1x256x768 .f32) : FVec F S256x128 .f32 :=
  k0_pay40 (k0_pay3 vc) (k0_pay24 (k0_pay8 (k0_pay2 kc) q) (k0_pay9 q kw tab))
    (k0_pay25 (k0_pay8 (k0_pay2 kc) q) (k0_pay9 q kw tab)) (k0_pay26 (k0_pay8 (k0_pay2 kc) q) (k0_pay9 q kw tab)) vw

/-- The store of block `4 k + r`: its rectangle, and `blockOut` of what the block loads. -/
def piece (v41 v44 : Vec F S1x1x1x256x128 .f32) (q kn v : Vec F S4096x128 .bf16) (tab : Vec F S1x3x256x768 .f32)
    (k : Fin k0_t1_loop.trips) (r : Fin 4) : View.Piece (Elt F) S4096x128 .f32 :=
  ⟨Rect.unit (s := S4096x128) (k0_off1 k (BitVec.ofNat 32 r.val)) S256x128.size (k0_off1_inb k r),
   blockOut v41 v44
     (fun z => q ((Rect.unit (s := S4096x128) (k0_off1 k (BitVec.ofNat 32 r.val)) S256x128.size (k0_off1_inb k r)).toLoadRect.idx z))
     (fun z => kn ((Rect.unit (s := S4096x128) (k0_off2 k (BitVec.ofNat 32 r.val)) S768x128.size (k0_off2_inb k r)).toLoadRect.idx z))
     (fun z => v ((Rect.unit (s := S4096x128) (k0_off2 k (BitVec.ofNat 32 r.val)) S768x128.size (k0_off2_inb k r)).toLoadRect.idx z))
     (fun z => tab ((Rect.unit (s := S1x3x256x768) (k0_off3 k (BitVec.ofNat 32 r.val)) S1x1x256x768.size (k0_off3_inb k r)).toLoadRect.idx z))⟩

/-- A trip's stores are its four pieces, the last first. -/
theorem tripL_eq (𝒱 : Variants) (c : Dev nD) (bd : Option 𝒱.V) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x1x256x128 .f32) (harg5 : arg5.IsWhole) (arg6 : Memref sig .tc .vmem S1x1x1x256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x3x256x768 .f32) (harg9 : arg9.IsWhole) (arg10 : Memref sig .tc .vmem S4096x128 .f32) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S4096x128 .bf16) (harg13 : arg13.IsWhole)
    (v41 v44 : Vec F S1x1x1x256x128 .f32) (X9 : BufTy.Contents (Elt F) arg9.view.ty) (X11 : BufTy.Contents (Elt F) arg11.view.ty)
    (X12 : BufTy.Contents (Elt F) arg12.view.ty) (X13 : BufTy.Contents (Elt F) arg13.view.ty) (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 v41 v44 X9 X11 X12 X13 k
      = [piece v41 v44 (arg11.view.read (Elt F) X11) (arg12.view.read (Elt F) X12) (arg13.view.read (Elt F) X13) (arg9.view.read (Elt F) X9) k 3,
         piece v41 v44 (arg11.view.read (Elt F) X11) (arg12.view.read (Elt F) X12) (arg13.view.read (Elt F) X13) (arg9.view.read (Elt F) X9) k 2,
         piece v41 v44 (arg11.view.read (Elt F) X11) (arg12.view.read (Elt F) X12) (arg13.view.read (Elt F) X13) (arg9.view.read (Elt F) X9) k 1,
         piece v41 v44 (arg11.view.read (Elt F) X11) (arg12.view.read (Elt F) X12) (arg13.view.read (Elt F) X13) (arg9.view.read (Elt F) X9) k 0] := by
  unfold tripL_k0_t1 trip_k0_t1
  rfl

/-- Every store of the trips before `n` is one of the pieces. -/
theorem mem_pb (𝒱 : Variants) (c : Dev nD) (bd : Option 𝒱.V) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x1x256x128 .f32) (harg5 : arg5.IsWhole) (arg6 : Memref sig .tc .vmem S1x1x1x256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x3x256x768 .f32) (harg9 : arg9.IsWhole) (arg10 : Memref sig .tc .vmem S4096x128 .f32) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S4096x128 .bf16) (harg13 : arg13.IsWhole)
    (v41 v44 : Vec F S1x1x1x256x128 .f32) (X9 : BufTy.Contents (Elt F) arg9.view.ty) (X11 : BufTy.Contents (Elt F) arg11.view.ty)
    (X12 : BufTy.Contents (Elt F) arg12.view.ty) (X13 : BufTy.Contents (Elt F) arg13.view.ty) :
    ∀ n : ℕ, n ≤ k0_t1_loop.trips → ∀ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 v41 v44 X9 X11 X12 X13 n,
      ∃ (k : Fin k0_t1_loop.trips) (r : Fin 4),
        p = piece v41 v44 (arg11.view.read (Elt F) X11) (arg12.view.read (Elt F) X12) (arg13.view.read (Elt F) X13) (arg9.view.read (Elt F) X9) k r
  | 0, _, p, hp => absurd hp List.not_mem_nil
  | n + 1, hn, p, hp => by
    rw [pb_k0_t1_succ (F := F) 𝒱 c bd i arg2 harg2 arg3 harg3 arg4 harg4 arg5 harg5 arg6 harg6 arg7 harg7 arg8 harg8 arg9 harg9 arg10 harg10 arg11 harg11 arg12 harg12 arg13 harg13 v41 v44 X9 X11 X12 X13 ⟨n, hn⟩, tripL_eq, List.mem_append] at hp
    rcases hp with hp | hp
    · simp only [List.mem_cons, List.not_mem_nil, or_false] at hp
      rcases hp with h | h | h | h
      · exact ⟨⟨n, hn⟩, 3, h⟩
      · exact ⟨⟨n, hn⟩, 2, h⟩
      · exact ⟨⟨n, hn⟩, 1, h⟩
      · exact ⟨⟨n, hn⟩, 0, h⟩
    · exact mem_pb 𝒱 c bd i arg2 harg2 arg3 harg3 arg4 harg4 arg5 harg5 arg6 harg6 arg7 harg7 arg8 harg8 arg9 harg9 arg10 harg10 arg11 harg11 arg12 harg12 arg13 harg13 v41 v44 X9 X11 X12 X13 n (Nat.le_of_succ_le hn) p hp

theorem off2_eq : ∀ k : Fin k0_t1_loop.trips, ∀ r : Fin 4,
    k0_off2 k (BitVec.ofNat 32 r.val) = ![64 * min (4 * (4 * k.val + r.val) - 4) 52, 0] := by decide +kernel

/-- The first key row of block `g`'s window. -/
def u0 (g : ℕ) : ℕ := min (4 * g - 4) 52
/-- The page of the bias table that block `g` reads. -/
def page (g : ℕ) : Fin 3 := if g = 0 then 0 else if g = 15 then 2 else 1

theorem u0_lt {n : ℕ} (g : ℕ) (z : Fin 768) (h : n = 64 * u0 g + z.val) : n < 4096 := by
  have := z.isLt; unfold u0 at h; omega

/-- The grid point's whole output block, as one function of its rows and columns. -/
def wholeOut (x0 x1 x2 : Vec F S4096x128 .f32) (x3 x4 : Vec F S1x1x1x256x128 .f32) (x5 x6 : Vec F S1x128 .f32) (x7 : Vec F S1x3x256x768 .f32) (y : S4096x128.Idx) : Elt F .f32 :=
  blockOut x3 x4
    (fun z => k0_pay43 x0 x5 (ix2 ⟨256 * ((y 0).val / 256) + (z 0).val, by have : (z 0).val < 256 := (z 0).isLt; have : (y 0).val < 4096 := (y 0).isLt; omega⟩ (z 1)))
    (fun z => k0_pay44 x1 x6 (ix2 ⟨64 * u0 ((y 0).val / 256) + (z 0).val, u0_lt _ (z 0) rfl⟩ (z 1)))
    (fun z => k0_pay1 x2 (ix2 ⟨64 * u0 ((y 0).val / 256) + (z 0).val, u0_lt _ (z 0) rfl⟩ (z 1)))
    (fun z => x7 (ix4 0 (page ((y 0).val / 256)) (z 2) (z 3)))
    (ix2 ⟨(y 0).val % 256, Nat.mod_lt _ (by norm_num)⟩ (y 1))

theorem trips_le (k : Fin k0_t1_loop.trips) : k.val < 4 := Nat.lt_of_lt_of_le k.isLt k0_t1_abs.2.1

/-- A piece agrees with `wholeOut` at every index of its rectangle. -/
theorem piece_apply (x0 x1 x2 : Vec F S4096x128 .f32) (x3 x4 : Vec F S1x1x1x256x128 .f32) (x5 x6 : Vec F S1x128 .f32) (x7 : Vec F S1x3x256x768 .f32) (k : Fin k0_t1_loop.trips) (r : Fin 4)
    (x : (piece x3 x4 (k0_pay43 x0 x5) (k0_pay44 x1 x6) (k0_pay1 x2) x7 k r).1.shape.Idx) :
    (piece x3 x4 (k0_pay43 x0 x5) (k0_pay44 x1 x6) (k0_pay1 x2) x7 k r).2 x
      = wholeOut x0 x1 x2 x3 x4 x5 x6 x7 ((piece x3 x4 (k0_pay43 x0 x5) (k0_pay44 x1 x6) (k0_pay1 x2) x7 k r).1.emb x) := by
  have hx : (x 0).val < 256 := (x 0).isLt
  have h0 : ((piece x3 x4 (k0_pay43 x0 x5) (k0_pay44 x1 x6) (k0_pay1 x2) x7 k r).1.emb x 0).val = 1024 * k.val + 256 * r.val + (x 0).val := by
    show k0_off1 k (BitVec.ofNat 32 r.val) 0 + 1 * (x 0).val = _
    rw [k0_off1_eq]; simp
  have h1 : ((piece x3 x4 (k0_pay43 x0 x5) (k0_pay44 x1 x6) (k0_pay1 x2) x7 k r).1.emb x 1).val = (x 1).val := by
    show k0_off1 k (BitVec.ofNat 32 r.val) 1 + 1 * (x 1).val = _
    rw [k0_off1_eq]; simp
  have hg : ((piece x3 x4 (k0_pay43 x0 x5) (k0_pay44 x1 x6) (k0_pay1 x2) x7 k r).1.emb x 0).val / 256 = 4 * k.val + r.val := by rw [h0]; omega
  unfold wholeOut
  show blockOut _ _ _ _ _ _ x = _
  have hx' : x = ix2 ⟨((piece x3 x4 (k0_pay43 x0 x5) (k0_pay44 x1 x6) (k0_pay1 x2) x7 k r).1.emb x 0).val % 256, Nat.mod_lt _ (by norm_num)⟩
      ((piece x3 x4 (k0_pay43 x0 x5) (k0_pay44 x1 x6) (k0_pay1 x2) x7 k r).1.emb x 1) := by
    funext a
    match a with
    | ⟨0, _⟩ => apply Fin.ext; show (x 0).val = _ % 256; rw [h0]; omega
    | ⟨1, _⟩ => apply Fin.ext; exact h1.symm
  have e1 : ∀ z : S256x128.Idx, (Rect.unit (s := S4096x128) (k0_off1 k (BitVec.ofNat 32 r.val)) S256x128.size (k0_off1_inb k r)).toLoadRect.idx z
      = ix2 ⟨256 * (((piece x3 x4 (k0_pay43 x0 x5) (k0_pay44 x1 x6) (k0_pay1 x2) x7 k r).1.emb x 0).val / 256) + (z 0).val, by
          have : (z 0).val < 256 := (z 0).isLt
          have := ((piece x3 x4 (k0_pay43 x0 x5) (k0_pay44 x1 x6) (k0_pay1 x2) x7 k r).1.emb x 0).isLt
          have := trips_le k
          rw [hg]; omega⟩ (z 1) := by
    intro z; funext a
    match a with
    | ⟨0, _⟩ => apply Fin.ext; show k0_off1 k (BitVec.ofNat 32 r.val) 0 + 1 * (z 0).val = 256 * _ + _; rw [hg, k0_off1_eq]; simp; omega
    | ⟨1, _⟩ => apply Fin.ext; show k0_off1 k (BitVec.ofNat 32 r.val) 1 + 1 * (z 1).val = _; rw [k0_off1_eq]; simp
  have e2 : ∀ z : S768x128.Idx, (Rect.unit (s := S4096x128) (k0_off2 k (BitVec.ofNat 32 r.val)) S768x128.size (k0_off2_inb k r)).toLoadRect.idx z
      = ix2 ⟨64 * u0 (((piece x3 x4 (k0_pay43 x0 x5) (k0_pay44 x1 x6) (k0_pay1 x2) x7 k r).1.emb x 0).val / 256) + (z 0).val, u0_lt _ (z 0) rfl⟩ (z 1) := by
    intro z; funext a
    match a with
    | ⟨0, _⟩ => apply Fin.ext; show k0_off2 k (BitVec.ofNat 32 r.val) 0 + 1 * (z 0).val = 64 * u0 _ + _; rw [hg, off2_eq]; simp [u0]
    | ⟨1, _⟩ => apply Fin.ext; show k0_off2 k (BitVec.ofNat 32 r.val) 1 + 1 * (z 1).val = _; rw [off2_eq]; simp
  have e3 : ∀ z : S1x1x256x768.Idx, (Rect.unit (s := S1x3x256x768) (k0_off3 k (BitVec.ofNat 32 r.val)) S1x1x256x768.size (k0_off3_inb k r)).toLoadRect.idx z
      = ix4 0 (page (((piece x3 x4 (k0_pay43 x0 x5) (k0_pay44 x1 x6) (k0_pay1 x2) x7 k r).1.emb x 0).val / 256)) (z 2) (z 3) := by
    intro z; funext a
    have hz0 : (z 0).val < 1 := (z 0).isLt
    have hz1 : (z 1).val < 1 := (z 1).isLt
    match a with
    | ⟨0, _⟩ => apply Fin.ext; show k0_off3 k (BitVec.ofNat 32 r.val) 0 + 1 * (z 0).val = 0; rw [k0_off3_eq]; simp; omega
    | ⟨1, _⟩ =>
      apply Fin.ext; show k0_off3 k (BitVec.ofNat 32 r.val) 1 + 1 * (z 1).val = (page _).val; rw [hg, k0_off3_eq]
      unfold page; simp; split_ifs <;> simp <;> omega
    | ⟨2, _⟩ => apply Fin.ext; show k0_off3 k (BitVec.ofNat 32 r.val) 2 + 1 * (z 2).val = (z 2).val; rw [k0_off3_eq]; simp
    | ⟨3, _⟩ => apply Fin.ext; show k0_off3 k (BitVec.ofNat 32 r.val) 3 + 1 * (z 3).val = (z 3).val; rw [k0_off3_eq]; simp
  refine Eq.trans ?_ (congrArg _ hx')
  congr 1 <;> funext z
  · exact congrArg _ (e1 z)
  · exact congrArg _ (e2 z)
  · exact congrArg _ (e2 z)
  · exact congrArg _ (e3 z)

/-- The output block after the body, at every point's buffers. -/
theorem out_eq (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x1x256x128 .f32) (harg5 : arg5.IsWhole) (arg6 : Memref sig .tc .vmem S1x1x1x256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x3x256x768 .f32) (harg9 : arg9.IsWhole) (arg10 : Memref sig .tc .vmem S4096x128 .f32) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S4096x128 .bf16) (harg13 : arg13.IsWhole)
    (x0 x1 x2 : Vec F S4096x128 .f32) (x3 x4 : Vec F S1x1x1x256x128 .f32) (x5 x6 : Vec F S1x128 .f32) (x7 : Vec F S1x3x256x768 .f32) (y : S4096x128.Idx) :
    out0_A_8 (F := F) c i arg2 harg2 arg3 harg3 arg4 harg4 arg5 harg5 arg6 harg6 arg7 harg7 arg8 harg8 arg9 harg9 arg10 harg10 arg11 harg11 arg12 harg12 arg13 harg13 x0 x1 x2 x3 x4 x5 x6 x7 y = wholeOut x0 x1 x2 x3 x4 x5 x6 x7 y := by
  unfold out0_A_8
  refine View.read_writes_apply_of_pieces _ _ (wholeOut x0 x1 x2 x3 x4 x5 x6 x7) _ ?_ y (cover0_A_8 c i arg2 harg2 arg3 harg3 arg4 harg4 arg5 harg5 arg6 harg6 arg7 harg7 arg8 harg8 arg9 harg9 arg10 harg10 arg11 harg11 arg12 harg12 arg13 harg13 x0 x1 x2 x3 x4 x5 x6 x7 y)
  unfold kernelRun0_A
  dsimp only
  intro p hp
  have h41 : kernelRun0_A.sl.v41 c arg5 harg5 x3 = x3 := by
    show arg5.view.readAt (Elt F) (Rect.unit (s := S1x1x1x256x128) ![0, 0, 0, 0, 0] S1x1x1x256x128.size inb_S1x1x1x256x128_S1x1x1x256x128_0_0_0_0_0).toLoadRect (harg5.unread x3) = x3
    rw [View.readAt_full, harg5.read_unread]
  have h44 : kernelRun0_A.sl.v44 c arg6 harg6 x4 = x4 := by
    show arg6.view.readAt (Elt F) (Rect.unit (s := S1x1x1x256x128) ![0, 0, 0, 0, 0] S1x1x1x256x128.size inb_S1x1x1x256x128_S1x1x1x256x128_0_0_0_0_0).toLoadRect (harg6.unread x4) = x4
    rw [View.readAt_full, harg6.read_unread]
  rw [h41, h44] at hp
  obtain ⟨k, r, rfl⟩ := mem_pb _ c _ i arg2 harg2 arg3 harg3 arg4 harg4 arg5 harg5 arg6 harg6 arg7 harg7 arg8 harg8 arg9 harg9 arg10 harg10 arg11 harg11 arg12 harg12 arg13 harg13 x3 x4 _ _ _ _ _ (le_of_eq rfl) p hp
  have hq : arg11.view.read (Elt F) (arg11.view.writes (Elt F) arg11.view.junk (kernelRun0_A.sl.HS0_1 c arg2 harg2 arg7 harg7 x0 x5)) = k0_pay43 x0 x5 := by
    unfold kernelRun0_A.sl.HS0_1
    rw [View.read_writes_full, View.readAt_full, View.readAt_full, harg2.read_unread, harg7.read_unread]
  have hk : arg12.view.read (Elt F) (arg12.view.writes (Elt F) arg12.view.junk (kernelRun0_A.sl.HS1_1 c arg3 harg3 arg8 harg8 x1 x6)) = k0_pay44 x1 x6 := by
    unfold kernelRun0_A.sl.HS1_1
    rw [View.read_writes_full, View.readAt_full, View.readAt_full, harg3.read_unread, harg8.read_unread]
  have hv : arg13.view.read (Elt F) (arg13.view.writes (Elt F) arg13.view.junk (kernelRun0_A.sl.HS2_1 c arg4 harg4 x2)) = k0_pay1 x2 := by
    unfold kernelRun0_A.sl.HS2_1
    rw [View.read_writes_full, View.readAt_full, harg4.read_unread]
  rw [hq, hk, hv, harg9.read_unread]
  exact piece_apply x0 x1 x2 x3 x4 x5 x6 x7 k r

end Cert.Na
end
end
-- ==== Proof.NaDefs.lean ====
/- The neighbourhood attention as mathematics over the extended reals: the window of a query, the normalised queries
   and keys, the scores, the softmax-weighted sum; and three gathers read at an index. -/
module

public import Idealize.ShloMosaic.Lib.Pointwise

set_option maxRecDepth 16384

@[expose] public section
noncomputable section
namespace Cert.Na
open Idealize.ShloMosaic

/-- First key row of the window of query row `r`. -/
def rs (r : ℕ) : ℕ := min (r - 4) 56
/-- First key column of the window of query column `c`. -/
def cs (c : ℕ) : ℕ := min (c - 8) 48
/-- Key row `i` is in the window of query row `r`. -/
abbrev rowIn (r i : ℕ) : Prop := rs r ≤ i ∧ i < rs r + 8
/-- Key column `j` is in the window of query column `c`. -/
abbrev colIn (c j : ℕ) : Prop := cs c ≤ j ∧ j < cs c + 16
/-- The bias' row for query row `r` and key row `i`. -/
def rowIdx (r i : ℕ) : Fin 15 := ⟨min (i + 7 - r) 14, by omega⟩
/-- The bias' column for query column `c` and key column `j`. -/
def colIdx (c j : ℕ) : Fin 31 := ⟨min (j + 15 - c) 30, by omega⟩

abbrev TP : Shape := ⟨2, ![32768, 15360]⟩
abbrev TC : Shape := ⟨5, ![8, 2, 8, 256, 128]⟩
abbrev TG : Shape := ⟨1, ![128]⟩
abbrev TB : Shape := ⟨3, ![8, 15, 31]⟩

/-- Feature `d` of token `t` in batch `b`, head `h`, of the projections' columns that begin at `off`. -/
def sect (P : TP.Idx → EReal) (off : ℕ) (b h : Fin 8) (t : Fin 4096) (d : Fin 128) : EReal :=
  P (ix2 (Fin.ofNat 32768 (4096 * b.val + t.val)) (Fin.ofNat 15360 (off + 128 * h.val + d.val)))

/-- The root-mean-square normalisation of `x` with gains `g`. -/
def nrm (x : Fin 128 → EReal) (g : TG.Idx → EReal) (d : Fin 128) : EReal :=
  x d * Ideal.rsqrt (Ideal.div (∑ e, x e * x e) (Ideal.ofBits .f32 0x43000000#32) + Ideal.ofBits .f32 0x358637BD#32) * g (ix1 d)

/-- The scores' scale, 128^(-1/2) rounded. -/
def sc : EReal := Ideal.ofBits .f32 0x3DB504F3#32

/-- Score of query token `t` against key token `n`: minus infinity outside the window. -/
def loc (P : TP.Idx → EReal) (gq gk : TG.Idx → EReal) (B : TB.Idx → EReal) (b h : Fin 8) (t n : Fin 4096) : EReal :=
  if rowIn (t.val / 64) (n.val / 64) ∧ colIn (t.val % 64) (n.val % 64) then
    (∑ d, nrm (sect P 3072 b h t) gq d * nrm (sect P 4096 b h n) gk d) * sc
      + B (ix3 h (rowIdx (t.val / 64) (n.val / 64)) (colIdx (t.val % 64) (n.val % 64)))
  else ⊥

/-- Score of query token `t` against context key `p`. -/
def ctx (P : TP.Idx → EReal) (K : TC.Idx → EReal) (gq : TG.Idx → EReal) (b h : Fin 8) (t : Fin 4096) (p : Fin 256) : EReal :=
  (∑ d, nrm (sect P 3072 b h t) gq d * K (ix5 b 0 h p d)) * sc

/-- The values of two groups of keys weighted by the softmax of the scores of both. -/
def soft {n p : ℕ} (S : Fin n → EReal) (C : Fin p → EReal) (V : Fin n → EReal) (W : Fin p → EReal) : EReal :=
  (∑ i, Ideal.div (Ideal.exp (S i - max (Finset.univ.sup S) (Finset.univ.sup C)))
      (∑ i, Ideal.exp (S i - max (Finset.univ.sup S) (Finset.univ.sup C)) + ∑ i, Ideal.exp (C i - max (Finset.univ.sup S) (Finset.univ.sup C))) * V i)
  + ∑ i, Ideal.div (Ideal.exp (C i - max (Finset.univ.sup S) (Finset.univ.sup C)))
      (∑ i, Ideal.exp (S i - max (Finset.univ.sup S) (Finset.univ.sup C)) + ∑ i, Ideal.exp (C i - max (Finset.univ.sup S) (Finset.univ.sup C))) * W i

/-- The layer's neighbourhood attention: feature `d` of query token `t`, head `h`, batch `b`. -/
def naOut (P : TP.Idx → EReal) (K V : TC.Idx → EReal) (gq gk : TG.Idx → EReal) (B : TB.Idx → EReal) (b h : Fin 8)
    (t : Fin 4096) (d : Fin 128) : EReal :=
  soft (loc P gq gk B b h t) (ctx P K gq b h t) (fun n => sect P 5120 b h n d) (fun p => V (ix5 b 0 h p d))

section Gathers
variable {α : Type}

/-- A take along the last of three axes by a matrix of indices. -/
theorem gather_cols (wf) (x : (⟨3, ![8, 15, 31]⟩ : Shape).Idx → α) (idx : IVec ⟨3, ![64, 64, 1]⟩ 32)
    (h : Fin 8) (k : Fin 15) (a b : Fin 64) :
    Host.gather (t := ⟨4, ![8, 15, 64, 64]⟩) ⟨[0, 1], [2], [], [], [2], 2, ![8, 15, 1], wf⟩ x idx (ix4 h k a b)
      = x (ix3 h k ⟨min (idx (ix3 a b 0)).toInt.toNat 30, by omega⟩) := by
  unfold Host.gather
  congr 1
  funext x
  refine Fin.ext ?_
  match x with
  | ⟨0, _⟩ => exact (by show 0 + 0 + h.val = h.val; omega)
  | ⟨1, _⟩ => exact (by show 0 + 0 + k.val = k.val; omega)
  | ⟨2, _⟩ =>
    show min (idx _).toInt.toNat 30 + 0 + 0 = min (idx _).toInt.toNat 30
    simp only [Nat.add_zero]
    congr 4
    funext y
    match y with
    | ⟨0, _⟩ => rfl
    | ⟨1, _⟩ => rfl
    | ⟨2, _⟩ => rfl

/-- A take along the second of four axes by a matrix of indices. -/
theorem gather_rows (wf) (x : (⟨4, ![8, 15, 64, 64]⟩ : Shape).Idx → α) (idx : IVec ⟨3, ![64, 64, 1]⟩ 32)
    (h : Fin 8) (r i c j : Fin 64) :
    Host.gather (t := ⟨5, ![8, 64, 64, 64, 64]⟩) ⟨[0, 3, 4], [1], [], [], [1], 2, ![8, 1, 64, 64], wf⟩ x idx (ix5 h r i c j)
      = x (ix4 h ⟨min (idx (ix3 r i 0)).toInt.toNat 14, by omega⟩ c j) := by
  unfold Host.gather
  congr 1
  funext x
  refine Fin.ext ?_
  match x with
  | ⟨0, _⟩ => exact (by show 0 + 0 + h.val = h.val; omega)
  | ⟨1, _⟩ =>
    show min (idx _).toInt.toNat 14 + 0 + 0 = min (idx _).toInt.toNat 14
    simp only [Nat.add_zero]
    congr 4
    funext y
    match y with
    | ⟨0, _⟩ => rfl
    | ⟨1, _⟩ => rfl
    | ⟨2, _⟩ => rfl
  | ⟨2, _⟩ => exact (by show 0 + 0 + c.val = c.val; omega)
  | ⟨3, _⟩ => exact (by show 0 + 0 + j.val = j.val; omega)

/-- A take along the second of four axes by a box of indices. -/
theorem gather_pages (wf) (x : (⟨4, ![8, 16, 64, 64]⟩ : Shape).Idx → α) (idx : IVec ⟨4, ![3, 4, 12, 1]⟩ 32)
    (h : Fin 8) (p : Fin 3) (r : Fin 4) (i : Fin 12) (c j : Fin 64) :
    Host.gather (t := ⟨6, ![8, 3, 4, 12, 64, 64]⟩) ⟨[0, 4, 5], [1], [], [], [1], 3, ![8, 1, 64, 64], wf⟩ x idx (ix6 h p r i c j)
      = x (ix4 h ⟨min (idx (ix4 p r i 0)).toInt.toNat 15, by omega⟩ c j) := by
  unfold Host.gather
  congr 1
  funext x
  refine Fin.ext ?_
  match x with
  | ⟨0, _⟩ => exact (by show 0 + 0 + h.val = h.val; omega)
  | ⟨1, _⟩ =>
    show min (idx _).toInt.toNat 15 + 0 + 0 = min (idx _).toInt.toNat 15
    simp only [Nat.add_zero]
    congr 4
    funext y
    match y with
    | ⟨0, _⟩ => rfl
    | ⟨1, _⟩ => rfl
    | ⟨2, _⟩ => rfl
    | ⟨3, _⟩ => rfl
  | ⟨2, _⟩ => exact (by show 0 + 0 + c.val = c.val; omega)
  | ⟨3, _⟩ => exact (by show 0 + 0 + j.val = j.val; omega)

end Gathers
end Cert.Na
end
end
-- ==== Proof.NaEq.lean ====
/- The equation: the softmax over the whole grid of tokens with minus infinity outside the window is the block's
   softmax over 768 consecutive tokens, divided once at the end; and the scores' scale moves out of the product. -/
module

public import proofs.«01_k».proof.Proof.NaDefs

set_option maxRecDepth 16384

@[expose] public section
noncomputable section
namespace Cert.Na
open Idealize.ShloMosaic

/-- What one block computes from its scores `S` over windowed keys and `C` over context keys. -/
def pool {n p : ℕ} (S : Fin n → EReal) (C : Fin p → EReal) (V : Fin n → EReal) (W : Fin p → EReal) : EReal :=
  Ideal.div (∑ i, Ideal.exp (S i - max (Finset.univ.sup S) (Finset.univ.sup C)) * V i
      + ∑ i, Ideal.exp (C i - max (Finset.univ.sup S) (Finset.univ.sup C)) * W i)
    (∑ i, Ideal.exp (S i - max (Finset.univ.sup S) (Finset.univ.sup C)) + ∑ i, Ideal.exp (C i - max (Finset.univ.sup S) (Finset.univ.sup C)))

/-- Multiplication by a nonnegative real distributes over a sum. -/
theorem sum_mul_coe {ι : Type} (s : Finset ι) (f : ι → EReal) (k : ℝ) (hk : 0 ≤ k) :
    (∑ i ∈ s, f i) * (k : EReal) = ∑ i ∈ s, f i * (k : EReal) := by
  classical
  induction s using Finset.induction_on with
  | empty => simp
  | insert a s ha ih =>
    rw [Finset.sum_insert ha, Finset.sum_insert ha,
      EReal.right_distrib_of_nonneg_of_ne_top (by exact_mod_cast hk) (EReal.coe_ne_top k), ih]

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Consecutive indices from `b`. -/
def shift (b : ℕ) (hb : b + 768 ≤ 4096) (w : Fin 768) : Fin 4096 := ⟨b + w.val, by omega⟩

theorem shift_inj (b : ℕ) (hb : b + 768 ≤ 4096) : Function.Injective (shift b hb) := by
  intro x y h
  have := congrArg Fin.val h
  apply Fin.ext
  simp only [shift] at this
  omega

theorem exists_shift (b : ℕ) (hb : b + 768 ≤ 4096) (n : Fin 4096) (h1 : b ≤ n.val) (h2 : n.val < b + 768) :
    ∃ w, shift b hb w = n := ⟨⟨n.val - b, by omega⟩, Fin.ext (by simp only [shift]; omega)⟩

/-- A sum whose terms vanish outside 768 consecutive indices. -/
theorem sum_shift (b : ℕ) (hb : b + 768 ≤ 4096) (f : Fin 4096 → EReal)
    (h0 : ∀ n : Fin 4096, ¬(b ≤ n.val ∧ n.val < b + 768) → f n = 0) : ∑ n, f n = ∑ w, f (shift b hb w) := by
  refine Eq.symm ((Finset.sum_map Finset.univ ⟨shift b hb, shift_inj b hb⟩ f).symm.trans ?_)
  apply Finset.sum_subset (Finset.subset_univ _)
  intro n _ hn
  apply h0
  rintro ⟨h1, h2⟩
  obtain ⟨w, hw⟩ := exists_shift b hb n h1 h2
  exact hn (Finset.mem_map.2 ⟨w, Finset.mem_univ _, hw⟩)

/-- A supremum of values that are minus infinity outside 768 consecutive indices. -/
theorem sup_shift (b : ℕ) (hb : b + 768 ≤ 4096) (f : Fin 4096 → EReal)
    (h0 : ∀ n : Fin 4096, ¬(b ≤ n.val ∧ n.val < b + 768) → f n = ⊥) :
    Finset.univ.sup f = Finset.univ.sup fun w => f (shift b hb w) := by
  apply le_antisymm
  · refine Finset.sup_le fun n _ => ?_
    by_cases h : b ≤ n.val ∧ n.val < b + 768
    · obtain ⟨w, hw⟩ := exists_shift b hb n h.1 h.2
      rw [← hw]
      exact Finset.le_sup (f := fun w => f (shift b hb w)) (Finset.mem_univ w)
    · rw [h0 n h]; exact bot_le
  · exact Finset.sup_le fun w _ => Finset.le_sup (f := f) (Finset.mem_univ _)

/-- The exponential of a score below a real maximum is a nonnegative real. -/
theorem exp_real (s : EReal) (M : ℝ) (hs : s ≠ ⊤) : ∃ r : ℝ, 0 ≤ r ∧ Ideal.exp (s - M) = r := by
  induction s using EReal.rec with
  | bot => exact ⟨0, le_refl _, by simp⟩
  | top => exact absurd rfl hs
  | coe s => exact ⟨Real.exp (s - M), (Real.exp_pos _).le, by rw [← EReal.coe_sub]; rfl⟩

/-- Dividing each weight is dividing the weighted sum. -/
theorem soft_eq_pool {n p : ℕ} (hp : 0 < p) (S : Fin n → EReal) (C : Fin p → EReal) (V : Fin n → EReal) (W : Fin p → EReal)
    (hS : ∀ i, S i ≠ ⊤) (hC : ∀ i, ∃ r : ℝ, C i = r) : soft S C V W = pool S C V W := by
  have hM : ∃ M : ℝ, max (Finset.univ.sup S) (Finset.univ.sup C) = (M : EReal) := by
    have h1 : max (Finset.univ.sup S) (Finset.univ.sup C) ≠ ⊤ := by
      refine ne_of_lt (max_lt ?_ ?_)
      · exact (Finset.sup_lt_iff (EReal.bot_lt_coe 0 |>.trans (EReal.coe_lt_top 0))).2 fun i _ => lt_top_iff_ne_top.2 (hS i)
      · refine (Finset.sup_lt_iff (EReal.bot_lt_coe 0 |>.trans (EReal.coe_lt_top 0))).2 fun i _ => ?_
        obtain ⟨r, hr⟩ := hC i
        rw [hr]; exact EReal.coe_lt_top r
    have h2 : max (Finset.univ.sup S) (Finset.univ.sup C) ≠ ⊥ := by
      obtain ⟨r, hr⟩ := hC ⟨0, hp⟩
      have : (r : EReal) ≤ max (Finset.univ.sup S) (Finset.univ.sup C) := by
        rw [← hr]
        exact le_max_of_le_right (Finset.le_sup (f := C) (Finset.mem_univ _))
      intro h
      rw [h] at this
      exact absurd (le_bot_iff.1 this) (EReal.coe_ne_bot r)
    exact ⟨_, (EReal.coe_toReal h1 h2).symm⟩
  obtain ⟨M, hM⟩ := hM
  unfold soft pool
  rw [hM]
  choose eS hS0 hSe using fun i => exp_real (S i) M (hS i)
  choose eC hC0 hCe using fun i => exp_real (C i) M (by obtain ⟨r, hr⟩ := hC i; rw [hr]; exact EReal.coe_ne_top r)
  simp only [hSe, hCe]
  rw [← coe_sum, ← coe_sum, ← EReal.coe_add]
  have hd : 0 < ∑ i, eS i + ∑ i, eC i := by
    have h1 : 0 ≤ ∑ i, eS i := Finset.sum_nonneg fun i _ => hS0 i
    have h2 : 0 < ∑ i, eC i := by
      refine Finset.sum_pos' (fun i _ => hC0 i) ⟨⟨0, hp⟩, Finset.mem_univ _, ?_⟩
      obtain ⟨r, hr⟩ := hC ⟨0, hp⟩
      have h := hCe ⟨0, hp⟩
      rw [hr, ← EReal.coe_sub, Ideal.exp_coe] at h
      rw [← EReal.coe_eq_coe_iff.1 h]
      exact Real.exp_pos _
    linarith
  have hk : 0 ≤ 1 / (∑ i, eS i + ∑ i, eC i) := (one_div_pos.2 hd).le
  simp only [Ideal.div_coe hd.ne']
  rw [EReal.right_distrib_of_nonneg_of_ne_top (by exact_mod_cast hk) (EReal.coe_ne_top _), sum_mul_coe _ _ _ hk, sum_mul_coe _ _ _ hk]
  simp only [mul_assoc, mul_comm ((1 / (∑ i, eS i + ∑ i, eC i) : ℝ) : EReal)]

/-- The pooled values over all tokens are those over the 768 tokens outside which the score is minus infinity. -/
theorem pool_shift {p : ℕ} (b : ℕ) (hb : b + 768 ≤ 4096) (S : Fin 4096 → EReal) (C : Fin p → EReal) (V : Fin 4096 → EReal) (W : Fin p → EReal)
    (h0 : ∀ n : Fin 4096, ¬(b ≤ n.val ∧ n.val < b + 768) → S n = ⊥) :
    pool S C V W = pool (fun w => S (shift b hb w)) C (fun w => V (shift b hb w)) W := by
  have hz : ∀ x : EReal, Ideal.exp (⊥ - x) = 0 := by intro x; rw [EReal.bot_sub]; rfl
  unfold pool
  rw [← sup_shift b hb S h0]
  rw [sum_shift b hb (fun n => Ideal.exp (S n - max (Finset.univ.sup S) (Finset.univ.sup C)) * V n) fun n hn => by rw [h0 n hn, hz, zero_mul],
    sum_shift b hb (fun n => Ideal.exp (S n - max (Finset.univ.sup S) (Finset.univ.sup C))) fun n hn => by rw [h0 n hn, hz]]

theorem sc_real : ∃ r : ℝ, sc = r := by
  refine ⟨(11863283 : ℝ) * 2 ^ (-27 : ℤ), ?_⟩
  simp [sc, Ideal.ofBits, Ideal.ieee, -EReal.coe_mul]
  try norm_num

theorem eps_real : ∃ r : ℝ, 0 < r ∧ Ideal.ofBits .f32 0x358637BD#32 = r := by
  refine ⟨(8796093 : ℝ) * 2 ^ (-43 : ℤ), by positivity, ?_⟩
  simp [Ideal.ofBits, Ideal.ieee, -EReal.coe_mul]
  try norm_num

theorem w128 : Ideal.ofBits .f32 0x43000000#32 = ((128 : ℝ) : EReal) := by
  simp [Ideal.ofBits, Ideal.ieee, -EReal.coe_mul]
  try norm_num

theorem w128inv : Ideal.ofBits .bf16 0x3C00#16 = ((1 / 128 : ℝ) : EReal) := by
  simp [Ideal.ofBits, Ideal.ieee, -EReal.coe_mul]
  try norm_num

/-- The sum of squares weighted by 1/128 is the mean of the squares. -/
theorem mean_eq (x : Fin 128 → EReal) :
    ∑ e, x e * x e * Ideal.ofBits .bf16 0x3C00#16 = Ideal.div (∑ e, x e * x e) (Ideal.ofBits .f32 0x43000000#32) := by
  rw [w128, w128inv, Ideal.div_coe (by norm_num), sum_mul_coe _ _ _ (by norm_num)]

/-- The normalisation of reals is real. -/
theorem nrm_real (x : Fin 128 → EReal) (g : TG.Idx → EReal) (hx : ∀ d, ∃ r : ℝ, x d = r) (hg : ∀ d, ∃ r : ℝ, g (ix1 d) = r) (d : Fin 128) :
    ∃ r : ℝ, nrm x g d = r := by
  choose x' hx using hx
  choose g' hg using hg
  obtain ⟨ε, hε, he⟩ := eps_real
  unfold nrm
  simp only [hx, hg, he, w128, ← EReal.coe_mul, ← coe_sum]
  rw [Ideal.div_coe (by norm_num), ← EReal.coe_mul, ← EReal.coe_add, Ideal.rsqrt_coe]
  have hpos : 0 < (∑ e, x' e * x' e) * (1 / 128) + ε := by
    have : 0 ≤ ∑ e, x' e * x' e := Finset.sum_nonneg fun e _ => mul_self_nonneg _
    positivity
  rw [if_neg (not_lt.2 hpos.le), if_neg hpos.ne']
  exact ⟨_, by rw [← EReal.coe_mul, ← EReal.coe_mul]⟩

/-- The scale moves out of a product of reals. -/
theorem scale_eq (q k : Fin 128 → EReal) (hq : ∀ d, ∃ r : ℝ, q d = r) (hk : ∀ d, ∃ r : ℝ, k d = r) :
    ∑ d, q d * sc * k d = (∑ d, q d * k d) * sc := by
  choose q' hq using hq
  choose k' hk using hk
  obtain ⟨s, hs⟩ := sc_real
  simp only [hq, hk, hs, ← EReal.coe_mul, ← coe_sum]
  congr 1
  rw [Finset.sum_mul]
  exact Finset.sum_congr rfl fun d _ => by ring

/-- A scaled product of reals is real. -/
theorem dot_real (q k : Fin 128 → EReal) (hq : ∀ d, ∃ r : ℝ, q d = r) (hk : ∀ d, ∃ r : ℝ, k d = r) :
    ∃ r : ℝ, (∑ d, q d * k d) * sc = r := by
  choose q' hq using hq
  choose k' hk using hk
  obtain ⟨s, hs⟩ := sc_real
  simp only [hq, hk, hs, ← EReal.coe_mul, ← coe_sum]
  exact ⟨_, rfl⟩

end Cert.Na
end
end
-- ==== Proof.NaPay.lean ====
/- One block of the neighbourhood attention read at an index over the extended reals. -/
module

public import proofs.«01_k».proof.Proof.NaBlock
public import proofs.«01_k».proof.Proof.NaEq

set_option maxRecDepth 16384

@[expose] public section
noncomputable section
namespace Cert.Na
open Idealize.ShloMosaic Idealize.ShloMosaic.TcCoe Idealize.ShloMosaic.Tactic
open Cert.KernelIdeal Cert.KernelIdeal.Gen

theorem bot_word : Ideal.ofBits .f32 0xFF800000#32 = ⊥ := by
  simp [Ideal.ofBits, Ideal.ieee]

theorem ctx_ap (kc : FVec Ideal S1x1x1x256x128 .f32) (q : FVec Ideal S256x128 .bf16) (r p : Fin 256) :
    k0_pay8 (F := Ideal) (k0_pay2 (F := Ideal) kc) q (ix2 r p) = ∑ x, q (ix2 r x) * kc (ix5 0 0 0 p x) := by
  pointwise [k0_pay8, k0_pay2]
theorem loc_ap (q : FVec Ideal S256x128 .bf16) (kw : FVec Ideal S768x128 .bf16) (tab : FVec Ideal S1x1x256x768 .f32) (r : Fin 256) (w : Fin 768) :
    k0_pay9 (F := Ideal) q kw tab (ix2 r w) = ∑ x, q (ix2 r x) * kw (ix2 w x) + tab (ix4 0 0 r w) := by
  pointwise [k0_pay9]
theorem max_ap (a : FVec Ideal S256x256 .f32) (b : FVec Ideal S256x768 .f32) (r : Fin 256) :
    k0_pay21 (F := Ideal) a b (ix2 r 0) = max (Finset.univ.sup fun x => b (ix2 r x)) (Finset.univ.sup fun x => a (ix2 r x)) := by
  pointwise [k0_pay21]
  rw [bot_word]
  rfl
theorem expw_ap (a : FVec Ideal S256x256 .f32) (b : FVec Ideal S256x768 .f32) (r : Fin 256) (w : Fin 768) :
    k0_pay22 (F := Ideal) a b (ix2 r w) = Ideal.exp (b (ix2 r w) - k0_pay21 (F := Ideal) a b (ix2 r 0)) := by
  pointwise [k0_pay22]
theorem expc_ap (a : FVec Ideal S256x256 .f32) (b : FVec Ideal S256x768 .f32) (r : Fin 256) (w : Fin 256) :
    k0_pay23 (F := Ideal) a b (ix2 r w) = Ideal.exp (a (ix2 r w) - k0_pay21 (F := Ideal) a b (ix2 r 0)) := by
  pointwise [k0_pay23]
theorem den_ap (a : FVec Ideal S256x256 .f32) (b : FVec Ideal S256x768 .f32) (r : Fin 256) :
    k0_pay24 (F := Ideal) a b (ix2 r 0) = ∑ x, k0_pay22 (F := Ideal) a b (ix2 r x) + ∑ x, k0_pay23 (F := Ideal) a b (ix2 r x) := by
  pointwise [k0_pay24]
theorem num_ap (a : FVec Ideal S1x1x1x256x128 .f32) (b : FVec Ideal S256x1 .f32) (c : FVec Ideal S256x768 .bf16) (d : FVec Ideal S256x256 .bf16)
    (e : FVec Ideal S768x128 .bf16) (r : Fin 256) (l : Fin 128) :
    k0_pay40 (F := Ideal) (k0_pay3 (F := Ideal) a) b c d e (ix2 r l)
      = Ideal.div (∑ x, c (ix2 r x) * e (ix2 x l) + ∑ x, d (ix2 r x) * a (ix5 0 0 0 x l)) (b (ix2 r 0)) := by
  pointwise [k0_pay40, k0_pay3]

/-- A block's entry: the values pooled by the scores. -/
theorem blockOut_ap (kc vc : FVec Ideal S1x1x1x256x128 .f32) (q : FVec Ideal S256x128 .bf16) (kw vw : FVec Ideal S768x128 .bf16)
    (tab : FVec Ideal S1x1x256x768 .f32) (r : Fin 256) (l : Fin 128) :
    blockOut (F := Ideal) kc vc q kw vw tab (ix2 r l)
      = pool (fun w : Fin 768 => ∑ x, q (ix2 r x) * kw (ix2 w x) + tab (ix4 0 0 r w)) (fun p : Fin 256 => ∑ x, q (ix2 r x) * kc (ix5 0 0 0 p x))
          (fun w => vw (ix2 w l)) (fun p => vc (ix5 0 0 0 p l)) := by
  unfold blockOut
  rw [num_ap, den_ap]
  have e1 : ∀ (a : FVec Ideal S256x256 .f32) (b : FVec Ideal S256x768 .f32) i, k0_pay25 (F := Ideal) a b i = k0_pay22 (F := Ideal) a b i := fun _ _ _ => rfl
  have e2 : ∀ (a : FVec Ideal S256x256 .f32) (b : FVec Ideal S256x768 .f32) i, k0_pay26 (F := Ideal) a b i = k0_pay23 (F := Ideal) a b i := fun _ _ _ => rfl
  simp only [e1, e2, expw_ap, expc_ap, max_ap, ctx_ap, loc_ap]
  rfl

theorem q_ap (a : FVec Ideal S4096x128 .f32) (b : FVec Ideal S1x128 .f32) (r : Fin 4096) (l : Fin 128) :
    k0_pay43 (F := Ideal) a b (ix2 r l) = a (ix2 r l) * Ideal.rsqrt (Ideal.div (∑ x, a (ix2 r x) * a (ix2 r x)) (Ideal.ofBits .f32 0x43000000#32) + Ideal.ofBits .f32 0x358637BD#32) * b (ix2 0 l) * sc := by
  pointwise [k0_pay43]
  rw [mean_eq fun x => a (ix2 r x)]
  rfl
theorem k_ap (a : FVec Ideal S4096x128 .f32) (b : FVec Ideal S1x128 .f32) (r : Fin 4096) (l : Fin 128) :
    k0_pay44 (F := Ideal) a b (ix2 r l) = a (ix2 r l) * Ideal.rsqrt (Ideal.div (∑ x, a (ix2 r x) * a (ix2 r x)) (Ideal.ofBits .f32 0x43000000#32) + Ideal.ofBits .f32 0x358637BD#32) * b (ix2 0 l) := by
  pointwise [k0_pay44]
  rw [mean_eq fun x => a (ix2 r x)]
theorem v_ap (a : FVec Ideal S4096x128 .f32) (r : Fin 4096) (l : Fin 128) : k0_pay1 (F := Ideal) a (ix2 r l) = a (ix2 r l) := by
  pointwise [k0_pay1]

end Cert.Na
end
end
-- ==== Proof.NaLit.lean ====
/- The kernel's index tables, entry by entry: the bias' columns, the columns' mask and the bias' rows per page. -/
module

public import proofs.«01_k».proof.Proof.NaBlock
public import proofs.«01_k».proof.Proof.NaDefs

set_option maxRecDepth 16384

@[expose] public section
noncomputable section
namespace Cert.Na
open Idealize.ShloMosaic Idealize.ShloMosaic.TcCoe Idealize.ShloMosaic.Tactic
open Cert.KernelIdeal Cert.KernelIdeal.Gen

/-- The column table holds the bias' column of every pair of columns. -/
theorem lit0_eq : ∀ c j : Fin 64, min (lit0 (S64x64.rowMajor (ix2 c j))).toInt.toNat 30 = (colIdx c.val j.val).val := by
  decide +kernel
/-- The column mask holds whether the key's column is in the query's window. -/
theorem lit1_eq : ∀ c j : Fin 64, lit1 (S64x64.rowMajor (ix2 c j)) = BitVec.ofBool (decide (colIn c.val j.val)) := by
  decide +kernel
/-- The page table holds the bias' row where the key's row is in the window, and 15, a row of minus infinities, elsewhere. -/
theorem lit2_eq : ∀ (g : Fin 16) (q : Fin 4) (w : Fin 12), min (lit2 (S3x4x12.rowMajor (ix3 (page g.val) q w))).toInt.toNat 15
    = if rowIn (4 * g.val + q.val) (u0 g.val + w.val) then (rowIdx (4 * g.val + q.val) (u0 g.val + w.val)).val else 15 := by
  decide +kernel

end Cert.Na
end
end
-- ==== Proof.NaTable.lean ====
/- The bias table the kernel prepares, read at an index: the bias inside the window, minus infinity outside. -/
module

public import proofs.«01_k».proof.Proof.NaBlock
public import proofs.«01_k».proof.Proof.NaDefs
public import proofs.«01_k».proof.Proof.NaLit

set_option maxRecDepth 16384

@[expose] public section
noncomputable section
namespace Cert.Na
open Idealize.ShloMosaic Idealize.ShloMosaic.TcCoe Idealize.ShloMosaic.Tactic
open Cert.KernelIdeal Cert.KernelIdeal.Gen

/-- The bias taken at every pair of columns, minus infinity outside the columns' window. -/
def colTab (B : FVec Ideal S8x15x31 .f32) : FVec Ideal S8x15x64x64 .f32 :=
  select (broadcastInDim S8x15x64x64 ![0, 1, 2, 3] bcast_S1x1x64x64_S8x15x64x64_0_1_2_3
      (broadcastInDim S1x1x64x64 ![2, 3] bcast_S64x64_S1x1x64x64_2_3 fun i => lit1 (S64x64.rowMajor i)))
    (Host.gather gather_S8x15x31_S64x64x1_S8x15x64x64_01_2_n_n_2_2_8151 B
      (broadcastInDim S64x64x1 ![0, 1] bcast_S64x64_S64x64x1_0_1
        (select (constantI S64x64 1 0#1)
          (addi (fun i => lit0 (S64x64.rowMajor i)) (broadcastInDim S64x64 ![] bcast_S_S64x64 (constantI S_ 32 31#32)))
          fun i => lit0 (S64x64.rowMajor i))))
    (broadcastInDim S8x15x64x64 ![] bcast_S_S8x15x64x64 (id (constant S_ .f32 0xFF800000#32)))

/-- With a sixteenth row of minus infinities. -/
def rowTab (B : FVec Ideal S8x15x31 .f32) : FVec Ideal S8x16x64x64 .f32 :=
  concatenate S8x16x64x64 1 [⟨S8x15x64x64, colTab B⟩, ⟨S8x1x64x64, broadcastInDim S8x1x64x64 ![] bcast_S_S8x1x64x64 (constant S_ .f32 0xFF800000#32)⟩]
    concatenates_S8x15x64x64_S8x1x64x64_S8x16x64x64_d1

/-- The table of three pages: a query block's rows against its window's rows. -/
def table (B : FVec Ideal S8x15x31 .f32) : FVec Ideal S8x3x256x768 .f32 :=
  shapeCast S8x3x256x768
    (transpose S8x3x4x64x12x64 [0, 1, 2, 4, 3, 5]
      (Host.gather gather_S8x16x64x64_S3x4x12x1_S8x3x4x12x64x64_045_1_n_n_1_3_816464 (rowTab B)
        (broadcastInDim S3x4x12x1 ![0, 1, 2] bcast_S3x4x12_S3x4x12x1_0_1_2
          (select (constantI S3x4x12 1 0#1)
            (addi (fun i => lit2 (S3x4x12.rowMajor i)) (broadcastInDim S3x4x12 ![] bcast_S_S3x4x12 (constantI S_ 32 16#32)))
            fun i => lit2 (S3x4x12.rowMajor i))))
      transposes_S8x3x4x12x64x64_S8x3x4x64x12x64_0_1_2_4_3_5)
    shapeCasts_S8x3x4x64x12x64_S8x3x256x768

section Run
variable (m : (ℓ : Loc nD τ sig) → Buf (Elt Ideal) ℓ)

set_option maxHeartbeats 2000000 in
/-- The kernel's table operand. -/
theorem V_table (c : Dev nD) : V m c main_v18 = table (m ((c : Thread nD τ).loc main_arg5)) := by
  unfold V
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results_simp
  rfl

set_option maxHeartbeats 2000000 in
/-- The query gains' operand. -/
theorem V_gq (c : Dev nD) : V m c main_v1 = broadcastInDim S1x128 ![1] bcast_S128_S1x128_1 (m ((c : Thread nD τ).loc main_arg3)) := by
  unfold V
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results_simp
  try rfl

set_option maxHeartbeats 2000000 in
/-- The key gains' operand. -/
theorem V_gk (c : Dev nD) : V m c main_v2 = broadcastInDim S1x128 ![1] bcast_S128_S1x128_1 (m ((c : Thread nD τ).loc main_arg4)) := by
  unfold V
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results_simp
  try rfl
end Run

theorem bot32 : Ideal.ofBits .f32 0xFF800000#32 = ⊥ := by
  simp [Ideal.ofBits, Ideal.ieee]

theorem colTab_gen (M : IVec S64x64 1) (X : FVec Ideal S8x15x64x64 .f32) (h : Fin 8) (k : Fin 15) (c j : Fin 64) (b : BitVec 1) (hb : M (ix2 c j) = b) :
    select (broadcastInDim S8x15x64x64 ![0, 1, 2, 3] bcast_S1x1x64x64_S8x15x64x64_0_1_2_3
      (broadcastInDim S1x1x64x64 ![2, 3] bcast_S64x64_S1x1x64x64_2_3 M)) X
      (broadcastInDim S8x15x64x64 ![] bcast_S_S8x15x64x64 (id (constant (F := Ideal) S_ .f32 0xFF800000#32))) (ix4 h k c j)
      = Scalar.select b (X (ix4 h k c j)) ⊥ := by
  rw [← hb]
  pointwise
  exact congrArg (Scalar.select (M (ix2 c j)) (X (ix4 h k c j))) bot32

theorem cols_gen (L : IVec S64x64 32) (c j : Fin 64) :
    (broadcastInDim S64x64x1 ![0, 1] bcast_S64x64_S64x64x1_0_1
      (select (constantI S64x64 1 0#1) (addi L (broadcastInDim S64x64 ![] bcast_S_S64x64 (constantI S_ 32 31#32))) L)) (ix3 c j 0)
      = L (ix2 c j) := by
  pointwise

theorem cols_take (L : IVec S64x64 32) (B : FVec Ideal S8x15x31 .f32) (h : Fin 8) (k : Fin 15) (c j : Fin 64) (K : Fin 31)
    (hK : min (L (ix2 c j)).toInt.toNat 30 = K.val) :
    Host.gather gather_S8x15x31_S64x64x1_S8x15x64x64_01_2_n_n_2_2_8151 B
      (broadcastInDim S64x64x1 ![0, 1] bcast_S64x64_S64x64x1_0_1
        (select (constantI S64x64 1 0#1) (addi L (broadcastInDim S64x64 ![] bcast_S_S64x64 (constantI S_ 32 31#32))) L)) (ix4 h k c j)
      = B (ix3 h k K) :=
  (gather_cols _ _ _ h k c j).trans (congrArg (fun a => B (ix3 h k a))
    (Fin.ext ((congrArg (fun x : BitVec 32 => min x.toInt.toNat 30) (cols_gen L c j)).trans hK)))

theorem colTab_ap (B : FVec Ideal S8x15x31 .f32) (h : Fin 8) (k : Fin 15) (c j : Fin 64) :
    colTab B (ix4 h k c j) = if colIn c.val j.val then B (ix3 h k (colIdx c.val j.val)) else ⊥ := by
  refine (colTab_gen _ _ h k c j _ (lit1_eq c j)).trans
    ((congrArg (fun x => Scalar.select _ x ⊥) (cols_take _ B h k c j (colIdx c.val j.val) (lit0_eq c j))).trans ?_)
  by_cases hc : colIn c.val j.val <;> simp [hc, Scalar.select]

theorem rowTab_gen (X : FVec Ideal S8x15x64x64 .f32) (Y : FVec Ideal S8x1x64x64 .f32) (h : Fin 8) (k : Fin 16) (c j : Fin 64) :
    concatenate S8x16x64x64 1 [⟨S8x15x64x64, X⟩, ⟨S8x1x64x64, Y⟩] concatenates_S8x15x64x64_S8x1x64x64_S8x16x64x64_d1 (ix4 h k c j)
      = if hk : k.val < 15 then X (ix4 h ⟨k.val, hk⟩ c j) else Y (ix4 h ⟨k.val - 15, by omega⟩ c j) := by
  pointwise

theorem rowTab_in (B : FVec Ideal S8x15x31 .f32) (h : Fin 8) (k : Fin 16) (r : Fin 15) (c j : Fin 64) (e : k.val = r.val) :
    rowTab B (ix4 h k c j) = colTab B (ix4 h r c j) := by
  refine (rowTab_gen _ _ h k c j).trans ((dif_pos (by rw [e]; exact r.isLt)).trans ?_)
  exact congrArg (fun r => colTab B (ix4 h r c j)) (Fin.ext e)

theorem rowTab_out (B : FVec Ideal S8x15x31 .f32) (h : Fin 8) (k : Fin 16) (c j : Fin 64) (e : k.val = 15) :
    rowTab B (ix4 h k c j) = ⊥ :=
  (rowTab_gen _ _ h k c j).trans ((dif_neg (by rw [e]; exact lt_irrefl 15)).trans bot32)

theorem table_gen (X : FVec Ideal S8x3x4x12x64x64 .f32) (h : Fin 8) (p : Fin 3) (a : Fin 256) (w : Fin 768) :
    shapeCast S8x3x256x768 (transpose S8x3x4x64x12x64 [0, 1, 2, 4, 3, 5] X transposes_S8x3x4x12x64x64_S8x3x4x64x12x64_0_1_2_4_3_5)
      shapeCasts_S8x3x4x64x12x64_S8x3x256x768 (ix4 h p a w)
      = X (ix6 h p ⟨a.val / 64, by omega⟩ ⟨w.val / 64, by omega⟩ ⟨a.val % 64, by omega⟩ ⟨w.val % 64, by omega⟩) := by
  pointwise

theorem pages_gen (L : IVec S3x4x12 32) (p : Fin 3) (r : Fin 4) (i : Fin 12) :
    (broadcastInDim S3x4x12x1 ![0, 1, 2] bcast_S3x4x12_S3x4x12x1_0_1_2
      (select (constantI S3x4x12 1 0#1) (addi L (broadcastInDim S3x4x12 ![] bcast_S_S3x4x12 (constantI S_ 32 16#32))) L)) (ix4 p r i 0)
      = L (ix3 p r i) := by
  pointwise

/-- The table at the page of block `g`: the bias where the key is in the query's window, minus infinity elsewhere. -/
theorem table_ap (B : FVec Ideal S8x15x31 .f32) (h : Fin 8) (g : Fin 16) (a : Fin 256) (w : Fin 768) :
    table B (ix4 h (page g.val) a w)
      = if rowIn (4 * g.val + a.val / 64) (u0 g.val + w.val / 64) ∧ colIn (a.val % 64) (w.val % 64) then
          B (ix3 h (rowIdx (4 * g.val + a.val / 64) (u0 g.val + w.val / 64)) (colIdx (a.val % 64) (w.val % 64)))
        else ⊥ := by
  have hK : (if rowIn (4 * g.val + a.val / 64) (u0 g.val + w.val / 64) then (rowIdx (4 * g.val + a.val / 64) (u0 g.val + w.val / 64)).val else 15) < 16 := by
    have := (rowIdx (4 * g.val + a.val / 64) (u0 g.val + w.val / 64)).isLt
    split_ifs <;> omega
  refine (table_gen _ h (page g.val) a w).trans ((gather_pages _ _ _ h _ _ _ _ _).trans
    ((congrArg (fun k => rowTab B (ix4 h k ⟨a.val % 64, by omega⟩ ⟨w.val % 64, by omega⟩)) (Fin.ext ?_ : _ = (⟨_, hK⟩ : Fin 16))).trans ?_))
  · exact (congrArg (fun x : BitVec 32 => min x.toInt.toNat 15) (pages_gen _ (page g.val) ⟨a.val / 64, by omega⟩ ⟨w.val / 64, by omega⟩)).trans
      (lit2_eq g ⟨a.val / 64, by omega⟩ ⟨w.val / 64, by omega⟩)
  · by_cases hr : rowIn (4 * g.val + a.val / 64) (u0 g.val + w.val / 64)
    · refine (rowTab_in B h _ (rowIdx (4 * g.val + a.val / 64) (u0 g.val + w.val / 64)) _ _ (if_pos hr)).trans ((colTab_ap B h _ _ _).trans ?_)
      by_cases hc : colIn (a.val % 64) (w.val % 64)
      · exact (if_pos hc).trans (if_pos (And.intro hr hc)).symm
      · exact (if_neg hc).trans (if_neg fun h => hc h.2).symm
    · exact (rowTab_out B h _ _ _ (if_neg hr)).trans (if_neg fun h => hr h.1).symm

end Cert.Na
end
end
-- ==== Proof.NaKer.lean ====
/- What the kernel's output holds at an index: the layer's neighbourhood attention, for finite queries, keys, gains and bias. -/
module

public import proofs.«01_k».proof.Proof.NaPay
public import proofs.«01_k».proof.Proof.NaTable

set_option maxRecDepth 16384

@[expose] public section
noncomputable section
namespace Cert.Na
open Idealize.ShloMosaic Idealize.ShloMosaic.TcCoe Idealize.ShloMosaic.Tactic
open Cert.KernelIdeal Cert.KernelIdeal.Gen

/-- Finite queries, keys, context keys, gains and bias. -/
structure Finite (P : TP.Idx → EReal) (K : TC.Idx → EReal) (gq gk : TG.Idx → EReal) (B : TB.Idx → EReal) : Prop where
  q : ∀ b h t d, ∃ r : ℝ, sect P 3072 b h t d = r
  k : ∀ b h t d, ∃ r : ℝ, sect P 4096 b h t d = r
  c : ∀ b h p d, ∃ r : ℝ, K (ix5 b 0 h p d) = r
  gq : ∀ d, ∃ r : ℝ, gq (ix1 d) = r
  gk : ∀ d, ∃ r : ℝ, gk (ix1 d) = r
  b : ∀ h i j, ∃ r : ℝ, B (ix3 h i j) = r

section Math
variable {P : TP.Idx → EReal} {K V : TC.Idx → EReal} {gq gk : TG.Idx → EReal} {B : TB.Idx → EReal}

/-- A score is not plus infinity. -/
theorem loc_ne_top (hf : Finite P K gq gk B) (b h : Fin 8) (t n : Fin 4096) : loc P gq gk B b h t n ≠ ⊤ := by
  unfold loc
  split_ifs
  · obtain ⟨r, hr⟩ := dot_real _ _ (nrm_real _ _ (hf.q b h t) hf.gq) (nrm_real _ _ (hf.k b h n) hf.gk)
    obtain ⟨s, hs⟩ := hf.b h (rowIdx (t.val / 64) (n.val / 64)) (colIdx (t.val % 64) (n.val % 64))
    rw [hr, hs, ← EReal.coe_add]
    exact EReal.coe_ne_top _
  · exact bot_ne_top

/-- A score against the context is real. -/
theorem ctx_real (hf : Finite P K gq gk B) (b h : Fin 8) (t : Fin 4096) (p : Fin 256) : ∃ r : ℝ, ctx P K gq b h t p = r :=
  dot_real _ _ (nrm_real _ _ (hf.q b h t) hf.gq) (hf.c b h p)

theorem win_le (g : Fin 16) : 64 * u0 g.val + 768 ≤ 4096 := by unfold u0; omega

/-- Outside the window of its block, a query's score is minus infinity. -/
theorem loc_outside (b h : Fin 8) (t : Fin 4096) (n : Fin 4096)
    (hn : ¬(64 * u0 (t.val / 256) ≤ n.val ∧ n.val < 64 * u0 (t.val / 256) + 768)) : loc P gq gk B b h t n = ⊥ := by
  unfold loc
  refine if_neg fun h => hn ?_
  have h1 : rowIn (t.val / 64) (n.val / 64) := h.1
  unfold rowIn rs at h1
  unfold u0
  omega

/-- The layer's attention is a block's pooling of its window. -/
theorem naOut_eq_pool (hf : Finite P K gq gk B) (b h : Fin 8) (t : Fin 4096) (d : Fin 128) (hw : 64 * u0 (t.val / 256) + 768 ≤ 4096) :
    naOut P K V gq gk B b h t d
      = pool (fun w => loc P gq gk B b h t (shift (64 * u0 (t.val / 256)) hw w)) (ctx P K gq b h t)
          (fun w => sect P 5120 b h (shift (64 * u0 (t.val / 256)) hw w) d) (fun p => V (ix5 b 0 h p d)) := by
  unfold naOut
  rw [soft_eq_pool (by norm_num) _ _ _ _ (loc_ne_top hf b h t) (ctx_real hf b h t),
    pool_shift (64 * u0 (t.val / 256)) hw _ _ _ _ (loc_outside b h t)]

/-- A window key's score as the block computes it. -/
theorem score_eq (hf : Finite P K gq gk B) (b h : Fin 8) (t : Fin 4096) (w : Fin 768) (hw : 64 * u0 (t.val / 256) + 768 ≤ 4096)
    (ht : t.val / 256 < 16) :
    ∑ x, nrm (sect P 3072 b h t) gq x * sc * nrm (sect P 4096 b h (shift (64 * u0 (t.val / 256)) hw w)) gk x
        + table B (ix4 h (page (t.val / 256)) ⟨t.val % 256, Nat.mod_lt _ (by norm_num)⟩ w)
      = loc P gq gk B b h t (shift (64 * u0 (t.val / 256)) hw w) := by
  rw [scale_eq _ _ (nrm_real _ _ (hf.q b h t) hf.gq) (nrm_real _ _ (hf.k b h _) hf.gk)]
  rw [table_ap B h ⟨t.val / 256, ht⟩ ⟨t.val % 256, Nat.mod_lt _ (by norm_num)⟩ w]
  have e1 : 4 * (t.val / 256) + t.val % 256 / 64 = t.val / 64 := by omega
  have e2 : u0 (t.val / 256) + w.val / 64 = (shift (64 * u0 (t.val / 256)) hw w).val / 64 := by simp only [shift]; omega
  have e3 : t.val % 256 % 64 = t.val % 64 := by omega
  have e4 : w.val % 64 = (shift (64 * u0 (t.val / 256)) hw w).val % 64 := by simp only [shift]; omega
  show _ + (if rowIn (4 * (t.val / 256) + t.val % 256 / 64) (u0 (t.val / 256) + w.val / 64) ∧ colIn (t.val % 256 % 64) (w.val % 64) then
    B (ix3 h (rowIdx (4 * (t.val / 256) + t.val % 256 / 64) (u0 (t.val / 256) + w.val / 64)) (colIdx (t.val % 256 % 64) (w.val % 64))) else ⊥) = _
  rw [e1, e2, e3, e4]
  unfold loc
  split_ifs
  · rfl
  · obtain ⟨r, hr⟩ := dot_real _ _ (nrm_real _ _ (hf.q b h t) hf.gq) (nrm_real _ _ (hf.k b h (shift (64 * u0 (t.val / 256)) hw w)) hf.gk)
    rw [hr, EReal.add_bot]

/-- What a grid point writes is the layer's attention, from the blocks it reads. -/
theorem whole_eq (hf : Finite P K gq gk B) (b h : Fin 8) (x0 x1 x2 : FVec Ideal S4096x128 .f32) (x3 x4 : FVec Ideal S1x1x1x256x128 .f32)
    (x5 x6 : FVec Ideal S1x128 .f32) (x7 : FVec Ideal S1x3x256x768 .f32)
    (h0 : ∀ t d, x0 (ix2 t d) = sect P 3072 b h t d) (h1 : ∀ t d, x1 (ix2 t d) = sect P 4096 b h t d)
    (h2 : ∀ t d, x2 (ix2 t d) = sect P 5120 b h t d) (h3 : ∀ p d, x3 (ix5 0 0 0 p d) = K (ix5 b 0 h p d))
    (h4 : ∀ p d, x4 (ix5 0 0 0 p d) = V (ix5 b 0 h p d)) (h5 : ∀ d, x5 (ix2 0 d) = gq (ix1 d)) (h6 : ∀ d, x6 (ix2 0 d) = gk (ix1 d))
    (h7 : ∀ p a w, x7 (ix4 0 p a w) = table B (ix4 h p a w)) (t : Fin 4096) (d : Fin 128) :
    wholeOut (F := Ideal) x0 x1 x2 x3 x4 x5 x6 x7 (ix2 t d) = naOut P K V gq gk B b h t d := by
  have ht : t.val / 256 < 16 := by omega
  have hw : 64 * u0 (t.val / 256) + 768 ≤ 4096 := win_le ⟨t.val / 256, ht⟩
  rw [naOut_eq_pool hf b h t d hw]
  unfold wholeOut
  refine (blockOut_ap _ _ _ _ _ _ _ _).trans ?_
  have hq : ∀ x : Fin 128, k0_pay43 (F := Ideal) x0 x5 (ix2 ⟨256 * (t.val / 256) + t.val % 256, by omega⟩ x) = nrm (sect P 3072 b h t) gq x * sc := by
    intro x
    have e : (⟨256 * (t.val / 256) + t.val % 256, by omega⟩ : Fin 4096) = t := Fin.ext (by show 256 * (t.val / 256) + t.val % 256 = t.val; omega)
    rw [e, q_ap]
    simp only [h0, h5]
    rfl
  have hk : ∀ (w : Fin 768) (x : Fin 128), k0_pay44 (F := Ideal) x1 x6 (ix2 (shift (64 * u0 (t.val / 256)) hw w) x)
      = nrm (sect P 4096 b h (shift (64 * u0 (t.val / 256)) hw w)) gk x := by
    intro w x
    rw [k_ap]
    simp only [h1, h6]
    rfl
  have hv : ∀ (w : Fin 768), k0_pay1 (F := Ideal) x2 (ix2 (shift (64 * u0 (t.val / 256)) hw w) d)
      = sect P 5120 b h (shift (64 * u0 (t.val / 256)) hw w) d := by
    intro w
    rw [v_ap, h2]
  have hS : (fun w : Fin 768 => ∑ x, k0_pay43 (F := Ideal) x0 x5 (ix2 ⟨256 * (t.val / 256) + t.val % 256, by omega⟩ x)
        * k0_pay44 (F := Ideal) x1 x6 (ix2 (shift (64 * u0 (t.val / 256)) hw w) x)
        + x7 (ix4 0 (page (t.val / 256)) ⟨t.val % 256, Nat.mod_lt _ (by norm_num)⟩ w))
      = fun w => loc P gq gk B b h t (shift (64 * u0 (t.val / 256)) hw w) := by
    funext w
    simp only [hq, hk, h7]
    exact score_eq hf b h t w hw ht
  have hC : (fun p : Fin 256 => ∑ x, k0_pay43 (F := Ideal) x0 x5 (ix2 ⟨256 * (t.val / 256) + t.val % 256, by omega⟩ x) * x3 (ix5 0 0 0 p x))
      = ctx P K gq b h t := by
    funext p
    simp only [hq, h3]
    exact scale_eq _ _ (nrm_real _ _ (hf.q b h t) hf.gq) (hf.c b h p)
  have hV : (fun w : Fin 768 => k0_pay1 (F := Ideal) x2 (ix2 (shift (64 * u0 (t.val / 256)) hw w) d))
      = fun w => sect P 5120 b h (shift (64 * u0 (t.val / 256)) hw w) d := funext hv
  have hW : (fun p : Fin 256 => x4 (ix5 0 0 0 p d)) = fun p => V (ix5 b 0 h p d) := funext fun p => h4 p d
  rw [← hS, ← hC, ← hV, ← hW]
  rfl
end Math

section Run
variable (m : (ℓ : Loc nD τ sig) → Buf (Elt Ideal) ℓ) (c : Dev nD)

theorem flush8 (t : Fin cfg0.N) : (cfg0.win 8).flush t = true := (by decide +kernel : ∀ t : Fin grid0.N, win0_8.flush t = true) t
theorem index0 : ∀ t : Fin grid0.N, win0_0.index t = ![t.val / 8, 24 + t.val % 8] := by decide +kernel
theorem index1 : ∀ t : Fin grid0.N, win0_1.index t = ![t.val / 8, 32 + t.val % 8] := by decide +kernel
theorem index2 : ∀ t : Fin grid0.N, win0_2.index t = ![t.val / 8, 40 + t.val % 8] := by decide +kernel
theorem index3 : ∀ t : Fin grid0.N, win0_3.index t = ![t.val / 8, 0, t.val % 8, 0, 0] := by decide +kernel
theorem index4 : ∀ t : Fin grid0.N, win0_4.index t = ![t.val / 8, 0, t.val % 8, 0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![t.val % 8, 0, 0, 0] := by decide +kernel
theorem index8 : ∀ t : Fin grid0.N, win0_8.index t = ![t.val / 8, t.val % 8] := by decide +kernel

/-- A grid point's batch. -/
def bat (t : Fin grid0.N) : Fin 8 := ⟨t.val / 8, by have : t.val < 64 := t.isLt; omega⟩
/-- A grid point's head. -/
def head (t : Fin grid0.N) : Fin 8 := ⟨t.val % 8, by omega⟩

theorem blk0 (t : Fin cfg0.N) (a : Fin 4096) (d : Fin 128) :
    iblk m c 0 t (ix2 a d) = sect (m ((c : Thread nD τ).loc main_arg0)) 3072 (bat t) (head t) a d := by
  have hb : t.val < 64 := t.isLt
  refine (congrFun (V_main_arg0 m c) _).trans (congrArg (m ((c : Thread nD τ).loc main_arg0)) ?_)
  funext x
  match x with
  | ⟨0, _⟩ =>
    apply Fin.ext
    show win0_0.index t 0 * 4096 + 1 * a.val = (4096 * (t.val / 8) + a.val) % 32768
    rw [index0]; show t.val / 8 * 4096 + 1 * a.val = _; omega
  | ⟨1, _⟩ =>
    apply Fin.ext
    show win0_0.index t 1 * 128 + 1 * d.val = (3072 + 128 * (t.val % 8) + d.val) % 15360
    rw [index0]; show (24 + t.val % 8) * 128 + 1 * d.val = _; omega

theorem blk1 (t : Fin cfg0.N) (a : Fin 4096) (d : Fin 128) :
    iblk m c 1 t (ix2 a d) = sect (m ((c : Thread nD τ).loc main_arg0)) 4096 (bat t) (head t) a d := by
  have hb : t.val < 64 := t.isLt
  refine (congrFun (V_main_arg0 m c) _).trans (congrArg (m ((c : Thread nD τ).loc main_arg0)) ?_)
  funext x
  match x with
  | ⟨0, _⟩ =>
    apply Fin.ext
    show win0_1.index t 0 * 4096 + 1 * a.val = (4096 * (t.val / 8) + a.val) % 32768
    rw [index1]; show t.val / 8 * 4096 + 1 * a.val = _; omega
  | ⟨1, _⟩ =>
    apply Fin.ext
    show win0_1.index t 1 * 128 + 1 * d.val = (4096 + 128 * (t.val % 8) + d.val) % 15360
    rw [index1]; show (32 + t.val % 8) * 128 + 1 * d.val = _; omega

theorem blk2 (t : Fin cfg0.N) (a : Fin 4096) (d : Fin 128) :
    iblk m c 2 t (ix2 a d) = sect (m ((c : Thread nD τ).loc main_arg0)) 5120 (bat t) (head t) a d := by
  have hb : t.val < 64 := t.isLt
  refine (congrFun (V_main_arg0 m c) _).trans (congrArg (m ((c : Thread nD τ).loc main_arg0)) ?_)
  funext x
  match x with
  | ⟨0, _⟩ =>
    apply Fin.ext
    show win0_2.index t 0 * 4096 + 1 * a.val = (4096 * (t.val / 8) + a.val) % 32768
    rw [index2]; show t.val / 8 * 4096 + 1 * a.val = _; omega
  | ⟨1, _⟩ =>
    apply Fin.ext
    show win0_2.index t 1 * 128 + 1 * d.val = (5120 + 128 * (t.val % 8) + d.val) % 15360
    rw [index2]; show (40 + t.val % 8) * 128 + 1 * d.val = _; omega

theorem blk3 (t : Fin cfg0.N) (p : Fin 256) (d : Fin 128) :
    iblk m c 3 t (ix5 0 0 0 p d) = m ((c : Thread nD τ).loc main_arg1) (ix5 (bat t) 0 (head t) p d) := by
  refine (congrFun (V_main_arg1 m c) _).trans (congrArg (m ((c : Thread nD τ).loc main_arg1)) ?_)
  funext x
  match x with
  | ⟨0, _⟩ => apply Fin.ext; show win0_3.index t 0 * 1 + 1 * 0 = t.val / 8; rw [index3]; show t.val / 8 * 1 + 1 * 0 = _; omega
  | ⟨1, _⟩ => apply Fin.ext; show win0_3.index t 1 * 1 + 1 * 0 = 0; rw [index3]; rfl
  | ⟨2, _⟩ => apply Fin.ext; show win0_3.index t 2 * 1 + 1 * 0 = t.val % 8; rw [index3]; show t.val % 8 * 1 + 1 * 0 = _; omega
  | ⟨3, _⟩ => apply Fin.ext; show win0_3.index t 3 * 256 + 1 * p.val = p.val; rw [index3]; show 0 * 256 + 1 * p.val = _; omega
  | ⟨4, _⟩ => apply Fin.ext; show win0_3.index t 4 * 128 + 1 * d.val = d.val; rw [index3]; show 0 * 128 + 1 * d.val = _; omega

theorem blk4 (t : Fin cfg0.N) (p : Fin 256) (d : Fin 128) :
    iblk m c 4 t (ix5 0 0 0 p d) = m ((c : Thread nD τ).loc main_arg2) (ix5 (bat t) 0 (head t) p d) := by
  refine (congrFun (V_main_arg2 m c) _).trans (congrArg (m ((c : Thread nD τ).loc main_arg2)) ?_)
  funext x
  match x with
  | ⟨0, _⟩ => apply Fin.ext; show win0_4.index t 0 * 1 + 1 * 0 = t.val / 8; rw [index4]; show t.val / 8 * 1 + 1 * 0 = _; omega
  | ⟨1, _⟩ => apply Fin.ext; show win0_4.index t 1 * 1 + 1 * 0 = 0; rw [index4]; rfl
  | ⟨2, _⟩ => apply Fin.ext; show win0_4.index t 2 * 1 + 1 * 0 = t.val % 8; rw [index4]; show t.val % 8 * 1 + 1 * 0 = _; omega
  | ⟨3, _⟩ => apply Fin.ext; show win0_4.index t 3 * 256 + 1 * p.val = p.val; rw [index4]; show 0 * 256 + 1 * p.val = _; omega
  | ⟨4, _⟩ => apply Fin.ext; show win0_4.index t 4 * 128 + 1 * d.val = d.val; rw [index4]; show 0 * 128 + 1 * d.val = _; omega

theorem gain_gen (g : FVec Ideal S128 .f32) (d : Fin 128) : broadcastInDim S1x128 ![1] bcast_S128_S1x128_1 g (ix2 0 d) = g (ix1 d) := by
  pointwise

theorem blk5 (t : Fin cfg0.N) (d : Fin 128) : iblk m c 5 t (ix2 0 d) = m ((c : Thread nD τ).loc main_arg3) (ix1 d) := by
  refine (congrFun (V_gq m c) _).trans (Eq.trans (congrArg _ ?_) (gain_gen _ d))
  funext x
  match x with
  | ⟨0, _⟩ => apply Fin.ext; show win0_5.index t 0 * 1 + 1 * 0 = 0; rw [index5]; rfl
  | ⟨1, _⟩ => apply Fin.ext; show win0_5.index t 1 * 128 + 1 * d.val = d.val; rw [index5]; show 0 * 128 + 1 * d.val = _; omega

theorem blk6 (t : Fin cfg0.N) (d : Fin 128) : iblk m c 6 t (ix2 0 d) = m ((c : Thread nD τ).loc main_arg4) (ix1 d) := by
  refine (congrFun (V_gk m c) _).trans (Eq.trans (congrArg _ ?_) (gain_gen _ d))
  funext x
  match x with
  | ⟨0, _⟩ => apply Fin.ext; show win0_6.index t 0 * 1 + 1 * 0 = 0; rw [index6]; rfl
  | ⟨1, _⟩ => apply Fin.ext; show win0_6.index t 1 * 128 + 1 * d.val = d.val; rw [index6]; show 0 * 128 + 1 * d.val = _; omega

theorem blk7 (t : Fin cfg0.N) (p : Fin 3) (a : Fin 256) (w : Fin 768) :
    iblk m c 7 t (ix4 0 p a w) = table (m ((c : Thread nD τ).loc main_arg5)) (ix4 (head t) p a w) := by
  refine (congrFun (V_table m c) _).trans (congrArg _ ?_)
  funext x
  match x with
  | ⟨0, _⟩ => apply Fin.ext; show win0_7.index t 0 * 1 + 1 * 0 = t.val % 8; rw [index7]; show t.val % 8 * 1 + 1 * 0 = _; omega
  | ⟨1, _⟩ => apply Fin.ext; show win0_7.index t 1 * 3 + 1 * p.val = p.val; rw [index7]; show 0 * 3 + 1 * p.val = _; omega
  | ⟨2, _⟩ => apply Fin.ext; show win0_7.index t 2 * 256 + 1 * a.val = a.val; rw [index7]; show 0 * 256 + 1 * a.val = _; omega
  | ⟨3, _⟩ => apply Fin.ext; show win0_7.index t 3 * 768 + 1 * w.val = w.val; rw [index7]; show 0 * 768 + 1 * w.val = _; omega

/-- The output array after the run, at a row and a column. -/
theorem arr_ap (hf : Finite (m ((c : Thread nD τ).loc main_arg0)) (m ((c : Thread nD τ).loc main_arg1)) (m ((c : Thread nD τ).loc main_arg3))
      (m ((c : Thread nD τ).loc main_arg4)) (m ((c : Thread nD τ).loc main_arg5))) (R : Fin 32768) (L : Fin 1024) :
    (dats m 0 c).arrAt 8 cfg0.N (ix2 R L)
      = naOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          ⟨R.val / 4096, by omega⟩ ⟨L.val / 128, by omega⟩ ⟨R.val % 4096, by omega⟩ ⟨L.val % 128, by omega⟩ := by
  let t : Fin cfg0.N := (⟨R.val / 4096 * 8 + L.val / 128, by show _ < 64; omega⟩ : Fin 64)
  have htv : t.val = R.val / 4096 * 8 + L.val / 128 := rfl
  have hb : bat t = ⟨R.val / 4096, by omega⟩ := Fin.ext (by show t.val / 8 = R.val / 4096; omega)
  have hh : head t = ⟨L.val / 128, by omega⟩ := Fin.ext (by show t.val % 8 = L.val / 128; omega)
  have e := congrFun (Value.blocks8 m c t (flush8 t)) (ix2 ⟨R.val % 4096, by omega⟩ ⟨L.val % 128, by omega⟩)
  rw [Value.flushed8_A] at e
  have ei : ((cfg0.win 8).blk t).view.emb (ix2 ⟨R.val % 4096, by omega⟩ ⟨L.val % 128, by omega⟩) = ix2 R L := by
    funext x
    match x with
    | ⟨0, _⟩ =>
      apply Fin.ext
      show win0_8.index t 0 * 4096 + 1 * (R.val % 4096) = R.val
      rw [index8]; show t.val / 8 * 4096 + 1 * (R.val % 4096) = _; omega
    | ⟨1, _⟩ =>
      apply Fin.ext
      show win0_8.index t 1 * 128 + 1 * (L.val % 128) = L.val
      rw [index8]; show t.val % 8 * 128 + 1 * (L.val % 128) = _; omega
  rw [← hb, ← hh, ← ei]
  refine e.trans ((out_eq (F := Ideal) _ _ _ _ _ _ _ _ _ _ _ _ _ _ _ _ _ _ _ _ _ _ _ _ _ _ _ _ _ _ _ _ _ _ _).trans ?_)
  exact whole_eq hf (bat t) (head t) _ _ _ _ _ _ _ _ (blk0 m c t) (blk1 m c t) (blk2 m c t) (blk3 m c t) (blk4 m c t) (blk5 m c t) (blk6 m c t) (blk7 m c t) _ _
end Run

end Cert.Na
end
end
-- ==== Proof.NaPre.lean ====
/- The precondition of the neighbourhood attention: every entry it tests is a real number. -/
module

public import proofs.«01_k».proof.Pre_finite
public import proofs.«01_k».proof.Proof.NaKer

set_option maxRecDepth 16384

@[expose] public section
noncomputable section
namespace Cert.Na
open Idealize.ShloMosaic Idealize.ShloMosaic.TcCoe Idealize.ShloMosaic.Tactic

/-- The side conditions of the precondition's operations. -/
theorem preFacts : Cert.Pre_finite.Facts where
  slices_S32768x15360_S32768x2048_0_3072 := by decide
  bcast_S_S32768x2048 := by decide
  slices_S8x2x8x256x128_S8x1x8x256x128_0_0_0_0_0 := by decide
  shapeCasts_S8x1x8x256x128_S8x8x256x128 := by decide
  bcast_S_S8x8x256x128 := by decide
  bcast_S_S128 := by decide
  bcast_S_S8x15x31 := by decide

theorem inf_word : Ideal.ofBits .f32 0x7F800000#32 = ⊤ := by
  simp [Ideal.ofBits, Ideal.ieee]

/-- An absolute value below plus infinity is that of a real. -/
theorem real_of_lt (x : EReal) (h : Ideal.cmp .olt (max x (-x)) ⊤ = 1#1) : ∃ r : ℝ, x = r := by
  have h' : max x (-x) < ⊤ := by
    by_contra hn
    simp [Ideal.cmp, hn] at h
  induction x using EReal.rec with
  | bot => simp at h'
  | top => simp at h'
  | coe r => exact ⟨r, rfl⟩

section
attribute [local instance] preFacts
open Cert.Pre_finite Cert.Pre_finite.Facts

theorem pre1 (x : FVec Ideal S32768x15360 .f32) (a : Fin 32768) (b : Fin 2048) :
    cmpf .olt (Host.absf (extractStridedSlice S32768x2048 ![0, 3072] x slices_S32768x15360_S32768x2048_0_3072))
      (broadcastInDim S32768x2048 ![] bcast_S_S32768x2048 (constant (F := Ideal) S_ .f32 0x7F800000#32)) (ix2 a b)
      = Ideal.cmp .olt (max (x (ix2 a ⟨3072 + b.val, by omega⟩)) (-x (ix2 a ⟨3072 + b.val, by omega⟩))) (Ideal.ofBits .f32 0x7F800000#32) := by
  pointwise
  rfl

theorem pre2 (x : FVec Ideal S8x2x8x256x128 .f32) (a b : Fin 8) (p : Fin 256) (d : Fin 128) :
    cmpf .olt (Host.absf (shapeCast S8x8x256x128 (extractStridedSlice S8x1x8x256x128 ![0, 0, 0, 0, 0] x slices_S8x2x8x256x128_S8x1x8x256x128_0_0_0_0_0)
        shapeCasts_S8x1x8x256x128_S8x8x256x128))
      (broadcastInDim S8x8x256x128 ![] bcast_S_S8x8x256x128 (constant (F := Ideal) S_ .f32 0x7F800000#32)) (ix4 a b p d)
      = Ideal.cmp .olt (max (x (ix5 a 0 b p d)) (-x (ix5 a 0 b p d))) (Ideal.ofBits .f32 0x7F800000#32) := by
  pointwise
  rfl

theorem pre3 (x : FVec Ideal S128 .f32) (d : Fin 128) :
    cmpf .olt (Host.absf x) (broadcastInDim S128 ![] bcast_S_S128 (constant (F := Ideal) S_ .f32 0x7F800000#32)) (ix1 d)
      = Ideal.cmp .olt (max (x (ix1 d)) (-x (ix1 d))) (Ideal.ofBits .f32 0x7F800000#32) := by
  pointwise
  rfl

theorem pre4 (x : FVec Ideal S8x15x31 .f32) (a : Fin 8) (b : Fin 15) (d : Fin 31) :
    cmpf .olt (Host.absf x) (broadcastInDim S8x15x31 ![] bcast_S_S8x15x31 (constant (F := Ideal) S_ .f32 0x7F800000#32)) (ix3 a b d)
      = Ideal.cmp .olt (max (x (ix3 a b d)) (-x (ix3 a b d))) (Ideal.ofBits .f32 0x7F800000#32) := by
  pointwise
  rfl

/-- The precondition's arrays of ones say that the entries are real. -/
theorem finite_of_pre (P : FVec Ideal S32768x15360 .f32) (K V : FVec Ideal S8x2x8x256x128 .f32) (gq gk : FVec Ideal S128 .f32) (B : FVec Ideal S8x15x31 .f32)
    (h1 : (Cert.Pre_finite.fn (F := Ideal) P K V gq gk B).1 = fun _ => 1#1)
    (h2 : (Cert.Pre_finite.fn (F := Ideal) P K V gq gk B).2.1 = fun _ => 1#1)
    (h3 : (Cert.Pre_finite.fn (F := Ideal) P K V gq gk B).2.2.1 = fun _ => 1#1)
    (h4 : (Cert.Pre_finite.fn (F := Ideal) P K V gq gk B).2.2.2.1 = fun _ => 1#1)
    (h5 : (Cert.Pre_finite.fn (F := Ideal) P K V gq gk B).2.2.2.2 = fun _ => 1#1) : Finite P K gq gk B := by
  have hP : ∀ (a : Fin 32768) (b : Fin 2048), ∃ r : ℝ, P (ix2 a ⟨3072 + b.val, by omega⟩) = r := fun a b =>
    real_of_lt _ (by rw [← inf_word]; exact (pre1 P a b).symm.trans (congrFun h1 (ix2 a b)))
  refine ⟨?_, ?_, ?_, ?_, ?_, ?_⟩
  · intro b h t d
    obtain ⟨r, hr⟩ := hP (Fin.ofNat 32768 (4096 * b.val + t.val)) ⟨128 * h.val + d.val, by omega⟩
    refine ⟨r, Eq.trans (congrArg (fun z => P (ix2 _ z)) (Fin.ext ?_)) hr⟩
    show (3072 + 128 * h.val + d.val) % 15360 = 3072 + (128 * h.val + d.val)
    omega
  · intro b h t d
    obtain ⟨r, hr⟩ := hP (Fin.ofNat 32768 (4096 * b.val + t.val)) ⟨1024 + 128 * h.val + d.val, by omega⟩
    refine ⟨r, Eq.trans (congrArg (fun z => P (ix2 _ z)) (Fin.ext ?_)) hr⟩
    show (4096 + 128 * h.val + d.val) % 15360 = 3072 + (1024 + 128 * h.val + d.val)
    omega
  · exact fun b h p d => real_of_lt _ (by rw [← inf_word]; exact (pre2 K b h p d).symm.trans (congrFun h2 (ix4 b h p d)))
  · exact fun d => real_of_lt _ (by rw [← inf_word]; exact (pre3 gq d).symm.trans (congrFun h3 (ix1 d)))
  · exact fun d => real_of_lt _ (by rw [← inf_word]; exact (pre3 gk d).symm.trans (congrFun h4 (ix1 d)))
  · exact fun h i j => real_of_lt _ (by rw [← inf_word]; exact (pre4 B h i j).symm.trans (congrFun h5 (ix3 h i j)))
end

end Cert.Na
end
end
-- ==== Proof.NaRefDefs.lean ====
/- The reference of the neighbourhood attention by its arrays: windows, indices, normalised queries and keys, scores,
   softmax, result. -/
module

public import proofs.«01_k».proof.Proof.Gen.ReferenceIdeal.Run
public import proofs.«01_k».proof.Proof.NaDefs

set_option maxRecDepth 16384

@[expose] public section
noncomputable section
namespace Cert.NaRef
open Idealize.ShloMosaic Idealize.ShloMosaic.TcCoe Idealize.ShloMosaic.Tactic Idealize.ShloMosaic.StableHlo
open Cert.ReferenceIdeal Cert.ReferenceIdeal.Gen Cert.ReferenceIdeal.Value

/-- First rows of the windows. -/
def rowStart : IVec S64 32 :=
  minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))
/-- First columns of the windows. -/
def colStart : IVec S64 32 :=
  minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32))))
/-- Which key rows a query row sees. -/
def rowMask : IVec S64x64 1 :=
  andi (cmpi .sge (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 rowStart))) (cmpi .slt (broadcastInDim S64x64 ![0, 1] bcast_S1x64_S64x64_0_1 (broadcastInDim S1x64 ![1] bcast_S64_S1x64_1 (iotaInDim S64 32 0))) (broadcastInDim S64x64 ![0, 1] bcast_S64x1_S64x64_0_1 (addi (broadcastInDim S64x1 ![0] bcast_S64_S64x1_0 rowStart) (broadcastInDim S64x1 ![] bcast_S_S64x1 (constantI S_ 32 8#32)))))
/-- Which key columns a query column sees. -/
def colMask : IVec S64x64 1 :=
  andi (cmpi .sge (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 colStart))) (cmpi .slt (broadcastInDim S64x64 ![0, 1] bcast_S1x64_S64x64_0_1 (broadcastInDim S1x64 ![1] bcast_S64_S1x64_1 (iotaInDim S64 32 0))) (broadcastInDim S64x64 ![0, 1] bcast_S64x1_S64x64_0_1 (addi (broadcastInDim S64x1 ![0] bcast_S64_S64x1_0 colStart) (broadcastInDim S64x1 ![] bcast_S_S64x1 (constantI S_ 32 16#32)))))
/-- The bias' rows. -/
def rowIx : IVec S64x64 32 :=
  minsi (broadcastInDim S64x64 ![] bcast_S_S64x64 (id (constantI S_ 32 14#32))) (maxsi (broadcastInDim S64x64 ![] bcast_S_S64x64 (id (constantI S_ 32 0#32))) (subi (addi (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))) (broadcastInDim S64x64 ![] bcast_S_S64x64 (constantI S_ 32 8#32))) (broadcastInDim S64x64 ![] bcast_S_S64x64 (constantI S_ 32 1#32))))
/-- The bias' columns. -/
def colIx : IVec S64x64 32 :=
  minsi (broadcastInDim S64x64 ![] bcast_S_S64x64 (id (constantI S_ 32 30#32))) (maxsi (broadcastInDim S64x64 ![] bcast_S_S64x64 (id (constantI S_ 32 0#32))) (subi (addi (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))) (broadcastInDim S64x64 ![] bcast_S_S64x64 (constantI S_ 32 16#32))) (broadcastInDim S64x64 ![] bcast_S_S64x64 (constantI S_ 32 1#32))))

variable (P : FVec Ideal S32768x15360 .f32) (K V : FVec Ideal S8x2x8x256x128 .f32) (gq gk : FVec Ideal S128 .f32) (B : FVec Ideal S8x15x31 .f32)

/-- The queries. -/
def rawQ : FVec Ideal S8x8x64x64x128 .f32 :=
  shapeCast S8x8x64x64x128 (transpose S8x8x4096x128 [0, 2, 1, 3] (shapeCast S8x4096x8x128 (extractStridedSlice S32768x1024 ![0, 3072] P slices_S32768x15360_S32768x1024_0_3072) shapeCasts_S32768x1024_S8x4096x8x128) transposes_S8x4096x8x128_S8x8x4096x128_0_2_1_3) shapeCasts_S8x8x4096x128_S8x8x64x64x128
/-- The keys. -/
def rawK : FVec Ideal S8x8x64x64x128 .f32 :=
  shapeCast S8x8x64x64x128 (transpose S8x8x4096x128 [0, 2, 1, 3] (shapeCast S8x4096x8x128 (extractStridedSlice S32768x1024 ![0, 4096] P slices_S32768x15360_S32768x1024_0_4096) shapeCasts_S32768x1024_S8x4096x8x128) transposes_S8x4096x8x128_S8x8x4096x128_0_2_1_3) shapeCasts_S8x8x4096x128_S8x8x64x64x128
/-- The normalised queries. -/
def qs : FVec Ideal S8x8x64x64x128 .f32 :=
  mulf (mulf (rawQ P) (broadcastInDim S8x8x64x64x128 ![0, 1, 2, 3, 4] bcast_S8x8x64x64x1_S8x8x64x64x128_0_1_2_3_4 (Host.rsqrt (addf (Host.divf (broadcastInDim S8x8x64x64x1 ![0, 1, 2, 3] bcast_S8x8x64x64_S8x8x64x64x1_0_1_2_3 (Host.reduceAdd (mulf (rawQ P) (rawQ P)) (constant S_ .f32 0x00000000#32) reducesTo_S8x8x64x64x128_S8x8x64x64_d4 h_S_)) (broadcastInDim S8x8x64x64x1 ![] bcast_S_S8x8x64x64x1 (constant S_ .f32 0x43000000#32))) (broadcastInDim S8x8x64x64x1 ![] bcast_S_S8x8x64x64x1 (constant S_ .f32 0x358637BD#32)))))) (broadcastInDim S8x8x64x64x128 ![0, 1, 2, 3, 4] bcast_S1x1x1x1x128_S8x8x64x64x128_0_1_2_3_4 (broadcastInDim S1x1x1x1x128 ![4] bcast_S128_S1x1x1x1x128_4 gq))
/-- The normalised keys. -/
def ks : FVec Ideal S8x8x64x64x128 .f32 :=
  mulf (mulf (rawK P) (broadcastInDim S8x8x64x64x128 ![0, 1, 2, 3, 4] bcast_S8x8x64x64x1_S8x8x64x64x128_0_1_2_3_4 (Host.rsqrt (addf (Host.divf (broadcastInDim S8x8x64x64x1 ![0, 1, 2, 3] bcast_S8x8x64x64_S8x8x64x64x1_0_1_2_3 (Host.reduceAdd (mulf (rawK P) (rawK P)) (constant S_ .f32 0x00000000#32) reducesTo_S8x8x64x64x128_S8x8x64x64_d4 h_S_)) (broadcastInDim S8x8x64x64x1 ![] bcast_S_S8x8x64x64x1 (constant S_ .f32 0x43000000#32))) (broadcastInDim S8x8x64x64x1 ![] bcast_S_S8x8x64x64x1 (constant S_ .f32 0x358637BD#32)))))) (broadcastInDim S8x8x64x64x128 ![0, 1, 2, 3, 4] bcast_S1x1x1x1x128_S8x8x64x64x128_0_1_2_3_4 (broadcastInDim S1x1x1x1x128 ![4] bcast_S128_S1x1x1x1x128_4 gk))
/-- The masked scores against the latent keys. -/
def sLoc : FVec Ideal S8x8x64x64x64x64 .f32 :=
  select (broadcastInDim S8x8x64x64x64x64 ![0, 1, 2, 3, 4, 5] bcast_S1x1x64x64x64x64_S8x8x64x64x64x64_0_1_2_3_4_5 (broadcastInDim S1x1x64x64x64x64 ![2, 3, 4, 5] bcast_S64x64x64x64_S1x1x64x64x64x64_2_3_4_5 (andi (broadcastInDim S64x64x64x64 ![0, 1, 2, 3] bcast_S64x1x64x1_S64x64x64x64_0_1_2_3 (broadcastInDim S64x1x64x1 ![0, 2] bcast_S64x64_S64x1x64x1_0_2 rowMask)) (broadcastInDim S64x64x64x64 ![0, 1, 2, 3] bcast_S1x64x1x64_S64x64x64x64_0_1_2_3 (broadcastInDim S1x64x1x64 ![1, 3] bcast_S64x64_S1x64x1x64_1_3 colMask))))) (addf (mulf (Host.dotGeneral dot_S8x8x64x64x128_S8x8x64x64x128_S8x8x64x64x64x64_4_4_23_23_01_01 none (qs P gq) (ks P gk)) (broadcastInDim S8x8x64x64x64x64 ![] bcast_S_S8x8x64x64x64x64 (constant S_ .f32 0x3DB504F3#32))) (broadcastInDim S8x8x64x64x64x64 ![0, 1, 2, 3, 4, 5] bcast_S1x8x64x64x64x64_S8x8x64x64x64x64_0_1_2_3_4_5 (broadcastInDim S1x8x64x64x64x64 ![1, 2, 3, 4, 5] bcast_S8x64x64x64x64_S1x8x64x64x64x64_1_2_3_4_5 (transpose S8x64x64x64x64 [0, 1, 3, 2, 4] (Host.gather gather_S8x15x64x64_S64x64x1_S8x64x64x64x64_034_1_n_n_1_2_816464 (Host.gather gather_S8x15x31_S64x64x1_S8x15x64x64_01_2_n_n_2_2_8151 B (broadcastInDim S64x64x1 ![0, 1] bcast_S64x64_S64x64x1_0_1 colIx)) (broadcastInDim S64x64x1 ![0, 1] bcast_S64x64_S64x64x1_0_1 rowIx)) transposes_S8x64x64x64x64_S8x64x64x64x64_0_1_3_2_4)))) (broadcastInDim S8x8x64x64x64x64 ![] bcast_S_S8x8x64x64x64x64 (id (constant S_ .f32 0xFF800000#32)))
/-- The scores against all keys. -/
def sAll : FVec Ideal S8x8x64x64x4352 .f32 :=
  concatenate S8x8x64x64x4352 4 [⟨S8x8x64x64x4096, (shapeCast S8x8x64x64x4096 (sLoc P gq gk B) shapeCasts_S8x8x64x64x64x64_S8x8x64x64x4096)⟩, ⟨S8x8x64x64x256, (mulf (Host.dotGeneral dot_S8x8x64x64x128_S8x8x256x128_S8x8x64x64x256_4_3_23_2_01_01 none (qs P gq) (shapeCast S8x8x256x128 (extractStridedSlice S8x1x8x256x128 ![0, 0, 0, 0, 0] K slices_S8x2x8x256x128_S8x1x8x256x128_0_0_0_0_0) shapeCasts_S8x1x8x256x128_S8x8x256x128)) (broadcastInDim S8x8x64x64x256 ![] bcast_S_S8x8x64x64x256 (constant S_ .f32 0x3DB504F3#32)))⟩] concatenates_S8x8x64x64x4096_S8x8x64x64x256_S8x8x64x64x4352_d4
/-- The scores' maxima. -/
def mAll : FVec Ideal S8x8x64x64 .f32 :=
  Host.reduce FloatOps.maximumf (sAll P K gq gk B) (constant S_ .f32 0xFF800000#32) reducesTo_S8x8x64x64x4352_S8x8x64x64_d4 h_S_
/-- The exponentials. -/
def eAll : FVec Ideal S8x8x64x64x4352 .f32 :=
  Host.exp (subf (sAll P K gq gk B) (broadcastInDim S8x8x64x64x4352 ![0, 1, 2, 3, 4] bcast_S8x8x64x64x1_S8x8x64x64x4352_0_1_2_3_4 (broadcastInDim S8x8x64x64x1 ![0, 1, 2, 3] bcast_S8x8x64x64_S8x8x64x64x1_0_1_2_3 (maximumf (broadcastInDim S8x8x64x64 ![] bcast_S_S8x8x64x64 (constant S_ .f32 0xFF800000#32)) (mAll P K gq gk B)))))
/-- The weights. -/
def pAll : FVec Ideal S8x8x64x64x4352 .f32 :=
  Host.divf (eAll P K gq gk B) (broadcastInDim S8x8x64x64x4352 ![0, 1, 2, 3, 4] bcast_S8x8x64x64x1_S8x8x64x64x4352_0_1_2_3_4 (broadcastInDim S8x8x64x64x1 ![0, 1, 2, 3] bcast_S8x8x64x64_S8x8x64x64x1_0_1_2_3 (Host.reduceAdd (eAll P K gq gk B) (constant S_ .f32 0x00000000#32) reducesTo_S8x8x64x64x4352_S8x8x64x64_d4 h_S_)))
/-- The latent keys' weights. -/
def pLoc : FVec Ideal S8x8x64x64x64x64 .f32 :=
  shapeCast S8x8x64x64x64x64 (extractStridedSlice S8x8x64x64x4096 ![0, 0, 0, 0, 0] (pAll P K gq gk B) slices_S8x8x64x64x4352_S8x8x64x64x4096_0_0_0_0_0) shapeCasts_S8x8x64x64x4096_S8x8x64x64x64x64
/-- The context keys' weights. -/
def pCtx : FVec Ideal S8x8x64x64x256 .f32 :=
  extractStridedSlice S8x8x64x64x256 ![0, 0, 0, 0, 4096] (pAll P K gq gk B) slices_S8x8x64x64x4352_S8x8x64x64x256_0_0_0_0_4096
/-- The latent values. -/
def vLoc : FVec Ideal S8x8x64x64x128 .f32 :=
  shapeCast S8x8x64x64x128 (transpose S8x8x4096x128 [0, 2, 1, 3] (shapeCast S8x4096x8x128 (extractStridedSlice S32768x1024 ![0, 5120] P slices_S32768x15360_S32768x1024_0_5120) shapeCasts_S32768x1024_S8x4096x8x128) transposes_S8x4096x8x128_S8x8x4096x128_0_2_1_3) shapeCasts_S8x8x4096x128_S8x8x64x64x128
/-- The weighted latent values. -/
def oLoc : FVec Ideal S8x8x64x64x128 .f32 :=
  Host.dotGeneral dot_S8x8x64x64x64x64_S8x8x64x64x128_S8x8x64x64x128_45_23_23_4_01_01 none (pLoc P K gq gk B) (vLoc P)
/-- The weighted context values. -/
def oCtx : FVec Ideal S8x8x64x64x128 .f32 :=
  Host.dotGeneral dot_S8x8x64x64x256_S8x8x256x128_S8x8x64x64x128_4_2_23_3_01_01 none (pCtx P K gq gk B) (shapeCast S8x8x256x128 (extractStridedSlice S8x1x8x256x128 ![0, 0, 0, 0, 0] V slices_S8x2x8x256x128_S8x1x8x256x128_0_0_0_0_0) shapeCasts_S8x1x8x256x128_S8x8x256x128)
/-- The result. -/
def out : FVec Ideal S32768x1024 .f32 :=
  shapeCast S32768x1024 (transpose S8x4096x8x128 [0, 2, 1, 3] (shapeCast S8x8x4096x128 (addf (oLoc P K gq gk B) (oCtx P K V gq gk B)) shapeCasts_S8x8x64x64x128_S8x8x4096x128) transposes_S8x8x4096x128_S8x4096x8x128_0_2_1_3) shapeCasts_S8x4096x8x128_S32768x1024

/-- The run's result is `out` of the arguments. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v136) = out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2⟩) (run m ρ)

end Cert.NaRef
end
end
-- ==== Proof.NaMask.lean ====
/- The reference's windows and bias indices, as the mathematics has them. -/
module

public import proofs.«01_k».proof.Proof.NaRefDefs
public import proofs.«01_k».proof.Proof.NaDefs

set_option maxRecDepth 16384

@[expose] public section
noncomputable section
namespace Cert.NaRef
open Idealize.ShloMosaic Idealize.ShloMosaic.TcCoe Idealize.ShloMosaic.Tactic Idealize.ShloMosaic.StableHlo
open Cert.ReferenceIdeal Cert.ReferenceIdeal.Gen Cert.ReferenceIdeal.Value

theorem rowMask_eq : ∀ r i : Fin 64, rowMask (ix2 r i) = BitVec.ofBool (decide (Na.rowIn r.val i.val)) := by decide +kernel
theorem colMask_eq : ∀ r i : Fin 64, colMask (ix2 r i) = BitVec.ofBool (decide (Na.colIn r.val i.val)) := by decide +kernel
theorem rowIx_eq : ∀ r i : Fin 64, min (rowIx (ix2 r i)).toInt.toNat 14 = (Na.rowIdx r.val i.val).val := by decide +kernel
theorem colIx_eq : ∀ r i : Fin 64, min (colIx (ix2 r i)).toInt.toNat 30 = (Na.colIdx r.val i.val).val := by decide +kernel

end Cert.NaRef
end
end
-- ==== Proof.NaRef.lean ====
/- The reference of the neighbourhood attention read at an index: it is `naOut`. -/
module

public import proofs.«01_k».proof.Proof.NaRefDefs
public import proofs.«01_k».proof.Proof.NaDefs
public import proofs.«01_k».proof.Proof.NaMask
public import Idealize.ShloMosaic.Lib.Pointwise

set_option maxRecDepth 16384

@[expose] public section
noncomputable section
namespace Cert.NaRef
open Idealize.ShloMosaic Idealize.ShloMosaic.TcCoe Idealize.ShloMosaic.Tactic Idealize.ShloMosaic.StableHlo
open Cert.ReferenceIdeal Cert.ReferenceIdeal.Gen Cert.ReferenceIdeal.Value

open Cert.Na (sect nrm loc ctx soft naOut)

variable (P : FVec Ideal S32768x15360 .f32) (K V : FVec Ideal S8x2x8x256x128 .f32) (gq gk : FVec Ideal S128 .f32) (B : FVec Ideal S8x15x31 .f32)

/-- The token at row `r`, column `c`. -/
def tok (r c : Fin 64) : Fin 4096 := ⟨64 * r.val + c.val, by omega⟩

/-- The reference's maximum over the last of five axes. -/
theorem reduceMax_r5 {n0 n1 n2 n3 n4 : ℕ} (x : FVec Ideal ⟨5, ![n0, n1, n2, n3, n4]⟩ .f32) {u : Shape} (init : u.Idx → EReal)
    (hr : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce (FloatOps.maximumf (F := Ideal) (φ := .f32)) x init hr hu (ix4 a b c d)
      = (Finset.univ : Finset (Fin n4)).fold max (init (Shape.Idx.first hu)) fun k => x (ix5 a b c d k) := by
  rw [Host.reduce_eq_fold, Shape.ReducesTo.fold_fiber_r5_a4]
  rfl

theorem bot_bits : Ideal.ofBits .f32 0xFF800000#32 = ⊥ := by
  simp [Ideal.ofBits, Ideal.ieee]

/-- A supremum over two groups. -/
theorem sup_split {m n : ℕ} (f : Fin (m + n) → EReal) :
    Finset.univ.sup f = max (Finset.univ.sup fun i => f (Fin.castAdd n i)) (Finset.univ.sup fun i => f (Fin.natAdd m i)) := by
  apply le_antisymm
  · refine Finset.sup_le fun i _ => ?_
    refine Fin.addCases (fun i => ?_) (fun i => ?_) i
    · exact le_max_of_le_left (Finset.le_sup (f := fun i => f (Fin.castAdd n i)) (Finset.mem_univ i))
    · exact le_max_of_le_right (Finset.le_sup (f := fun i => f (Fin.natAdd m i)) (Finset.mem_univ i))
  · exact max_le (Finset.sup_le fun i _ => Finset.le_sup (f := f) (Finset.mem_univ _)) (Finset.sup_le fun i _ => Finset.le_sup (f := f) (Finset.mem_univ _))

/-- A sum over rows and columns is a sum over tokens. -/
theorem sum_tok (f : Fin 4096 → EReal) : ∑ i : Fin 64, ∑ j : Fin 64, f (tok i j) = ∑ n, f n := by
  rw [← Fintype.sum_prod_type' (f := fun i j => f (tok i j))]
  refine Fintype.sum_equiv (finProdFinEquiv (m := 64) (n := 64)) _ _ fun x => congrArg f (Fin.ext ?_)
  show 64 * x.1.val + x.2.val = x.2.val + 64 * x.1.val
  omega

theorem rawQ_ap (b h : Fin 8) (r c : Fin 64) (d : Fin 128) : rawQ P (ix5 b h r c d) = sect P 3072 b h (tok r c) d := by
  pointwise [rawQ]
  unfold sect
  refine congrArg P (congrArg₂ ix2 (Fin.ext ?_) (Fin.ext ?_))
  · show b.val * 4096 + (r.val * 64 + c.val) = (4096 * b.val + (64 * r.val + c.val)) % 32768
    omega
  · show 3072 + (h.val * 128 + d.val) = (3072 + 128 * h.val + d.val) % 15360
    omega
theorem rawK_ap (b h : Fin 8) (r c : Fin 64) (d : Fin 128) : rawK P (ix5 b h r c d) = sect P 4096 b h (tok r c) d := by
  pointwise [rawK]
  unfold sect
  refine congrArg P (congrArg₂ ix2 (Fin.ext ?_) (Fin.ext ?_))
  · show b.val * 4096 + (r.val * 64 + c.val) = (4096 * b.val + (64 * r.val + c.val)) % 32768
    omega
  · show 4096 + (h.val * 128 + d.val) = (4096 + 128 * h.val + d.val) % 15360
    omega
theorem vLoc_ap (b h : Fin 8) (r c : Fin 64) (d : Fin 128) : vLoc P (ix5 b h r c d) = sect P 5120 b h (tok r c) d := by
  pointwise [vLoc]
  unfold sect
  refine congrArg P (congrArg₂ ix2 (Fin.ext ?_) (Fin.ext ?_))
  · show b.val * 4096 + (r.val * 64 + c.val) = (4096 * b.val + (64 * r.val + c.val)) % 32768
    omega
  · show 5120 + (h.val * 128 + d.val) = (5120 + 128 * h.val + d.val) % 15360
    omega

theorem qs_ap (b h : Fin 8) (r c : Fin 64) (d : Fin 128) : qs P gq (ix5 b h r c d) = nrm (sect P 3072 b h (tok r c)) gq d := by
  pointwise [qs]
  simp only [rawQ_ap]
  rfl
theorem ks_ap (b h : Fin 8) (r c : Fin 64) (d : Fin 128) : ks P gk (ix5 b h r c d) = nrm (sect P 4096 b h (tok r c)) gk d := by
  pointwise [ks]
  simp only [rawK_ap]
  rfl

/-- The bias gathered for a query and a key. -/
theorem bias_ap (h : Fin 8) (r i c j : Fin 64) :
    Host.gather gather_S8x15x64x64_S64x64x1_S8x64x64x64x64_034_1_n_n_1_2_816464
      (Host.gather gather_S8x15x31_S64x64x1_S8x15x64x64_01_2_n_n_2_2_8151 B
        (broadcastInDim S64x64x1 ![0, 1] bcast_S64x64_S64x64x1_0_1 colIx))
      (broadcastInDim S64x64x1 ![0, 1] bcast_S64x64_S64x64x1_0_1 rowIx) (ix5 h r i c j)
      = B (ix3 h (Na.rowIdx r.val i.val) (Na.colIdx c.val j.val)) := by
  refine (Na.gather_rows _ _ _ h r i c j).trans ((Na.gather_cols _ _ _ h _ c j).trans ?_)
  have e1 : broadcastInDim S64x64x1 ![0, 1] bcast_S64x64_S64x64x1_0_1 rowIx (ix3 r i 0) = rowIx (ix2 r i) := by pointwise
  have e2 : broadcastInDim S64x64x1 ![0, 1] bcast_S64x64_S64x64x1_0_1 colIx (ix3 c j 0) = colIx (ix2 c j) := by pointwise
  refine congrArg B (congrArg₂ (fun a b => ix3 h a b) (Fin.ext ?_) (Fin.ext ?_))
  · show min (broadcastInDim S64x64x1 ![0, 1] bcast_S64x64_S64x64x1_0_1 rowIx (ix3 r i 0)).toInt.toNat 14 = _
    rw [e1]; exact rowIx_eq r i
  · show min (broadcastInDim S64x64x1 ![0, 1] bcast_S64x64_S64x64x1_0_1 colIx (ix3 c j 0)).toInt.toNat 30 = _
    rw [e2]; exact colIx_eq c j

theorem sLoc_ap (b h : Fin 8) (r c i j : Fin 64) :
    sLoc P gq gk B (ix6 b h r c i j) = loc P gq gk B b h (tok r c) (tok i j) := by
  pointwise [sLoc]
  rw [bias_ap, rowMask_eq, colMask_eq]
  simp only [qs_ap, ks_ap]
  have h1 : (tok r c).val / 64 = r.val := by show (64 * r.val + c.val) / 64 = _; omega
  have h2 : (tok r c).val % 64 = c.val := by show (64 * r.val + c.val) % 64 = _; omega
  have h3 : (tok i j).val / 64 = i.val := by show (64 * i.val + j.val) / 64 = _; omega
  have h4 : (tok i j).val % 64 = j.val := by show (64 * i.val + j.val) % 64 = _; omega
  have hb : (id (constant (F := Ideal) S_ FTy.f32 4286578688#32)) ix0 = ⊥ := bot_bits
  rw [hb]
  unfold loc
  rw [h1, h2, h3, h4]
  by_cases hr : Na.rowIn r.val i.val <;> by_cases hc : Na.colIn c.val j.val <;> simp [hr, hc, IntOp.andi, Scalar.select, Na.sc]

theorem sAll_loc (b h : Fin 8) (r c : Fin 64) (n : Fin 4096) :
    sAll P K gq gk B (ix5 b h r c (Fin.castAdd 256 n)) = loc P gq gk B b h (tok r c) n := by
  pointwise [sAll]
  have hn : (Fin.castAdd 256 n).val < 4096 := n.isLt
  rw [dif_pos hn, sLoc_ap]
  refine congrArg (loc P gq gk B b h (tok r c)) (Fin.ext ?_)
  show 64 * (n.val / 64) + n.val % 64 = n.val
  omega

theorem sAll_ctx (b h : Fin 8) (r c : Fin 64) (n : Fin 256) :
    sAll P K gq gk B (ix5 b h r c (Fin.natAdd 4096 n)) = ctx P K gq b h (tok r c) n := by
  pointwise [sAll]
  have hn : ¬ (Fin.natAdd 4096 n).val < 4096 := by rw [Fin.val_natAdd]; omega
  rw [dif_neg hn]
  have e : ∀ p : (Fin.natAdd 4096 n).val - 4096 < 256, (⟨(Fin.natAdd 4096 n).val - 4096, p⟩ : Fin 256) = n := by
    intro p
    apply Fin.ext
    show (Fin.natAdd 4096 n).val - 4096 = n.val
    rw [Fin.val_natAdd]
    omega
  simp only [e, qs_ap]
  rfl

theorem mAll_ap (b h : Fin 8) (r c : Fin 64) :
    mAll P K gq gk B (ix4 b h r c) = max (Finset.univ.sup (loc P gq gk B b h (tok r c))) (Finset.univ.sup (ctx P K gq b h (tok r c))) := by
  have e0 : mAll P K gq gk B (ix4 b h r c) = Finset.univ.sup fun n => sAll P K gq gk B (ix5 b h r c n) := by
    unfold mAll
    refine (reduceMax_r5 _ _ _ _ _ _ _ _).trans ?_
    have e : (constant (F := Ideal) S_ .f32 0xFF800000#32) (Shape.Idx.first h_S_) = ⊥ := bot_bits
    rw [e]
    rfl
  rw [e0, sup_split (m := 4096) (n := 256)]
  simp only [sAll_loc, sAll_ctx]

theorem exp_ap (s : FVec Ideal S8x8x64x64x4352 .f32) (m : FVec Ideal S8x8x64x64 .f32) (b h : Fin 8) (r c : Fin 64) (n : Fin 4352) :
    (Host.exp (subf s (broadcastInDim S8x8x64x64x4352 ![0, 1, 2, 3, 4] bcast_S8x8x64x64x1_S8x8x64x64x4352_0_1_2_3_4 (broadcastInDim S8x8x64x64x1 ![0, 1, 2, 3] bcast_S8x8x64x64_S8x8x64x64x1_0_1_2_3 (maximumf (broadcastInDim S8x8x64x64 ![] bcast_S_S8x8x64x64 (constant S_ .f32 0xFF800000#32)) m))))) (ix5 b h r c n) = Ideal.exp (s (ix5 b h r c n) - max (Ideal.ofBits .f32 0xFF800000#32) (m (ix4 b h r c))) := by
  pointwise

theorem eAll_ap (b h : Fin 8) (r c : Fin 64) (n : Fin 4352) :
    eAll P K gq gk B (ix5 b h r c n) = Ideal.exp (sAll P K gq gk B (ix5 b h r c n) - mAll P K gq gk B (ix4 b h r c)) := by
  refine (exp_ap _ _ b h r c n).trans ?_
  rw [bot_bits, max_eq_right bot_le]

theorem pAll_ap (b h : Fin 8) (r c : Fin 64) (n : Fin 4352) :
    pAll P K gq gk B (ix5 b h r c n) = Ideal.div (Ideal.exp (sAll P K gq gk B (ix5 b h r c n) - mAll P K gq gk B (ix4 b h r c)))
      (∑ i, Ideal.exp (loc P gq gk B b h (tok r c) i - mAll P K gq gk B (ix4 b h r c))
        + ∑ i, Ideal.exp (ctx P K gq b h (tok r c) i - mAll P K gq gk B (ix4 b h r c))) := by
  pointwise [pAll]
  rw [eAll_ap]
  congr 1
  refine (Fin.sum_univ_add (a := 4096) (b := 256) fun n : Fin (4096 + 256) => eAll P K gq gk B (ix5 b h r c n)).trans ?_
  simp only [eAll_ap, sAll_loc, sAll_ctx]

theorem pLoc_ap (b h : Fin 8) (r c i j : Fin 64) :
    pLoc P K gq gk B (ix6 b h r c i j) = pAll P K gq gk B (ix5 b h r c (Fin.castAdd 256 (tok i j))) := by
  pointwise [pLoc]
  congr 2
  apply Fin.ext
  show i.val * 64 + j.val = 64 * i.val + j.val
  omega

theorem pCtx_ap (b h : Fin 8) (r c : Fin 64) (n : Fin 256) :
    pCtx P K gq gk B (ix5 b h r c n) = pAll P K gq gk B (ix5 b h r c (Fin.natAdd 4096 n)) := by
  pointwise [pCtx]
  rfl

theorem oLoc_ap (b h : Fin 8) (r c : Fin 64) (d : Fin 128) :
    oLoc P K gq gk B (ix5 b h r c d) = ∑ i, ∑ j, pLoc P K gq gk B (ix6 b h r c i j) * vLoc P (ix5 b h i j d) := by
  pointwise [oLoc]

theorem oCtx_ap (b h : Fin 8) (r c : Fin 64) (d : Fin 128) :
    oCtx P K V gq gk B (ix5 b h r c d) = ∑ n, pCtx P K gq gk B (ix5 b h r c n) * V (ix5 b 0 h n d) := by
  pointwise [oCtx]

theorem sum_ap (b h : Fin 8) (r c : Fin 64) (d : Fin 128) :
    oLoc P K gq gk B (ix5 b h r c d) + oCtx P K V gq gk B (ix5 b h r c d) = naOut P K V gq gk B b h (tok r c) d := by
  rw [oLoc_ap, oCtx_ap]
  simp only [pLoc_ap, pCtx_ap, vLoc_ap]
  rw [sum_tok fun n => pAll P K gq gk B (ix5 b h r c (Fin.castAdd 256 n)) * sect P 5120 b h n d]
  simp only [pAll_ap, sAll_loc, sAll_ctx, mAll_ap]
  rfl

theorem out_gen (x y : FVec Ideal S8x8x64x64x128 .f32) (R : Fin 32768) (L : Fin 1024) :
    (shapeCast S32768x1024 (transpose S8x4096x8x128 [0, 2, 1, 3] (shapeCast S8x8x4096x128 (addf x y) shapeCasts_S8x8x64x64x128_S8x8x4096x128) transposes_S8x8x4096x128_S8x4096x8x128_0_2_1_3) shapeCasts_S8x4096x8x128_S32768x1024) (ix2 R L) = x (ix5 ⟨R.val / 4096, by omega⟩ ⟨L.val / 128, by omega⟩ ⟨R.val % 4096 / 64, by omega⟩ ⟨R.val % 4096 % 64, by omega⟩ ⟨L.val % 128, by omega⟩)
       + y (ix5 ⟨R.val / 4096, by omega⟩ ⟨L.val / 128, by omega⟩ ⟨R.val % 4096 / 64, by omega⟩ ⟨R.val % 4096 % 64, by omega⟩ ⟨L.val % 128, by omega⟩) := by
  pointwise

/-- The reference is `naOut`, at every row and column. -/
theorem out_ap (R : Fin 32768) (L : Fin 1024) :
    out P K V gq gk B (ix2 R L) = naOut P K V gq gk B ⟨R.val / 4096, by omega⟩ ⟨L.val / 128, by omega⟩ ⟨R.val % 4096, by omega⟩ ⟨L.val % 128, by omega⟩ := by
  refine (out_gen _ _ R L).trans ((sum_ap P K V gq gk B _ _ _ _ _).trans ?_)
  congr 1
  apply Fin.ext
  show 64 * (R.val % 4096 / 64) + R.val % 4096 % 64 = R.val % 4096
  omega

end Cert.NaRef
end
end
-- ==== Proof.Up.lean ====
/- The first half of the feed-forward part: the modulated norm, computed once per block of rows and kept for the blocks
   of columns after it, and the squared rectified product; the reference computes the same. -/
module

public import proofs.«01_k».proof.Proof.Gen.Kernel2Ideal.Value
public import proofs.«01_k».proof.Proof.Gen.Reference2Ideal.Run
public import Idealize.ShloMosaic.Lib.Pointwise
public import Idealize.ShloMosaic.Lib.VecWindow

set_option maxRecDepth 16384

@[expose] public section
noncomputable section
namespace Cert.Up
open Idealize.ShloMosaic Idealize.ShloMosaic.TcCoe Idealize.ShloMosaic.Tactic

/-- The modulated norm of a row, from the row, the gain, the scale and the shift, at a column. -/
def nrm (x g sc sh : Fin 2048 → EReal) (k : Fin 2048) : EReal :=
  x k * Ideal.rsqrt (Ideal.div (∑ l, x l * x l) (Ideal.ofBits FTy.f32 1157627904#32) + Ideal.ofBits FTy.f32 897988541#32) * g k * (1 + sc k) + sh k

/-- The square of the rectified product. -/
def act (h w : Fin 2048 → EReal) : EReal := max (∑ k, h k * w k) 0 * max (∑ k, h k * w k) 0

/-- The normed entry of the whole array at a row and a column. -/
def hid (x : FVec Ideal ⟨2, ![32768, 2048]⟩ .f32) (g : FVec Ideal ⟨1, ![2048]⟩ .f32) (sc sh : FVec Ideal ⟨3, ![8, 1, 2048]⟩ .f32)
    (R : Fin 32768) : Fin 2048 → EReal :=
  nrm (fun k => x (ix2 R k)) (fun k => g (ix1 k)) (fun k => sc (ix3 ⟨R.val / 4096, by omega⟩ 0 k)) (fun k => sh (ix3 ⟨R.val / 4096, by omega⟩ 0 k))

/-- The activation at a row and a column. -/
def val (x : FVec Ideal ⟨2, ![32768, 2048]⟩ .f32) (g : FVec Ideal ⟨1, ![2048]⟩ .f32) (sc sh : FVec Ideal ⟨3, ![8, 1, 2048]⟩ .f32)
    (w : FVec Ideal ⟨2, ![2048, 8192]⟩ .f32) (R : Fin 32768) (L : Fin 8192) : EReal :=
  act (hid x g sc sh R) (fun k => w (ix2 k L))

/-- A load of a whole buffer reads what it holds. -/
theorem read_all {sig : RefSig} {κ : Kind} {sp : Space} {s : Shape} {e : EltTy} {Val : EltTy → Type} {r : Memref sig κ sp s e} (h : r.IsWhole)
    (X : s.Idx → Val e) {off : Fin s.rank → ℕ} (inb : ∀ a, off a + s.size a ≤ s.size a) :
    r.view.readAt Val (Rect.unit off s.size inb).toLoadRect (h.unread X) = X :=
  (View.readAt_full _ _ inb).trans (h.read_unread X)

section Kernel
open Cert.Kernel2Ideal Cert.Kernel2Ideal.Gen Cert.Kernel2Ideal.Facts

theorem pay1_ap (x : FVec Ideal S512x2048 .f32) (g : FVec Ideal S1x2048 .f32) (sc sh : FVec Ideal S1x1x2048 .f32) (i : Fin 512) (k : Fin 2048) :
    k0_pay1 (F := Ideal) x g sc sh (ix2 i k)
      = nrm (fun k => x (ix2 i k)) (fun k => g (ix2 0 k)) (fun k => sc (ix3 0 0 k)) (fun k => sh (ix3 0 0 k)) k := by
  unfold nrm
  pointwise [k0_pay1]

theorem pay2_ap (h : FVec Ideal S512x2048 .bf16) (w : FVec Ideal S2048x2048 .bf16) (i : Fin 512) (j : Fin 2048) :
    k0_pay2 (F := Ideal) h w (ix2 i j) = act (fun k => h (ix2 i k)) (fun k => w (ix2 k j)) := by
  unfold act
  pointwise [k0_pay2]

variable (m : (ℓ : Loc nD τ sig) → Buf (Elt Ideal) ℓ) (c : Dev nD)

/-- At the first block of columns the norm is stored, … -/
theorem keep_first (t : Fin cfg0.N) (h0 : t.val % 4 = 0) :
    (outsAt0 m c t.val t.isLt).2 = k0_pay1 (F := Ideal) (iblk m c 0 t) (iblk m c 1 t) (iblk m c 2 t) (iblk m c 3 t) := by
  rw [outsAt0_A m c t h0]
  dsimp only
  unfold sout0_A_0 kernelRun0_A
  dsimp only
  unfold kernelRun0_A.sl.HS0_1
  rw [View.read_writes_full, read_all, read_all, read_all, read_all]

/-- … and at the others it stays. -/
theorem keep_next (t : Fin cfg0.N) (h0 : ¬ t.val % 4 = 0) :
    (outsAt0 m c t.val t.isLt).2 = (outsAt0 m c (t.val - 1) (Nat.lt_of_le_of_lt (Nat.sub_le _ _) t.isLt)).2 := by
  rw [outsAt0_B m c t h0]
  rfl

theorem out_first (t : Fin cfg0.N) (h0 : t.val % 4 = 0) :
    (outsAt0 m c t.val t.isLt).1 = k0_pay2 (F := Ideal) (outsAt0 m c t.val t.isLt).2 (iblk m c 4 t) := by
  rw [keep_first m c t h0, outsAt0_A m c t h0]
  dsimp only
  unfold out0_A_5 kernelRun0_A
  dsimp only
  unfold kernelRun0_A.sl.v3 kernelRun0_A.sl.HS0_1
  rw [View.read_writes_full, View.readCov_full, read_all, read_all, read_all, read_all, read_all]

theorem out_next (t : Fin cfg0.N) (h0 : ¬ t.val % 4 = 0) :
    (outsAt0 m c t.val t.isLt).1 = k0_pay2 (F := Ideal) (outsAt0 m c t.val t.isLt).2 (iblk m c 4 t) := by
  rw [keep_next m c t h0, outsAt0_B m c t h0]
  dsimp only
  unfold out0_B_5 kernelRun0_B
  dsimp only
  rw [View.read_writes_full]
  exact congrArg₂ (k0_pay2 (F := Ideal)) (read_all _ _ _) (read_all _ _ _)

theorem flush5 (t : Fin cfg0.N) : (cfg0.win 5).flush t = true := (by decide +kernel : ∀ t : Fin grid0.N, win0_5.flush t = true) t
theorem index0 : ∀ t : Fin grid0.N, win0_0.index t = ![t.val / 4, 0] := by decide +kernel
theorem index1 : ∀ t : Fin grid0.N, win0_1.index t = ![0, 0] := by decide +kernel
theorem index2 : ∀ t : Fin grid0.N, win0_2.index t = ![t.val / 32, 0, 0] := by decide +kernel
theorem index3 : ∀ t : Fin grid0.N, win0_3.index t = ![t.val / 32, 0, 0] := by decide +kernel
theorem index4 : ∀ t : Fin grid0.N, win0_4.index t = ![0, t.val % 4] := by decide +kernel
theorem index5 : ∀ t : Fin grid0.N, win0_5.index t = ![t.val / 4, t.val % 4] := by decide +kernel

/-- Two points write different blocks. -/
theorem disj (t t' : Fin cfg0.N) (_ : (cfg0.win 5).flush t = true) (_ : (cfg0.win 5).flush t' = true) (hne : t ≠ t') :
    Disjoint ((cfg0.win 5).blk t).view.set ((cfg0.win 5).blk t').view.set :=
  (cfg0.win 5).disjoint_blk fun h => hne (by
    have h' : win0_5.index t = win0_5.index t' := h
    rw [index5, index5] at h'
    have h0 : t.val / 4 = t'.val / 4 := congrFun h' 0
    have h1 : t.val % 4 = t'.val % 4 := congrFun h' 1
    exact Fin.ext (by omega))

/-- The weights as the region finds them are the argument, … -/
theorem V_w (i : S2048x8192.Idx) : V m c main_v1 i = m ((c : Thread nD τ).loc main_arg4) i := by
  have h : V m c main_v1 = (truncf .bf16 (m ((c : Thread nD τ).loc main_arg4)) bitsLt_bf16_f32 : FVec Ideal S2048x8192 .bf16) := by
    unfold V
    simp only [hostOps0, StableHlo.TRef.ternary, StableHlo.TRef.unary, StableHlo.TRef.toBuf, StableHlo.TRef.ofBuf, cast_eq]
    after_results_simp
  rw [h]
  rfl

/-- … and the gain is the argument as one row. -/
theorem V_g (k : Fin 2048) : V m c main_v0 (ix2 0 k) = m ((c : Thread nD τ).loc main_arg1) (ix1 k) := by
  have h : V m c main_v0 = (broadcastInDim S1x2048 ![1] bcast_S2048_S1x2048_1 (m ((c : Thread nD τ).loc main_arg1)) : FVec Ideal S1x2048 .f32) := by
    unfold V
    simp only [hostOps0, StableHlo.TRef.ternary, StableHlo.TRef.unary, StableHlo.TRef.toBuf, StableHlo.TRef.ofBuf, cast_eq]
    after_results_simp
  rw [h]
  generalize m ((c : Thread nD τ).loc main_arg1) = g
  change FVec Ideal S2048 .f32 at g
  pointwise

theorem blk0 (t : Fin cfg0.N) (a : Fin 512) (k : Fin 2048) (h : 512 * (t.val / 4) + a.val < 32768) :
    iblk m c 0 t (ix2 a k) = m ((c : Thread nD τ).loc main_arg0) (ix2 ⟨512 * (t.val / 4) + a.val, h⟩ k) := by
  refine (congrFun (V_main_arg0 m c) _).trans (congrArg (m ((c : Thread nD τ).loc main_arg0)) ?_)
  funext x
  match x with
  | ⟨0, _⟩ => apply Fin.ext; show win0_0.index t 0 * 512 + 1 * a.val = 512 * (t.val / 4) + a.val; rw [index0]; show t.val / 4 * 512 + 1 * a.val = _; omega
  | ⟨1, _⟩ => apply Fin.ext; show win0_0.index t 1 * 2048 + 1 * k.val = k.val; rw [index0]; show 0 * 2048 + 1 * k.val = _; omega

theorem blk1 (t : Fin cfg0.N) (k : Fin 2048) :
    iblk m c 1 t (ix2 0 k) = m ((c : Thread nD τ).loc main_arg1) (ix1 k) := by
  refine Eq.trans (congrArg (V m c main_v0) ?_) (V_g m c k)
  funext x
  match x with
  | ⟨0, _⟩ => apply Fin.ext; show win0_1.index t 0 * 1 + 1 * 0 = 0; rw [index1]; rfl
  | ⟨1, _⟩ => apply Fin.ext; show win0_1.index t 1 * 2048 + 1 * k.val = k.val; rw [index1]; show 0 * 2048 + 1 * k.val = _; omega

theorem blk2 (t : Fin cfg0.N) (k : Fin 2048) (h : t.val / 32 < 8) :
    iblk m c 2 t (ix3 0 0 k) = m ((c : Thread nD τ).loc main_arg2) (ix3 ⟨t.val / 32, h⟩ 0 k) := by
  refine (congrFun (V_main_arg2 m c) _).trans (congrArg (m ((c : Thread nD τ).loc main_arg2)) ?_)
  funext x
  match x with
  | ⟨0, _⟩ => apply Fin.ext; show win0_2.index t 0 * 1 + 1 * 0 = t.val / 32; rw [index2]; show t.val / 32 * 1 + 1 * 0 = _; omega
  | ⟨1, _⟩ => apply Fin.ext; show win0_2.index t 1 * 1 + 1 * 0 = 0; rw [index2]; rfl
  | ⟨2, _⟩ => apply Fin.ext; show win0_2.index t 2 * 2048 + 1 * k.val = k.val; rw [index2]; show 0 * 2048 + 1 * k.val = _; omega

theorem blk3 (t : Fin cfg0.N) (k : Fin 2048) (h : t.val / 32 < 8) :
    iblk m c 3 t (ix3 0 0 k) = m ((c : Thread nD τ).loc main_arg3) (ix3 ⟨t.val / 32, h⟩ 0 k) := by
  refine (congrFun (V_main_arg3 m c) _).trans (congrArg (m ((c : Thread nD τ).loc main_arg3)) ?_)
  funext x
  match x with
  | ⟨0, _⟩ => apply Fin.ext; show win0_3.index t 0 * 1 + 1 * 0 = t.val / 32; rw [index3]; show t.val / 32 * 1 + 1 * 0 = _; omega
  | ⟨1, _⟩ => apply Fin.ext; show win0_3.index t 1 * 1 + 1 * 0 = 0; rw [index3]; rfl
  | ⟨2, _⟩ => apply Fin.ext; show win0_3.index t 2 * 2048 + 1 * k.val = k.val; rw [index3]; show 0 * 2048 + 1 * k.val = _; omega

theorem blk4 (t : Fin cfg0.N) (k : Fin 2048) (j : Fin 2048) :
    iblk m c 4 t (ix2 k j) = m ((c : Thread nD τ).loc main_arg4) (ix2 k ⟨2048 * (t.val % 4) + j.val, by omega⟩) := by
  refine (V_w m c _).trans (congrArg (m ((c : Thread nD τ).loc main_arg4)) ?_)
  funext x
  match x with
  | ⟨0, _⟩ => apply Fin.ext; show win0_4.index t 0 * 2048 + 1 * k.val = k.val; rw [index4]; show 0 * 2048 + 1 * k.val = _; omega
  | ⟨1, _⟩ => apply Fin.ext; show win0_4.index t 1 * 2048 + 1 * j.val = 2048 * (t.val % 4) + j.val; rw [index4]; show t.val % 4 * 2048 + 1 * j.val = _; omega

/-- The normed entries of the arguments. -/
def hidm (R : Fin 32768) : Fin 2048 → EReal :=
  hid (m ((c : Thread nD τ).loc main_arg0)) (m ((c : Thread nD τ).loc main_arg1)) (m ((c : Thread nD τ).loc main_arg2))
    (m ((c : Thread nD τ).loc main_arg3)) R

/-- The stored norm is the norm of the block's rows. -/
theorem pay1_hid (t : Fin cfg0.N) (a : Fin 512) (k : Fin 2048) (h : 512 * (t.val / 4) + a.val < 32768) :
    k0_pay1 (F := Ideal) (iblk m c 0 t) (iblk m c 1 t) (iblk m c 2 t) (iblk m c 3 t) (ix2 a k) = hidm m c ⟨512 * (t.val / 4) + a.val, h⟩ k := by
  refine (pay1_ap _ _ _ _ a k).trans ?_
  unfold hidm hid
  have e0 : (fun k => iblk m c 0 t (ix2 a k)) = _ := funext fun k => blk0 m c t a k h
  have e1 : (fun k => iblk m c 1 t (ix2 0 k)) = _ := funext fun k => blk1 m c t k
  have hb : t.val / 32 < 8 := by omega
  have hB : (⟨t.val / 32, hb⟩ : Fin 8) = ⟨(512 * (t.val / 4) + a.val) / 4096, by omega⟩ := Fin.ext (by show t.val / 32 = (512 * (t.val / 4) + a.val) / 4096; omega)
  have e2 : (fun k => iblk m c 2 t (ix3 0 0 k)) = _ := funext fun k => blk2 m c t k hb
  have e3 : (fun k => iblk m c 3 t (ix3 0 0 k)) = _ := funext fun k => blk3 m c t k hb
  rw [hB] at e2 e3
  exact congrFun (congr (congr (congr (congrArg nrm e0) e1) e2) e3) k

/-- What is kept after a point is the norm of the point's block of rows. -/
theorem kept (n : ℕ) : ∀ (hn : n < cfg0.N) (a : Fin 512) (k : Fin 2048) (h : 512 * (n / 4) + a.val < 32768),
    (outsAt0 m c n hn).2 (ix2 a k) = hidm m c ⟨512 * (n / 4) + a.val, h⟩ k := by
  induction n with
  | zero =>
    intro hn a k h
    exact (congrFun (keep_first m c ⟨0, hn⟩ rfl) (ix2 a k)).trans (pay1_hid m c ⟨0, hn⟩ a k h)
  | succ n ih =>
    intro hn a k h
    by_cases h0 : (n + 1) % 4 = 0
    · exact (congrFun (keep_first m c ⟨n + 1, hn⟩ h0) (ix2 a k)).trans (pay1_hid m c ⟨n + 1, hn⟩ a k h)
    · have hq : n / 4 = (n + 1) / 4 := by omega
      refine (congrFun (keep_next m c ⟨n + 1, hn⟩ h0) (ix2 a k)).trans ((ih (by omega) a k (by omega)).trans ?_)
      exact congrArg (fun R => hidm m c R k) (Fin.ext (by show 512 * (n / 4) + a.val = 512 * ((n + 1) / 4) + a.val; rw [hq]))

theorem out_eq (t : Fin cfg0.N) :
    (outsAt0 m c t.val t.isLt).1 = k0_pay2 (F := Ideal) (outsAt0 m c t.val t.isLt).2 (iblk m c 4 t) := by
  by_cases h0 : t.val % 4 = 0
  · exact out_first m c t h0
  · exact out_next m c t h0

/-- The output array after the run, at a row and a column. -/
theorem arr_ap (R : Fin 32768) (L : Fin 8192) :
    (dats m 0 c).arrAt 5 cfg0.N (ix2 R L)
      = val (m ((c : Thread nD τ).loc main_arg0)) (m ((c : Thread nD τ).loc main_arg1)) (m ((c : Thread nD τ).loc main_arg2))
          (m ((c : Thread nD τ).loc main_arg3)) (m ((c : Thread nD τ).loc main_arg4)) R L := by
  let t : Fin cfg0.N := (⟨R.val / 512 * 4 + L.val / 2048, by show _ < 256; omega⟩ : Fin 256)
  have htv : t.val = R.val / 512 * 4 + L.val / 2048 := rfl
  let a : Fin 512 := ⟨R.val % 512, by omega⟩
  let j : Fin 2048 := ⟨L.val % 2048, by omega⟩
  have e := congrFun ((dats m 0 c).read_blk_arrAt_eq_flushed 5 disj cfg0.N t t.isLt (flush5 t)) (ix2 a j)
  rw [Value.flushed5, out_eq] at e
  have ei : ((cfg0.win 5).blk t).view.emb (ix2 a j) = ix2 R L := by
    funext x
    match x with
    | ⟨0, _⟩ => apply Fin.ext; show win0_5.index t 0 * 512 + 1 * (R.val % 512) = R.val; rw [index5]; show t.val / 4 * 512 + 1 * (R.val % 512) = _; omega
    | ⟨1, _⟩ => apply Fin.ext; show win0_5.index t 1 * 2048 + 1 * (L.val % 2048) = L.val; rw [index5]; show t.val % 4 * 2048 + 1 * (L.val % 2048) = _; omega
  rw [← ei]
  refine e.trans ((pay2_ap _ _ a j).trans ?_)
  have hR : 512 * (t.val / 4) + a.val = R.val := by show 512 * (t.val / 4) + R.val % 512 = R.val; omega
  have hL : 2048 * (t.val % 4) + j.val = L.val := by show 2048 * (t.val % 4) + L.val % 2048 = L.val; omega
  have eR : (⟨512 * (t.val / 4) + a.val, by omega⟩ : Fin 32768) = R := Fin.ext hR
  have eL : (⟨2048 * (t.val % 4) + j.val, by omega⟩ : Fin 8192) = L := Fin.ext hL
  have e1 : (fun k => (outsAt0 m c t.val t.isLt).2 (ix2 a k)) = hidm m c R :=
    funext fun k => (kept m c t.val t.isLt a k (by omega)).trans (congrArg (fun R => hidm m c R k) eR)
  have e2 : (fun k => iblk m c 4 t (ix2 k j)) = fun k => m ((c : Thread nD τ).loc main_arg4) (ix2 k L) :=
    funext fun k => (blk4 m c t k j).trans (congrArg (fun L => m ((c : Thread nD τ).loc main_arg4) (ix2 k L)) eL)
  exact congr (congrArg act e1) e2

end Kernel

section Reference
open Cert.Reference2Ideal Cert.Reference2Ideal.Gen Cert.Reference2Ideal.Facts

/-- The reference's modulated norm. -/
def rnorm (x : FVec Ideal S32768x2048 .f32) (g : FVec Ideal S2048 .f32) (sc sh : FVec Ideal S8x1x2048 .f32) : FVec Ideal S8x4096x2048 .f32 :=
  addf (mulf (mulf (mulf (shapeCast S8x4096x2048 x shapeCasts_S32768x2048_S8x4096x2048) (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf (shapeCast S8x4096x2048 x shapeCasts_S32768x2048_S8x4096x2048) (shapeCast S8x4096x2048 x shapeCasts_S32768x2048_S8x4096x2048)) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 g))) (broadcastInDim S8x4096x2048 ![0, 1, 2] bcast_S8x1x2048_S8x4096x2048_0_1_2 (addf (broadcastInDim S8x1x2048 ![] bcast_S_S8x1x2048 (constant S_ .f32 0x3F800000#32)) sc))) (broadcastInDim S8x4096x2048 ![0, 1, 2] bcast_S8x1x2048_S8x4096x2048_0_1_2 sh)

/-- The reference's activation of a normed array. -/
def ract (h : FVec Ideal S8x4096x2048 .f32) (w : FVec Ideal S2048x8192 .f32) : FVec Ideal S32768x8192 .bf16 :=
  truncf .bf16 (shapeCast S32768x8192 (mulf (maximumf (Host.dotGeneral dot_S8x4096x2048_S2048x8192_S8x4096x8192_2_0_01_1_n_n none h w) (broadcastInDim S8x4096x8192 ![] bcast_S_S8x4096x8192 (constant S_ .f32 0x00000000#32))) (maximumf (Host.dotGeneral dot_S8x4096x2048_S2048x8192_S8x4096x8192_2_0_01_1_n_n none h w) (broadcastInDim S8x4096x8192 ![] bcast_S_S8x4096x8192 (constant S_ .f32 0x00000000#32)))) shapeCasts_S8x4096x8192_S32768x8192) bitsLt_bf16_f32

/-- What the reference computes. -/
def out (x : FVec Ideal S32768x2048 .f32) (g : FVec Ideal S2048 .f32) (sc sh : FVec Ideal S8x1x2048 .f32) (w : FVec Ideal S2048x8192 .f32) :
    FVec Ideal S32768x8192 .bf16 :=
  ract (rnorm x g sc sh) w

theorem rnorm_ap (x : FVec Ideal S32768x2048 .f32) (g : FVec Ideal S2048 .f32) (sc sh : FVec Ideal S8x1x2048 .f32) (b : Fin 8) (r : Fin 4096) (k : Fin 2048) :
    rnorm x g sc sh (ix3 b r k)
      = nrm (fun k => x (ix2 ⟨b.val * 4096 + r.val, by omega⟩ k)) (fun k => g (ix1 k)) (fun k => sc (ix3 b 0 k)) (fun k => sh (ix3 b 0 k)) k := by
  unfold rnorm nrm
  pointwise

theorem ract_ap (h : FVec Ideal S8x4096x2048 .f32) (w : FVec Ideal S2048x8192 .f32) (R : Fin 32768) (L : Fin 8192) :
    ract h w (ix2 R L) = act (fun k => h (ix3 ⟨R.val / 4096, by omega⟩ ⟨R.val % 4096, by omega⟩ k)) (fun k => w (ix2 k L)) := by
  unfold ract act
  pointwise

theorem out_ap (x : FVec Ideal S32768x2048 .f32) (g : FVec Ideal S2048 .f32) (sc sh : FVec Ideal S8x1x2048 .f32) (w : FVec Ideal S2048x8192 .f32)
    (R : Fin 32768) (L : Fin 8192) : out x g sc sh w (ix2 R L) = val x g sc sh w R L := by
  refine (ract_ap _ w R L).trans (congrArg (fun h => act h fun k => w (ix2 k L)) (funext fun k => (rnorm_ap x g sc sh _ _ k).trans ?_))
  unfold hid
  have e : (⟨R.val / 4096 * 4096 + R.val % 4096, by omega⟩ : Fin 32768) = R := Fin.ext (by show R.val / 4096 * 4096 + R.val % 4096 = R.val; omega)
  exact congrArg (fun R' : Fin 32768 => nrm (fun k => x (ix2 R' k)) (fun k => g (ix1 k)) (fun k => sc (ix3 ⟨R.val / 4096, by omega⟩ 0 k)) (fun k => sh (ix3 ⟨R.val / 4096, by omega⟩ 0 k)) k) e

/-- The reference's run ends with `out` of its arguments, which are unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Value.run m ρ)

end Reference

/-- The kernel's result is the reference's function of the same arguments. -/
theorem value (m : (ℓ : Loc Cert.Kernel2Ideal.nD Cert.Kernel2Ideal.τ Cert.Kernel2Ideal.sig) → Buf (Elt Ideal) ℓ) (c : Dev Cert.Kernel2Ideal.nD) :
    (Cert.Kernel2Ideal.Gen.dats m 0 c).arrAt 5 Cert.Kernel2Ideal.cfg0.N
      = out (m ((c.tc : Thread Cert.Kernel2Ideal.nD Cert.Kernel2Ideal.τ).loc Cert.Kernel2Ideal.main_arg0))
          (m ((c.tc : Thread Cert.Kernel2Ideal.nD Cert.Kernel2Ideal.τ).loc Cert.Kernel2Ideal.main_arg1))
          (m ((c.tc : Thread Cert.Kernel2Ideal.nD Cert.Kernel2Ideal.τ).loc Cert.Kernel2Ideal.main_arg2))
          (m ((c.tc : Thread Cert.Kernel2Ideal.nD Cert.Kernel2Ideal.τ).loc Cert.Kernel2Ideal.main_arg3))
          (m ((c.tc : Thread Cert.Kernel2Ideal.nD Cert.Kernel2Ideal.τ).loc Cert.Kernel2Ideal.main_arg4)) := by
  funext i
  have hi : i = ix2 (i 0) (i 1) := by
    funext x
    match x with
    | ⟨0, _⟩ => rfl
    | ⟨1, _⟩ => rfl
  rw [hi]
  exact (arr_ap m c (i 0) (i 1)).trans (out_ap _ _ _ _ _ (i 0) (i 1)).symm

end Cert.Up
end
end
-- ==== Proof.Down.lean ====
/- The second half of the feed-forward part: what the kernel's output holds, and that the reference computes the same. -/
module

public import proofs.«01_k».proof.Proof.Gen.Kernel3Ideal.Value
public import proofs.«01_k».proof.Proof.Gen.Reference3Ideal.Run
public import Idealize.ShloMosaic.Lib.Pointwise

set_option maxRecDepth 16384

@[expose] public section
noncomputable section
namespace Cert.Down
open Idealize.ShloMosaic Idealize.ShloMosaic.TcCoe Idealize.ShloMosaic.Tactic

/-- The entry at a row and a column: the residual and the gated product. -/
def val (u : FVec Ideal ⟨2, ![32768, 8192]⟩ .bf16) (w : FVec Ideal ⟨2, ![8192, 2048]⟩ .f32) (g : FVec Ideal ⟨3, ![8, 1, 2048]⟩ .f32)
    (x : FVec Ideal ⟨2, ![32768, 2048]⟩ .f32) (R : Fin 32768) (L : Fin 2048) : EReal :=
  x (ix2 R L) + g (ix3 ⟨R.val / 4096, by omega⟩ 0 L) * ∑ k : Fin 8192, u (ix2 R k) * w (ix2 k L)

section Kernel
open Cert.Kernel3Ideal Cert.Kernel3Ideal.Gen Cert.Kernel3Ideal.Facts

/-- The body's result at an index of the block. -/
theorem pay_ap (a : FVec Ideal S512x8192 .bf16) (w : FVec Ideal S8192x512 .bf16) (r : FVec Ideal S512x512 .f32) (g : FVec Ideal S1x1x512 .f32)
    (i : Fin 512) (j : Fin 512) :
    k0_pay1 (F := Ideal) a w r g (ix2 i j) = r (ix2 i j) + g (ix3 0 0 j) * ∑ k, a (ix2 i k) * w (ix2 k j) := by
  pointwise [k0_pay1]

theorem z2 : (![0, 0] : Fin 2 → ℕ) = fun _ => 0 := by decide
theorem z3 : (![0, 0, 0] : Fin 3 → ℕ) = fun _ => 0 := by decide

/-- One store of the whole block: the body's result is its payload of the blocks read. -/
theorem out_eq (a : FVec Ideal S512x8192 .bf16) (w : FVec Ideal S8192x512 .bf16) (g : FVec Ideal S1x1x512 .f32) (r : FVec Ideal S512x512 .f32) :
    out0_4 (F := Ideal) a w g r = k0_pay1 (F := Ideal) a w r g := by
  refine (View.canon_unit_zero z2 _ _).trans ?_
  rw [View.ld_unit_zero z2, View.ld_unit_zero z2, View.ld_unit_zero z2, View.ld_unit_zero z3]

variable (m : (ℓ : Loc nD τ sig) → Buf (Elt Ideal) ℓ) (c : Dev nD)

theorem flush4 (t : Fin cfg0.N) : (cfg0.win 4).flush t = true := (by decide +kernel : ∀ t : Fin grid0.N, win0_4.flush t = true) t
theorem index0 : ∀ t : Fin grid0.N, win0_0.index t = ![t.val / 4, 0] := by decide +kernel
theorem index1 : ∀ t : Fin grid0.N, win0_1.index t = ![0, t.val % 4] := by decide +kernel
theorem index2 : ∀ t : Fin grid0.N, win0_2.index t = ![t.val / 32, 0, t.val % 4] := by decide +kernel
theorem index3 : ∀ t : Fin grid0.N, win0_3.index t = ![t.val / 4, t.val % 4] := by decide +kernel
theorem index4 : ∀ t : Fin grid0.N, win0_4.index t = ![t.val / 4, t.val % 4] := by decide +kernel

/-- Two points write different blocks. -/
theorem disj (t t' : Fin cfg0.N) (_ : (cfg0.win 4).flush t = true) (_ : (cfg0.win 4).flush t' = true) (hne : t ≠ t') :
    Disjoint ((cfg0.win 4).blk t).view.set ((cfg0.win 4).blk t').view.set :=
  (cfg0.win 4).disjoint_blk fun h => hne (by
    have h' : win0_4.index t = win0_4.index t' := h
    rw [index4, index4] at h'
    have h0 : t.val / 4 = t'.val / 4 := congrFun h' 0
    have h1 : t.val % 4 = t'.val % 4 := congrFun h' 1
    exact Fin.ext (by omega))

/-- The weights as the region finds them are the argument. -/
theorem V_w (i : S8192x2048.Idx) : V m c main_v0 i = m ((c : Thread nD τ).loc main_arg1) i := by
  have h : V m c main_v0 = (truncf .bf16 (m ((c : Thread nD τ).loc main_arg1)) bitsLt_bf16_f32 : FVec Ideal S8192x2048 .bf16) := by
    unfold V
    simp only [hostOps0, StableHlo.TRef.ternary, StableHlo.TRef.unary, StableHlo.TRef.toBuf, StableHlo.TRef.ofBuf, cast_eq]
    after_results_simp
  rw [h]
  rfl

theorem blk0 (t : Fin cfg0.N) (a : Fin 512) (k : Fin 8192) (h : 512 * (t.val / 4) + a.val < 32768) :
    iblk m c 0 t (ix2 a k) = m ((c : Thread nD τ).loc main_arg0) (ix2 ⟨512 * (t.val / 4) + a.val, h⟩ k) := by
  refine (congrFun (V_main_arg0 m c) _).trans (congrArg (m ((c : Thread nD τ).loc main_arg0)) ?_)
  funext x
  match x with
  | ⟨0, _⟩ => apply Fin.ext; show win0_0.index t 0 * 512 + 1 * a.val = 512 * (t.val / 4) + a.val; rw [index0]; show t.val / 4 * 512 + 1 * a.val = _; omega
  | ⟨1, _⟩ => apply Fin.ext; show win0_0.index t 1 * 8192 + 1 * k.val = k.val; rw [index0]; show 0 * 8192 + 1 * k.val = _; omega

theorem blk1 (t : Fin cfg0.N) (k : Fin 8192) (j : Fin 512) :
    iblk m c 1 t (ix2 k j) = m ((c : Thread nD τ).loc main_arg1) (ix2 k ⟨512 * (t.val % 4) + j.val, by omega⟩) := by
  refine (V_w m c _).trans (congrArg (m ((c : Thread nD τ).loc main_arg1)) ?_)
  funext x
  match x with
  | ⟨0, _⟩ => apply Fin.ext; show win0_1.index t 0 * 8192 + 1 * k.val = k.val; rw [index1]; show 0 * 8192 + 1 * k.val = _; omega
  | ⟨1, _⟩ => apply Fin.ext; show win0_1.index t 1 * 512 + 1 * j.val = 512 * (t.val % 4) + j.val; rw [index1]; show t.val % 4 * 512 + 1 * j.val = _; omega

theorem blk2 (t : Fin cfg0.N) (j : Fin 512) (h : t.val / 32 < 8) :
    iblk m c 2 t (ix3 0 0 j) = m ((c : Thread nD τ).loc main_arg2) (ix3 ⟨t.val / 32, h⟩ 0 ⟨512 * (t.val % 4) + j.val, by omega⟩) := by
  refine (congrFun (V_main_arg2 m c) _).trans (congrArg (m ((c : Thread nD τ).loc main_arg2)) ?_)
  funext x
  match x with
  | ⟨0, _⟩ => apply Fin.ext; show win0_2.index t 0 * 1 + 1 * 0 = t.val / 32; rw [index2]; show t.val / 32 * 1 + 1 * 0 = _; omega
  | ⟨1, _⟩ => apply Fin.ext; show win0_2.index t 1 * 1 + 1 * 0 = 0; rw [index2]; rfl
  | ⟨2, _⟩ => apply Fin.ext; show win0_2.index t 2 * 512 + 1 * j.val = 512 * (t.val % 4) + j.val; rw [index2]; show t.val % 4 * 512 + 1 * j.val = _; omega

theorem blk3 (t : Fin cfg0.N) (a : Fin 512) (j : Fin 512) (h : 512 * (t.val / 4) + a.val < 32768) :
    iblk m c 3 t (ix2 a j) = m ((c : Thread nD τ).loc main_arg3) (ix2 ⟨512 * (t.val / 4) + a.val, h⟩ ⟨512 * (t.val % 4) + j.val, by omega⟩) := by
  refine (congrFun (V_main_arg3 m c) _).trans (congrArg (m ((c : Thread nD τ).loc main_arg3)) ?_)
  funext x
  match x with
  | ⟨0, _⟩ => apply Fin.ext; show win0_3.index t 0 * 512 + 1 * a.val = 512 * (t.val / 4) + a.val; rw [index3]; show t.val / 4 * 512 + 1 * a.val = _; omega
  | ⟨1, _⟩ => apply Fin.ext; show win0_3.index t 1 * 512 + 1 * j.val = 512 * (t.val % 4) + j.val; rw [index3]; show t.val % 4 * 512 + 1 * j.val = _; omega

/-- The output array after the run, at a row and a column. -/
theorem arr_ap (R : Fin 32768) (L : Fin 2048) :
    (dats m 0 c).arrAt 4 cfg0.N (ix2 R L)
      = val (m ((c : Thread nD τ).loc main_arg0)) (m ((c : Thread nD τ).loc main_arg1)) (m ((c : Thread nD τ).loc main_arg2))
          (m ((c : Thread nD τ).loc main_arg3)) R L := by
  let t : Fin cfg0.N := (⟨R.val / 512 * 4 + L.val / 512, by show _ < 256; omega⟩ : Fin 256)
  have htv : t.val = R.val / 512 * 4 + L.val / 512 := rfl
  let a : Fin 512 := ⟨R.val % 512, by omega⟩
  let j : Fin 512 := ⟨L.val % 512, by omega⟩
  have e := congrFun ((dats m 0 c).read_blk_arrAt_eq_flushed 4 disj cfg0.N t t.isLt (flush4 t)) (ix2 a j)
  rw [Value.flushed4, out_eq] at e
  have ei : ((cfg0.win 4).blk t).view.emb (ix2 a j) = ix2 R L := by
    funext x
    match x with
    | ⟨0, _⟩ => apply Fin.ext; show win0_4.index t 0 * 512 + 1 * (R.val % 512) = R.val; rw [index4]; show t.val / 4 * 512 + 1 * (R.val % 512) = _; omega
    | ⟨1, _⟩ => apply Fin.ext; show win0_4.index t 1 * 512 + 1 * (L.val % 512) = L.val; rw [index4]; show t.val % 4 * 512 + 1 * (L.val % 512) = _; omega
  rw [← ei]
  refine e.trans ((pay_ap _ _ _ _ a j).trans ?_)
  have hR : 512 * (t.val / 4) + a.val = R.val := by show 512 * (t.val / 4) + R.val % 512 = R.val; omega
  have hL : 512 * (t.val % 4) + j.val = L.val := by show 512 * (t.val % 4) + L.val % 512 = L.val; omega
  have hB : t.val / 32 = R.val / 4096 := by omega
  have eR : (⟨512 * (t.val / 4) + a.val, by omega⟩ : Fin 32768) = R := Fin.ext hR
  have eL : (⟨512 * (t.val % 4) + j.val, by omega⟩ : Fin 2048) = L := Fin.ext hL
  have eB : (⟨t.val / 32, by omega⟩ : Fin 8) = ⟨R.val / 4096, by omega⟩ := Fin.ext hB
  have e3 := blk3 m c t a j (by omega)
  have e2 := blk2 m c t j (by omega)
  have e1 := fun k => blk1 m c t k j
  have e0 := fun k => blk0 m c t a k (by omega)
  rw [eR, eL] at e3
  rw [eB, eL] at e2
  simp only [eL] at e1
  simp only [eR] at e0
  unfold val
  exact congrArg₂ (· + ·) e3 (congrArg₂ (· * ·) e2 (Finset.sum_congr rfl fun k _ => congrArg₂ (· * ·) (e0 k) (e1 k)))

end Kernel

section Reference
open Cert.Reference3Ideal Cert.Reference3Ideal.Gen Cert.Reference3Ideal.Facts

/-- What the reference computes. -/
def out (u : FVec Ideal S32768x8192 .bf16) (w : FVec Ideal S8192x2048 .f32) (g : FVec Ideal S8x1x2048 .f32) (x : FVec Ideal S32768x2048 .f32) :
    FVec Ideal S32768x2048 .f32 :=
  shapeCast S32768x2048 (addf (shapeCast S8x4096x2048 x shapeCasts_S32768x2048_S8x4096x2048) (mulf (broadcastInDim S8x4096x2048 ![0, 1, 2] bcast_S8x1x2048_S8x4096x2048_0_1_2 g)
    (Host.dotGeneral dot_S8x4096x8192_S8192x2048_S8x4096x2048_2_0_01_1_n_n none (shapeCast S8x4096x8192 (extf .f32 u bitsLt_bf16_f32) shapeCasts_S32768x8192_S8x4096x8192) w)))
    shapeCasts_S8x4096x2048_S32768x2048

theorem out_gen (u : FVec Ideal S32768x8192 .bf16) (w : FVec Ideal S8192x2048 .f32) (g : FVec Ideal S8x1x2048 .f32) (x : FVec Ideal S32768x2048 .f32)
    (R : Fin 32768) (L : Fin 2048) : out u w g x (ix2 R L) = val u w g x R L := by
  unfold out val
  pointwise

/-- The reference's run ends with `out` of its arguments, which are unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = out (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2⟩) (Value.run m ρ)

end Reference

/-- The kernel's result is the reference's function of the same arguments. -/
theorem value (m : (ℓ : Loc Cert.Kernel3Ideal.nD Cert.Kernel3Ideal.τ Cert.Kernel3Ideal.sig) → Buf (Elt Ideal) ℓ) (c : Dev Cert.Kernel3Ideal.nD) :
    (Cert.Kernel3Ideal.Gen.dats m 0 c).arrAt 4 Cert.Kernel3Ideal.cfg0.N
      = out (m ((c.tc : Thread Cert.Kernel3Ideal.nD Cert.Kernel3Ideal.τ).loc Cert.Kernel3Ideal.main_arg0))
          (m ((c.tc : Thread Cert.Kernel3Ideal.nD Cert.Kernel3Ideal.τ).loc Cert.Kernel3Ideal.main_arg1))
          (m ((c.tc : Thread Cert.Kernel3Ideal.nD Cert.Kernel3Ideal.τ).loc Cert.Kernel3Ideal.main_arg2))
          (m ((c.tc : Thread Cert.Kernel3Ideal.nD Cert.Kernel3Ideal.τ).loc Cert.Kernel3Ideal.main_arg3)) := by
  funext i
  have hi : i = ix2 (i 0) (i 1) := by
    funext x
    match x with
    | ⟨0, _⟩ => rfl
    | ⟨1, _⟩ => rfl
  rw [hi]
  exact (arr_ap m c (i 0) (i 1)).trans (out_gen _ _ _ _ (i 0) (i 1)).symm

end Cert.Down
end
end
-- ==== Proof.OutProj.lean ====
/- The output projection of the mixers: what the kernel's output holds, and that the reference computes the same. -/
module

public import proofs.«01_k».proof.Proof.Gen.Kernel4Ideal.Value
public import proofs.«01_k».proof.Proof.Gen.Reference4Ideal.Run
public import Idealize.ShloMosaic.Lib.Pointwise

set_option maxRecDepth 16384

@[expose] public section
noncomputable section
namespace Cert.OutProj
open Idealize.ShloMosaic Idealize.ShloMosaic.TcCoe Idealize.ShloMosaic.Tactic

/-- The entry at a row and a column: the residual and the gated product. -/
def val (u : FVec Ideal ⟨2, ![32768, 2048]⟩ .bf16) (w : FVec Ideal ⟨2, ![2048, 2048]⟩ .f32) (g : FVec Ideal ⟨3, ![8, 1, 2048]⟩ .f32)
    (x : FVec Ideal ⟨2, ![32768, 2048]⟩ .f32) (R : Fin 32768) (L : Fin 2048) : EReal :=
  x (ix2 R L) + g (ix3 ⟨R.val / 4096, by omega⟩ 0 L) * ∑ k : Fin 2048, u (ix2 R k) * w (ix2 k L)

section Kernel
open Cert.Kernel4Ideal Cert.Kernel4Ideal.Gen Cert.Kernel4Ideal.Facts

/-- The body's result at an index of the block. -/
theorem pay_ap (a : FVec Ideal S512x2048 .bf16) (w : FVec Ideal S2048x2048 .bf16) (r : FVec Ideal S512x2048 .f32) (g : FVec Ideal S1x1x2048 .f32)
    (i : Fin 512) (j : Fin 2048) :
    k0_pay1 (F := Ideal) a w r g (ix2 i j) = r (ix2 i j) + g (ix3 0 0 j) * ∑ k, a (ix2 i k) * w (ix2 k j) := by
  pointwise [k0_pay1]

theorem z2 : (![0, 0] : Fin 2 → ℕ) = fun _ => 0 := by decide
theorem z3 : (![0, 0, 0] : Fin 3 → ℕ) = fun _ => 0 := by decide

/-- One store of the whole block: the body's result is its payload of the blocks read. -/
theorem out_eq (a : FVec Ideal S512x2048 .bf16) (w : FVec Ideal S2048x2048 .bf16) (g : FVec Ideal S1x1x2048 .f32) (r : FVec Ideal S512x2048 .f32) :
    out0_4 (F := Ideal) a w g r = k0_pay1 (F := Ideal) a w r g := by
  refine (View.canon_unit_zero z2 _ _).trans ?_
  rw [View.ld_unit_zero z2, View.ld_unit_zero z2, View.ld_unit_zero z2, View.ld_unit_zero z3]

variable (m : (ℓ : Loc nD τ sig) → Buf (Elt Ideal) ℓ) (c : Dev nD)

theorem flush4 (t : Fin cfg0.N) : (cfg0.win 4).flush t = true := (by decide +kernel : ∀ t : Fin grid0.N, win0_4.flush t = true) t
theorem index0 : ∀ t : Fin grid0.N, win0_0.index t = ![t.val / 1, 0] := by decide +kernel
theorem index1 : ∀ t : Fin grid0.N, win0_1.index t = ![0, t.val % 1] := by decide +kernel
theorem index2 : ∀ t : Fin grid0.N, win0_2.index t = ![t.val / 8, 0, t.val % 1] := by decide +kernel
theorem index3 : ∀ t : Fin grid0.N, win0_3.index t = ![t.val / 1, t.val % 1] := by decide +kernel
theorem index4 : ∀ t : Fin grid0.N, win0_4.index t = ![t.val / 1, t.val % 1] := by decide +kernel

/-- Two points write different blocks. -/
theorem disj (t t' : Fin cfg0.N) (_ : (cfg0.win 4).flush t = true) (_ : (cfg0.win 4).flush t' = true) (hne : t ≠ t') :
    Disjoint ((cfg0.win 4).blk t).view.set ((cfg0.win 4).blk t').view.set :=
  (cfg0.win 4).disjoint_blk fun h => hne (by
    have h' : win0_4.index t = win0_4.index t' := h
    rw [index4, index4] at h'
    have h0 : t.val / 1 = t'.val / 1 := congrFun h' 0
    have h1 : t.val % 1 = t'.val % 1 := congrFun h' 1
    exact Fin.ext (by omega))

/-- The weights as the region finds them are the argument. -/
theorem V_w (i : S2048x2048.Idx) : V m c main_v0 i = m ((c : Thread nD τ).loc main_arg1) i := by
  have h : V m c main_v0 = (truncf .bf16 (m ((c : Thread nD τ).loc main_arg1)) bitsLt_bf16_f32 : FVec Ideal S2048x2048 .bf16) := by
    unfold V
    simp only [hostOps0, StableHlo.TRef.ternary, StableHlo.TRef.unary, StableHlo.TRef.toBuf, StableHlo.TRef.ofBuf, cast_eq]
    after_results_simp
  rw [h]
  rfl

theorem blk0 (t : Fin cfg0.N) (a : Fin 512) (k : Fin 2048) (h : 512 * (t.val / 1) + a.val < 32768) :
    iblk m c 0 t (ix2 a k) = m ((c : Thread nD τ).loc main_arg0) (ix2 ⟨512 * (t.val / 1) + a.val, h⟩ k) := by
  refine (congrFun (V_main_arg0 m c) _).trans (congrArg (m ((c : Thread nD τ).loc main_arg0)) ?_)
  funext x
  match x with
  | ⟨0, _⟩ => apply Fin.ext; show win0_0.index t 0 * 512 + 1 * a.val = 512 * (t.val / 1) + a.val; rw [index0]; show t.val / 1 * 512 + 1 * a.val = _; omega
  | ⟨1, _⟩ => apply Fin.ext; show win0_0.index t 1 * 2048 + 1 * k.val = k.val; rw [index0]; show 0 * 2048 + 1 * k.val = _; omega

theorem blk1 (t : Fin cfg0.N) (k : Fin 2048) (j : Fin 2048) :
    iblk m c 1 t (ix2 k j) = m ((c : Thread nD τ).loc main_arg1) (ix2 k ⟨2048 * (t.val % 1) + j.val, by omega⟩) := by
  refine (V_w m c _).trans (congrArg (m ((c : Thread nD τ).loc main_arg1)) ?_)
  funext x
  match x with
  | ⟨0, _⟩ => apply Fin.ext; show win0_1.index t 0 * 2048 + 1 * k.val = k.val; rw [index1]; show 0 * 2048 + 1 * k.val = _; omega
  | ⟨1, _⟩ => apply Fin.ext; show win0_1.index t 1 * 2048 + 1 * j.val = 2048 * (t.val % 1) + j.val; rw [index1]; show t.val % 1 * 2048 + 1 * j.val = _; omega

theorem blk2 (t : Fin cfg0.N) (j : Fin 2048) (h : t.val / 8 < 8) :
    iblk m c 2 t (ix3 0 0 j) = m ((c : Thread nD τ).loc main_arg2) (ix3 ⟨t.val / 8, h⟩ 0 ⟨2048 * (t.val % 1) + j.val, by omega⟩) := by
  refine (congrFun (V_main_arg2 m c) _).trans (congrArg (m ((c : Thread nD τ).loc main_arg2)) ?_)
  funext x
  match x with
  | ⟨0, _⟩ => apply Fin.ext; show win0_2.index t 0 * 1 + 1 * 0 = t.val / 8; rw [index2]; show t.val / 8 * 1 + 1 * 0 = _; omega
  | ⟨1, _⟩ => apply Fin.ext; show win0_2.index t 1 * 1 + 1 * 0 = 0; rw [index2]; rfl
  | ⟨2, _⟩ => apply Fin.ext; show win0_2.index t 2 * 2048 + 1 * j.val = 2048 * (t.val % 1) + j.val; rw [index2]; show t.val % 1 * 2048 + 1 * j.val = _; omega

theorem blk3 (t : Fin cfg0.N) (a : Fin 512) (j : Fin 2048) (h : 512 * (t.val / 1) + a.val < 32768) :
    iblk m c 3 t (ix2 a j) = m ((c : Thread nD τ).loc main_arg3) (ix2 ⟨512 * (t.val / 1) + a.val, h⟩ ⟨2048 * (t.val % 1) + j.val, by omega⟩) := by
  refine (congrFun (V_main_arg3 m c) _).trans (congrArg (m ((c : Thread nD τ).loc main_arg3)) ?_)
  funext x
  match x with
  | ⟨0, _⟩ => apply Fin.ext; show win0_3.index t 0 * 512 + 1 * a.val = 512 * (t.val / 1) + a.val; rw [index3]; show t.val / 1 * 512 + 1 * a.val = _; omega
  | ⟨1, _⟩ => apply Fin.ext; show win0_3.index t 1 * 2048 + 1 * j.val = 2048 * (t.val % 1) + j.val; rw [index3]; show t.val % 1 * 2048 + 1 * j.val = _; omega

/-- The output array after the run, at a row and a column. -/
theorem arr_ap (R : Fin 32768) (L : Fin 2048) :
    (dats m 0 c).arrAt 4 cfg0.N (ix2 R L)
      = val (m ((c : Thread nD τ).loc main_arg0)) (m ((c : Thread nD τ).loc main_arg1)) (m ((c : Thread nD τ).loc main_arg2))
          (m ((c : Thread nD τ).loc main_arg3)) R L := by
  let t : Fin cfg0.N := (⟨R.val / 512 * 1 + L.val / 2048, by show _ < 64; omega⟩ : Fin 64)
  have htv : t.val = R.val / 512 * 1 + L.val / 2048 := rfl
  let a : Fin 512 := ⟨R.val % 512, by omega⟩
  let j : Fin 2048 := ⟨L.val % 2048, by omega⟩
  have e := congrFun ((dats m 0 c).read_blk_arrAt_eq_flushed 4 disj cfg0.N t t.isLt (flush4 t)) (ix2 a j)
  rw [Value.flushed4, out_eq] at e
  have ei : ((cfg0.win 4).blk t).view.emb (ix2 a j) = ix2 R L := by
    funext x
    match x with
    | ⟨0, _⟩ => apply Fin.ext; show win0_4.index t 0 * 512 + 1 * (R.val % 512) = R.val; rw [index4]; show t.val / 1 * 512 + 1 * (R.val % 512) = _; omega
    | ⟨1, _⟩ => apply Fin.ext; show win0_4.index t 1 * 2048 + 1 * (L.val % 2048) = L.val; rw [index4]; show t.val % 1 * 2048 + 1 * (L.val % 2048) = _; omega
  rw [← ei]
  refine e.trans ((pay_ap _ _ _ _ a j).trans ?_)
  have hR : 512 * (t.val / 1) + a.val = R.val := by show 512 * (t.val / 1) + R.val % 512 = R.val; omega
  have hL : 2048 * (t.val % 1) + j.val = L.val := by show 2048 * (t.val % 1) + L.val % 2048 = L.val; omega
  have hB : t.val / 8 = R.val / 4096 := by omega
  have eR : (⟨512 * (t.val / 1) + a.val, by omega⟩ : Fin 32768) = R := Fin.ext hR
  have eL : (⟨2048 * (t.val % 1) + j.val, by omega⟩ : Fin 2048) = L := Fin.ext hL
  have eB : (⟨t.val / 8, by omega⟩ : Fin 8) = ⟨R.val / 4096, by omega⟩ := Fin.ext hB
  have e3 := blk3 m c t a j (by omega)
  have e2 := blk2 m c t j (by omega)
  have e1 := fun k => blk1 m c t k j
  have e0 := fun k => blk0 m c t a k (by omega)
  rw [eR, eL] at e3
  rw [eB, eL] at e2
  simp only [eL] at e1
  simp only [eR] at e0
  unfold val
  exact congrArg₂ (· + ·) e3 (congrArg₂ (· * ·) e2 (Finset.sum_congr rfl fun k _ => congrArg₂ (· * ·) (e0 k) (e1 k)))

end Kernel

section Reference
open Cert.Reference4Ideal Cert.Reference4Ideal.Gen Cert.Reference4Ideal.Facts

/-- What the reference computes. -/
def out (u : FVec Ideal S32768x2048 .bf16) (w : FVec Ideal S2048x2048 .f32) (g : FVec Ideal S8x1x2048 .f32) (x : FVec Ideal S32768x2048 .f32) :
    FVec Ideal S32768x2048 .f32 :=
  shapeCast S32768x2048 (addf (shapeCast S8x4096x2048 x shapeCasts_S32768x2048_S8x4096x2048) (mulf (broadcastInDim S8x4096x2048 ![0, 1, 2] bcast_S8x1x2048_S8x4096x2048_0_1_2 g)
    (Host.dotGeneral dot_S8x4096x2048_S2048x2048_S8x4096x2048_2_0_01_1_n_n none (shapeCast S8x4096x2048 (extf .f32 u bitsLt_bf16_f32) shapeCasts_S32768x2048_S8x4096x2048) w)))
    shapeCasts_S8x4096x2048_S32768x2048

theorem out_gen (u : FVec Ideal S32768x2048 .bf16) (w : FVec Ideal S2048x2048 .f32) (g : FVec Ideal S8x1x2048 .f32) (x : FVec Ideal S32768x2048 .f32)
    (R : Fin 32768) (L : Fin 2048) : out u w g x (ix2 R L) = val u w g x R L := by
  unfold out val
  pointwise

/-- The reference's run ends with `out` of its arguments, which are unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = out (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2⟩) (Value.run m ρ)

end Reference

/-- The kernel's result is the reference's function of the same arguments. -/
theorem value (m : (ℓ : Loc Cert.Kernel4Ideal.nD Cert.Kernel4Ideal.τ Cert.Kernel4Ideal.sig) → Buf (Elt Ideal) ℓ) (c : Dev Cert.Kernel4Ideal.nD) :
    (Cert.Kernel4Ideal.Gen.dats m 0 c).arrAt 4 Cert.Kernel4Ideal.cfg0.N
      = out (m ((c.tc : Thread Cert.Kernel4Ideal.nD Cert.Kernel4Ideal.τ).loc Cert.Kernel4Ideal.main_arg0))
          (m ((c.tc : Thread Cert.Kernel4Ideal.nD Cert.Kernel4Ideal.τ).loc Cert.Kernel4Ideal.main_arg1))
          (m ((c.tc : Thread Cert.Kernel4Ideal.nD Cert.Kernel4Ideal.τ).loc Cert.Kernel4Ideal.main_arg2))
          (m ((c.tc : Thread Cert.Kernel4Ideal.nD Cert.Kernel4Ideal.τ).loc Cert.Kernel4Ideal.main_arg3)) := by
  funext i
  have hi : i = ix2 (i 0) (i 1) := by
    funext x
    match x with
    | ⟨0, _⟩ => rfl
    | ⟨1, _⟩ => rfl
  rw [hi]
  exact (arr_ap m c (i 0) (i 1)).trans (out_gen _ _ _ _ (i 0) (i 1)).symm

end Cert.OutProj
end
end
-- ==== Proof.Merge.lean ====
/- The merge of the branches: the linear attention's two directions added, normed by head and gated, then the three
   branches' products, each under its gate, added; the reference computes the same. -/
module

public import proofs.«01_k».proof.Proof.Gen.Kernel5Ideal.Value
public import proofs.«01_k».proof.Proof.Gen.Reference5Ideal.Run
public import proofs.«01_k».proof.Proof.Up
public import Idealize.ShloMosaic.Lib.Pipeline.ValueKit.Tiles
public import Idealize.ShloMosaic.Lib.Pointwise
public import Idealize.ShloMosaic.Lib.VecWindow

set_option maxRecDepth 16384

@[expose] public section
noncomputable section
namespace Cert.Merge
open Cert.Up (read_all)
open Cert.Up (read_all)
open Idealize.ShloMosaic Idealize.ShloMosaic.TcCoe Idealize.ShloMosaic.Tactic

/-- A head's entry: the head's row normed, times the gain, times the gate's silu. -/
def head (o g : Fin 256 → EReal) (z : EReal) (d : Fin 256) : EReal :=
  o d * Ideal.rsqrt (Ideal.div (∑ l, o l * o l) (Ideal.ofBits FTy.f32 1132462080#32) + Ideal.ofBits FTy.f32 897988541#32) * g d * (z * Ideal.logistic z)

/-- The three products under their gates. -/
def mix (za zb zc : EReal) (a b c wa wb wc : Fin 1024 → EReal) : EReal :=
  Ideal.logistic za * (∑ k, a k * wa k) + Ideal.logistic zb * (∑ k, b k * wb k) + Ideal.logistic zc * (∑ k, c k * wc k)

/-- The first branch's entry at a row and a column. -/
def branch (o p : FVec Ideal ⟨2, ![32768, 1024]⟩ .f32) (z : FVec Ideal ⟨2, ![32768, 15360]⟩ .f32) (g : FVec Ideal ⟨1, ![256]⟩ .f32) (R : Fin 32768) (k : Fin 1024) : EReal :=
  head (fun l => o (ix2 R ⟨k.val / 256 * 256 + l.val, by omega⟩) + p (ix2 R ⟨k.val / 256 * 256 + l.val, by omega⟩)) (fun l => g (ix1 l))
    (z (ix2 R ⟨2048 + k.val, by omega⟩)) ⟨k.val % 256, by omega⟩

/-- The merged entry at a row and a column. -/
def val (o p : FVec Ideal ⟨2, ![32768, 1024]⟩ .f32) (z : FVec Ideal ⟨2, ![32768, 15360]⟩ .f32) (g : FVec Ideal ⟨1, ![256]⟩ .f32)
    (b : FVec Ideal ⟨2, ![32768, 1024]⟩ .f32) (h : FVec Ideal ⟨2, ![32768, 1024]⟩ .bf16) (wa wb wc : FVec Ideal ⟨2, ![1024, 2048]⟩ .f32)
    (R : Fin 32768) (L : Fin 2048) : EReal :=
  mix (z (ix2 R ⟨6144 + L.val, by omega⟩)) (z (ix2 R ⟨8192 + L.val, by omega⟩)) (z (ix2 R ⟨10240 + L.val, by omega⟩))
    (branch o p z g R) (fun k => b (ix2 R k)) (fun k => h (ix2 R k)) (fun k => wa (ix2 k L)) (fun k => wb (ix2 k L)) (fun k => wc (ix2 k L))

section Kernel
open Cert.Kernel5Ideal Cert.Kernel5Ideal.Gen Cert.Kernel5Ideal.Facts

theorem pay3_ap (p q : FVec Ideal S256x256 .f32) (g : FVec Ideal S1x256 .f32) (z : FVec Ideal S256x256 .f32) (a d : Fin 256) :
    k0_pay3 (F := Ideal) p q g z (ix2 a d) = head (fun l => p (ix2 a l) + q (ix2 a l)) (fun l => g (ix2 0 l)) (z (ix2 a d)) d := by
  unfold head
  pointwise [k0_pay3]

theorem pay8_ap (p q : FVec Ideal S256x256 .f32) (g : FVec Ideal S1x256 .f32) (z : FVec Ideal S256x256 .f32) (a d : Fin 256) :
    k0_pay8 (F := Ideal) p q g z (ix2 a d) = head (fun l => p (ix2 a l) + q (ix2 a l)) (fun l => g (ix2 0 l)) (z (ix2 a d)) d := by
  unfold head
  pointwise [k0_pay8]

theorem pay1_ap (p q : FVec Ideal S256x256 .f32) (g : FVec Ideal S1x256 .f32) (z : FVec Ideal S256x256 .f32) (a d : Fin 256) :
    k0_pay1 (F := Ideal) p q g z (ix2 a d) = head (fun l => p (ix2 a l) + q (ix2 a l)) (fun l => g (ix2 0 l)) (z (ix2 a d)) d := by
  unfold head
  pointwise [k0_pay1]

theorem pay7_ap (p q : FVec Ideal S256x256 .f32) (g : FVec Ideal S1x256 .f32) (z : FVec Ideal S256x256 .f32) (a d : Fin 256) :
    k0_pay7 (F := Ideal) (k0_pay4 p q) (k0_pay5 g) (k0_pay6 p q) z (ix2 a d)
      = head (fun l => p (ix2 a l) + q (ix2 a l)) (fun l => g (ix2 0 l)) (z (ix2 a d)) d := by
  unfold head
  pointwise [k0_pay7, k0_pay4, k0_pay5, k0_pay6]

theorem pay2_ap (a : FVec Ideal S256x1024 .bf16) (wa : FVec Ideal S1024x2048 .bf16) (b : FVec Ideal S256x1024 .f32) (wb : FVec Ideal S1024x2048 .bf16)
    (c : FVec Ideal S256x1024 .bf16) (wc : FVec Ideal S1024x2048 .bf16) (za zb zc : FVec Ideal S256x2048 .f32) (i : Fin 256) (j : Fin 2048) :
    k0_pay2 (F := Ideal) a wa b wb c wc za zb zc (ix2 i j)
      = mix (za (ix2 i j)) (zb (ix2 i j)) (zc (ix2 i j)) (fun k => a (ix2 i k)) (fun k => b (ix2 i k)) (fun k => c (ix2 i k))
          (fun k => wa (ix2 k j)) (fun k => wb (ix2 k j)) (fun k => wc (ix2 k j)) := by
  unfold mix
  pointwise [k0_pay2]

/-- A load of a part of a buffer reads that part of what it holds. -/
theorem read_part {sig : RefSig} {κ : Kind} {sp : Space} {s : Shape} {e : EltTy} {Val : EltTy → Type} {r : Memref sig κ sp s e} (h : r.IsWhole)
    (X : s.Idx → Val e) {off size : Fin s.rank → ℕ} (inb : ∀ a, off a + size a ≤ s.size a) :
    r.view.readAt Val (Rect.unit off size inb).toLoadRect (h.unread X) = VecWindow.window X off size inb :=
  (View.readAt_unit _ _ inb rfl inb).trans (congrArg (fun Y => VecWindow.window Y off size inb) (h.read_unread X))

/-- Four stores of a head each, read together. -/
theorem four (v : View sig .tc .vmem S256x1024 .bf16) (G : S256x1024.Idx → EReal) (w0 w1 w2 w3 : S256x256.Idx → EReal)
    (h0 : ∀ a d : Fin 256, w0 (ix2 a d) = G (ix2 a ⟨0 + d.val, by omega⟩)) (h1 : ∀ a d : Fin 256, w1 (ix2 a d) = G (ix2 a ⟨256 + d.val, by omega⟩))
    (h2 : ∀ a d : Fin 256, w2 (ix2 a d) = G (ix2 a ⟨512 + d.val, by omega⟩)) (h3 : ∀ a d : Fin 256, w3 (ix2 a d) = G (ix2 a ⟨768 + d.val, by omega⟩)) :
    v.readCov (Val := Elt Ideal) [⟨Rect.unit ![0, 768] ![256, 256] inb_S256x1024_S256x256_0_768, w3⟩, ⟨Rect.unit ![0, 512] ![256, 256] inb_S256x1024_S256x256_0_512, w2⟩,
        ⟨Rect.unit ![0, 256] ![256, 256] inb_S256x1024_S256x256_0_256, w1⟩, ⟨Rect.unit ![0, 0] ![256, 256] inb_S256x1024_S256x256_0_0, w0⟩]
      (Rect.unit ![0, 0] ![256, 1024] inb_S256x1024_S256x1024_0_0).toLoadRect = G := by
  have tile : ∀ (o : ℕ) (ho : o + 256 ≤ 1024) (w : S256x256.Idx → EReal) (_ : ∀ a d : Fin 256, w (ix2 a d) = G (ix2 a ⟨o + d.val, by omega⟩)) (y : S256x1024.Idx),
      View.TileAt (Val := Elt Ideal) (S := S256x1024) (e := .bf16) y ![0, o] ![256, 256] w (G y) := by
    intro o ho w h y x hx
    have e : x = ix2 (x 0) (x 1) := by
      funext a
      match a with
      | ⟨0, _⟩ => rfl
      | ⟨1, _⟩ => rfl
    refine (congrArg w e).trans ((h (x 0) (x 1)).trans (congrArg G ?_))
    funext a
    match a with
    | ⟨0, _⟩ => apply Fin.ext; have := hx 0; show (x 0).val = (y 0).val; rw [this]; exact (Nat.zero_add _).symm
    | ⟨1, _⟩ => apply Fin.ext; exact (hx 1).symm
  refine (View.readAt_full _ _ _).trans ?_
  funext y
  rw [View.read_writes_junk_eq_canon]
  refine View.canon_eq_of_allAt _ y _ (View.cover_of_tiled_head _ _ _ rfl y) ?_
  refine View.allAt_cons_unit _ _ _ _ _ (tile 768 (by omega) w3 h3 y) ?_
  refine View.allAt_cons_unit _ _ _ _ _ (tile 512 (by omega) w2 h2 y) ?_
  refine View.allAt_cons_unit _ _ _ _ _ (tile 256 (by omega) w1 h1 y) ?_
  exact View.allAt_cons_unit _ _ _ _ _ (tile 0 (by omega) w0 h0 y) (View.allAt_nil _ _)

variable (m : (ℓ : Loc nD τ sig) → Buf (Elt Ideal) ℓ) (c : Dev nD)

/-- The normed and gated rows of a block. -/
def rows (p q z : FVec Ideal S256x1024 .f32) (g : FVec Ideal S1x256 .f32) : FVec Ideal S256x1024 .bf16 := fun y =>
  head (fun l => p (ix2 (y 0) ⟨(y 1).val / 256 * 256 + l.val, by have := (y 1).isLt; change _ < 1024 at this; omega⟩)
      + q (ix2 (y 0) ⟨(y 1).val / 256 * 256 + l.val, by have := (y 1).isLt; change _ < 1024 at this; omega⟩)) (fun l => g (ix2 0 l)) (z y)
    ⟨(y 1).val % 256, by omega⟩

/-- A part of a block of rows at an index. -/
theorem part_ap (X : FVec Ideal S256x1024 .f32) (o : ℕ) (inb : ∀ a, (![0, o] : Fin 2 → ℕ) a + (![256, 256] : Fin 2 → ℕ) a ≤ S256x1024.size a)
    (a d : Fin 256) (h : o + d.val < 1024) : VecWindow.window X ![0, o] ![256, 256] inb (ix2 a d) = X (ix2 a ⟨o + d.val, h⟩) := by
  refine congrArg X ?_
  funext x
  match x with
  | ⟨0, _⟩ => apply Fin.ext; show 0 + 1 * a.val = a.val; omega
  | ⟨1, _⟩ => apply Fin.ext; show o + 1 * d.val = o + d.val; omega

theorem rows_ap (p q z : FVec Ideal S256x1024 .f32) (g : FVec Ideal S1x256 .f32) (n : ℕ) (hn : n < 4) (o : ℕ) (ho : o = n * 256)
    (inb : ∀ a, (![0, o] : Fin 2 → ℕ) a + (![256, 256] : Fin 2 → ℕ) a ≤ S256x1024.size a) (a d : Fin 256) :
    head (fun l => VecWindow.window p ![0, o] ![256, 256] inb (ix2 a l) + VecWindow.window q ![0, o] ![256, 256] inb (ix2 a l)) (fun l => g (ix2 0 l))
        (VecWindow.window z ![0, o] ![256, 256] inb (ix2 a d)) d = rows p q z g (ix2 a ⟨o + d.val, by omega⟩) := by
  subst ho
  have hq : (n * 256 + d.val) / 256 = n := by omega
  have hr : (n * 256 + d.val) % 256 = d.val := by omega
  have e1 : ∀ X : FVec Ideal S256x1024 .f32, (fun l : Fin 256 => VecWindow.window X ![0, n * 256] ![256, 256] inb (ix2 a l))
      = fun l : Fin 256 => X (ix2 a ⟨(n * 256 + d.val) / 256 * 256 + l.val, by omega⟩) := fun X => funext fun l =>
    (part_ap X _ inb a l (by omega)).trans (congrArg (fun k : Fin 1024 => X (ix2 a k)) (Fin.ext (by show n * 256 + l.val = (n * 256 + d.val) / 256 * 256 + l.val; omega)))
  have e2 : d = ⟨(n * 256 + d.val) % 256, by omega⟩ := Fin.ext hr.symm
  have e3 := part_ap z _ inb a d (by omega)
  have e4 : (fun l : Fin 256 => VecWindow.window p ![0, n * 256] ![256, 256] inb (ix2 a l) + VecWindow.window q ![0, n * 256] ![256, 256] inb (ix2 a l))
      = fun l : Fin 256 => p (ix2 a ⟨(n * 256 + d.val) / 256 * 256 + l.val, by omega⟩) + q (ix2 a ⟨(n * 256 + d.val) / 256 * 256 + l.val, by omega⟩) :=
    funext fun l => congrArg₂ (· + ·) (congrFun (e1 p) l) (congrFun (e1 q) l)
  exact congr (congr (congr (congrArg head e4) rfl) e3) e2

/-- What a point leaves in the output's buffer. -/
theorem out_eq (t : Fin cfg0.N) :
    outsAt0 m c t = k0_pay2 (F := Ideal) (rows (iblk m c 0 t) (iblk m c 1 t) (iblk m c 2 t) (iblk m c 3 t)) (iblk m c 9 t) (iblk m c 4 t) (iblk m c 10 t)
      (iblk m c 5 t) (iblk m c 11 t) (X0_6 m c t) (X0_7 m c t) (X0_8 m c t) := by
  unfold outsAt0 out0_A_12 kernelRun0_A
  dsimp only
  rw [View.read_writes_full]
  rw [read_all, read_all, read_all, read_all, read_all, read_all, read_all, read_all]
  unfold kernelRun0_A.sl.v3
  unfold kernelRun0_A.sl.HS0_4 kernelRun0_A.sl.r kernelRun0_A.sl.r_1 kernelRun0_A.sl.r_2 kernelRun0_A.sl.r_3
  dsimp only
  refine congrArg (fun a => k0_pay2 (F := Ideal) a _ _ _ _ _ _ _ _) ?_
  refine four _ _ _ _ _ _ ?_ ?_ ?_ ?_
  · intro a d
    rw [pay3_ap, read_all, read_part, read_part, read_part]
    exact rows_ap _ _ _ _ 0 (by omega) 0 rfl _ a d
  · intro a d

    rw [pay7_ap, read_all, read_part, read_part, read_part]
    exact rows_ap _ _ _ _ 1 (by omega) 256 rfl _ a d
  · intro a d
    rw [pay8_ap, read_all, read_part, read_part, read_part]
    exact rows_ap _ _ _ _ 2 (by omega) 512 rfl _ a d
  · intro a d
    rw [pay1_ap, read_all, read_part, read_part, read_part]
    exact rows_ap _ _ _ _ 3 (by omega) 768 rfl _ a d

theorem flush12 (t : Fin cfg0.N) : (cfg0.win 12).flush t = true := (by decide +kernel : ∀ t : Fin grid0.N, win0_12.flush t = true) t
theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 2] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val, 3] := by decide +kernel
theorem index7 : ∀ t : Fin grid0.N, win0_7.index t = ![t.val, 4] := by decide +kernel
theorem index8 : ∀ t : Fin grid0.N, win0_8.index t = ![t.val, 5] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![0, 0] := by decide +kernel
theorem index12 : ∀ t : Fin grid0.N, win0_12.index t = ![t.val, 0] := by decide +kernel

/-- The weights as the region finds them are the arguments, … -/
theorem V_w0 (i : S1024x2048.Idx) : V m c main_v1 i = m ((c : Thread nD τ).loc main_arg6) i := by
  have h : V m c main_v1 = (truncf .bf16 (m ((c : Thread nD τ).loc main_arg6)) bitsLt_bf16_f32 : FVec Ideal S1024x2048 .bf16) := by
    unfold V
    simp only [hostOps0, StableHlo.TRef.ternary, StableHlo.TRef.unary, StableHlo.TRef.toBuf, StableHlo.TRef.ofBuf, cast_eq]
    after_results_simp
  rw [h]
  rfl

theorem V_w1 (i : S1024x2048.Idx) : V m c main_v2 i = m ((c : Thread nD τ).loc main_arg7) i := by
  have h : V m c main_v2 = (truncf .bf16 (m ((c : Thread nD τ).loc main_arg7)) bitsLt_bf16_f32 : FVec Ideal S1024x2048 .bf16) := by
    unfold V
    simp only [hostOps0, StableHlo.TRef.ternary, StableHlo.TRef.unary, StableHlo.TRef.toBuf, StableHlo.TRef.ofBuf, cast_eq]
    after_results_simp
  rw [h]
  rfl

theorem V_w2 (i : S1024x2048.Idx) : V m c main_v3 i = m ((c : Thread nD τ).loc main_arg8) i := by
  have h : V m c main_v3 = (truncf .bf16 (m ((c : Thread nD τ).loc main_arg8)) bitsLt_bf16_f32 : FVec Ideal S1024x2048 .bf16) := by
    unfold V
    simp only [hostOps0, StableHlo.TRef.ternary, StableHlo.TRef.unary, StableHlo.TRef.toBuf, StableHlo.TRef.ofBuf, cast_eq]
    after_results_simp
  rw [h]
  rfl

/-- … and the gain is the argument as one row. -/
theorem V_g (k : Fin 256) : V m c main_v0 (ix2 0 k) = m ((c : Thread nD τ).loc main_arg3) (ix1 k) := by
  have h : V m c main_v0 = (broadcastInDim S1x256 ![1] bcast_S256_S1x256_1 (m ((c : Thread nD τ).loc main_arg3)) : FVec Ideal S1x256 .f32) := by
    unfold V
    simp only [hostOps0, StableHlo.TRef.ternary, StableHlo.TRef.unary, StableHlo.TRef.toBuf, StableHlo.TRef.ofBuf, cast_eq]
    after_results_simp
  rw [h]
  generalize m ((c : Thread nD τ).loc main_arg3) = g
  change FVec Ideal S256 .f32 at g
  pointwise

theorem blk0 (t : Fin cfg0.N) (a : Fin 256) (k : Fin 1024) (h : 256 * t.val + a.val < 32768) :
    iblk m c 0 t (ix2 a k) = m ((c : Thread nD τ).loc main_arg0) (ix2 ⟨256 * t.val + a.val, h⟩ k) := by
  refine (congrFun (V_main_arg0 m c) _).trans (congrArg (m ((c : Thread nD τ).loc main_arg0)) ?_)
  funext x
  match x with
  | ⟨0, _⟩ => apply Fin.ext; show win0_0.index t 0 * 256 + 1 * a.val = 256 * t.val + a.val; rw [index0]; show t.val * 256 + 1 * a.val = _; omega
  | ⟨1, _⟩ => apply Fin.ext; show win0_0.index t 1 * 1024 + 1 * k.val = k.val; rw [index0]; show 0 * 1024 + 1 * k.val = _; omega

theorem blk1 (t : Fin cfg0.N) (a : Fin 256) (k : Fin 1024) (h : 256 * t.val + a.val < 32768) :
    iblk m c 1 t (ix2 a k) = m ((c : Thread nD τ).loc main_arg1) (ix2 ⟨256 * t.val + a.val, h⟩ k) := by
  refine (congrFun (V_main_arg1 m c) _).trans (congrArg (m ((c : Thread nD τ).loc main_arg1)) ?_)
  funext x
  match x with
  | ⟨0, _⟩ => apply Fin.ext; show win0_1.index t 0 * 256 + 1 * a.val = 256 * t.val + a.val; rw [index1]; show t.val * 256 + 1 * a.val = _; omega
  | ⟨1, _⟩ => apply Fin.ext; show win0_1.index t 1 * 1024 + 1 * k.val = k.val; rw [index1]; show 0 * 1024 + 1 * k.val = _; omega

theorem blk2 (t : Fin cfg0.N) (a : Fin 256) (k : Fin 1024) (h : 256 * t.val + a.val < 32768) :
    iblk m c 2 t (ix2 a k) = m ((c : Thread nD τ).loc main_arg2) (ix2 ⟨256 * t.val + a.val, h⟩ ⟨2048 + k.val, by omega⟩) := by
  refine (congrFun (V_main_arg2 m c) _).trans (congrArg (m ((c : Thread nD τ).loc main_arg2)) ?_)
  funext x
  match x with
  | ⟨0, _⟩ => apply Fin.ext; show win0_2.index t 0 * 256 + 1 * a.val = 256 * t.val + a.val; rw [index2]; show t.val * 256 + 1 * a.val = _; omega
  | ⟨1, _⟩ => apply Fin.ext; show win0_2.index t 1 * 1024 + 1 * k.val = 2048 + k.val; rw [index2]; show 2 * 1024 + 1 * k.val = _; omega

theorem blk4 (t : Fin cfg0.N) (a : Fin 256) (k : Fin 1024) (h : 256 * t.val + a.val < 32768) :
    iblk m c 4 t (ix2 a k) = m ((c : Thread nD τ).loc main_arg4) (ix2 ⟨256 * t.val + a.val, h⟩ k) := by
  refine (congrFun (V_main_arg4 m c) _).trans (congrArg (m ((c : Thread nD τ).loc main_arg4)) ?_)
  funext x
  match x with
  | ⟨0, _⟩ => apply Fin.ext; show win0_4.index t 0 * 256 + 1 * a.val = 256 * t.val + a.val; rw [index4]; show t.val * 256 + 1 * a.val = _; omega
  | ⟨1, _⟩ => apply Fin.ext; show win0_4.index t 1 * 1024 + 1 * k.val = k.val; rw [index4]; show 0 * 1024 + 1 * k.val = _; omega

theorem blk5 (t : Fin cfg0.N) (a : Fin 256) (k : Fin 1024) (h : 256 * t.val + a.val < 32768) :
    iblk m c 5 t (ix2 a k) = m ((c : Thread nD τ).loc main_arg5) (ix2 ⟨256 * t.val + a.val, h⟩ k) := by
  refine (congrFun (V_main_arg5 m c) _).trans (congrArg (m ((c : Thread nD τ).loc main_arg5)) ?_)
  funext x
  match x with
  | ⟨0, _⟩ => apply Fin.ext; show win0_5.index t 0 * 256 + 1 * a.val = 256 * t.val + a.val; rw [index5]; show t.val * 256 + 1 * a.val = _; omega
  | ⟨1, _⟩ => apply Fin.ext; show win0_5.index t 1 * 1024 + 1 * k.val = k.val; rw [index5]; show 0 * 1024 + 1 * k.val = _; omega

theorem blk6 (t : Fin cfg0.N) (a : Fin 256) (k : Fin 2048) (h : 256 * t.val + a.val < 32768) :
    X0_6 m c t (ix2 a k) = m ((c : Thread nD τ).loc main_arg2) (ix2 ⟨256 * t.val + a.val, h⟩ ⟨6144 + k.val, by omega⟩) := by
  unfold X0_6 Pipeline.Window.fill
  rw [dif_pos (moved0_6 t _)]
  refine (congrFun (V_main_arg2 m c) _).trans (congrArg (m ((c : Thread nD τ).loc main_arg2)) ?_)
  funext x
  match x with
  | ⟨0, _⟩ => apply Fin.ext; show win0_6.index t 0 * 256 + 1 * a.val = 256 * t.val + a.val; rw [index6]; show t.val * 256 + 1 * a.val = _; omega
  | ⟨1, _⟩ => apply Fin.ext; show win0_6.index t 1 * 2048 + 1 * k.val = 6144 + k.val; rw [index6]; show 3 * 2048 + 1 * k.val = _; omega

theorem blk7 (t : Fin cfg0.N) (a : Fin 256) (k : Fin 2048) (h : 256 * t.val + a.val < 32768) :
    X0_7 m c t (ix2 a k) = m ((c : Thread nD τ).loc main_arg2) (ix2 ⟨256 * t.val + a.val, h⟩ ⟨8192 + k.val, by omega⟩) := by
  unfold X0_7 Pipeline.Window.fill
  rw [dif_pos (moved0_7 t _)]
  refine (congrFun (V_main_arg2 m c) _).trans (congrArg (m ((c : Thread nD τ).loc main_arg2)) ?_)
  funext x
  match x with
  | ⟨0, _⟩ => apply Fin.ext; show win0_7.index t 0 * 256 + 1 * a.val = 256 * t.val + a.val; rw [index7]; show t.val * 256 + 1 * a.val = _; omega
  | ⟨1, _⟩ => apply Fin.ext; show win0_7.index t 1 * 2048 + 1 * k.val = 8192 + k.val; rw [index7]; show 4 * 2048 + 1 * k.val = _; omega

theorem blk8 (t : Fin cfg0.N) (a : Fin 256) (k : Fin 2048) (h : 256 * t.val + a.val < 32768) :
    X0_8 m c t (ix2 a k) = m ((c : Thread nD τ).loc main_arg2) (ix2 ⟨256 * t.val + a.val, h⟩ ⟨10240 + k.val, by omega⟩) := by
  unfold X0_8 Pipeline.Window.fill
  rw [dif_pos (moved0_8 t _)]
  refine (congrFun (V_main_arg2 m c) _).trans (congrArg (m ((c : Thread nD τ).loc main_arg2)) ?_)
  funext x
  match x with
  | ⟨0, _⟩ => apply Fin.ext; show win0_8.index t 0 * 256 + 1 * a.val = 256 * t.val + a.val; rw [index8]; show t.val * 256 + 1 * a.val = _; omega
  | ⟨1, _⟩ => apply Fin.ext; show win0_8.index t 1 * 2048 + 1 * k.val = 10240 + k.val; rw [index8]; show 5 * 2048 + 1 * k.val = _; omega

theorem blk3 (t : Fin cfg0.N) (k : Fin 256) : iblk m c 3 t (ix2 0 k) = m ((c : Thread nD τ).loc main_arg3) (ix1 k) := by
  refine Eq.trans (congrArg (V m c main_v0) ?_) (V_g m c k)
  funext x
  match x with
  | ⟨0, _⟩ => apply Fin.ext; show win0_3.index t 0 * 1 + 1 * 0 = 0; rw [index3]; rfl
  | ⟨1, _⟩ => apply Fin.ext; show win0_3.index t 1 * 256 + 1 * k.val = k.val; rw [index3]; show 0 * 256 + 1 * k.val = _; omega

theorem blk9 (t : Fin cfg0.N) (k : Fin 1024) (j : Fin 2048) :
    iblk m c 9 t (ix2 k j) = m ((c : Thread nD τ).loc main_arg6) (ix2 k j) := by
  refine (V_w0 m c _).trans (congrArg (m ((c : Thread nD τ).loc main_arg6)) ?_)
  funext x
  match x with
  | ⟨0, _⟩ => apply Fin.ext; show win0_9.index t 0 * 1024 + 1 * k.val = k.val; rw [index9]; show 0 * 1024 + 1 * k.val = _; omega
  | ⟨1, _⟩ => apply Fin.ext; show win0_9.index t 1 * 2048 + 1 * j.val = j.val; rw [index9]; show 0 * 2048 + 1 * j.val = _; omega

theorem blk10 (t : Fin cfg0.N) (k : Fin 1024) (j : Fin 2048) :
    iblk m c 10 t (ix2 k j) = m ((c : Thread nD τ).loc main_arg7) (ix2 k j) := by
  refine (V_w1 m c _).trans (congrArg (m ((c : Thread nD τ).loc main_arg7)) ?_)
  funext x
  match x with
  | ⟨0, _⟩ => apply Fin.ext; show win0_10.index t 0 * 1024 + 1 * k.val = k.val; rw [index10]; show 0 * 1024 + 1 * k.val = _; omega
  | ⟨1, _⟩ => apply Fin.ext; show win0_10.index t 1 * 2048 + 1 * j.val = j.val; rw [index10]; show 0 * 2048 + 1 * j.val = _; omega

theorem blk11 (t : Fin cfg0.N) (k : Fin 1024) (j : Fin 2048) :
    iblk m c 11 t (ix2 k j) = m ((c : Thread nD τ).loc main_arg8) (ix2 k j) := by
  refine (V_w2 m c _).trans (congrArg (m ((c : Thread nD τ).loc main_arg8)) ?_)
  funext x
  match x with
  | ⟨0, _⟩ => apply Fin.ext; show win0_11.index t 0 * 1024 + 1 * k.val = k.val; rw [index11]; show 0 * 1024 + 1 * k.val = _; omega
  | ⟨1, _⟩ => apply Fin.ext; show win0_11.index t 1 * 2048 + 1 * j.val = j.val; rw [index11]; show 0 * 2048 + 1 * j.val = _; omega

/-- A block of rows whose entries are the arguments'. -/
theorem rows_branch (p q z : FVec Ideal S256x1024 .f32) (g : FVec Ideal S1x256 .f32) (o' p' : FVec Ideal S32768x1024 .f32) (z' : FVec Ideal S32768x15360 .f32)
    (g' : FVec Ideal S256 .f32) (a : Fin 256) (R : Fin 32768) (h0 : ∀ k, p (ix2 a k) = o' (ix2 R k)) (h1 : ∀ k, q (ix2 a k) = p' (ix2 R k))
    (h2 : ∀ k : Fin 1024, z (ix2 a k) = z' (ix2 R ⟨2048 + k.val, by omega⟩)) (h3 : ∀ k, g (ix2 0 k) = g' (ix1 k)) :
    (fun k => rows p q z g (ix2 a k)) = branch o' p' z' g' R := by
  funext k
  show head (fun l => p (ix2 a ⟨k.val / 256 * 256 + l.val, _⟩) + q (ix2 a ⟨k.val / 256 * 256 + l.val, _⟩)) (fun l => g (ix2 0 l)) (z (ix2 a k)) ⟨k.val % 256, _⟩ = _
  unfold branch
  rw [h2 k]
  simp only [h0, h1, h3]

/-- The output array after the run, at a row and a column. -/
theorem arr_ap (R : Fin 32768) (L : Fin 2048) :
    (dats m 0 c).arrAt 12 cfg0.N (ix2 R L)
      = val (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R L := by
  let t : Fin cfg0.N := (⟨R.val / 256, by show _ < 128; omega⟩ : Fin 128)
  have htv : t.val = R.val / 256 := rfl
  let a : Fin 256 := ⟨R.val % 256, by omega⟩
  have e := congrFun ((dats m 0 c).read_blk_arrAt_eq_flushed 12 Value.disjoint12 cfg0.N t t.isLt (flush12 t)) (ix2 a L)
  rw [Value.flushed12, out_eq] at e
  have ei : ((cfg0.win 12).blk t).view.emb (ix2 a L) = ix2 R L := by
    funext x
    match x with
    | ⟨0, _⟩ => apply Fin.ext; show win0_12.index t 0 * 256 + 1 * (R.val % 256) = R.val; rw [index12]; show t.val * 256 + 1 * (R.val % 256) = _; omega
    | ⟨1, _⟩ => apply Fin.ext; show win0_12.index t 1 * 2048 + 1 * L.val = L.val; rw [index12]; show 0 * 2048 + 1 * L.val = _; omega
  rw [← ei]
  refine e.trans ((pay2_ap _ _ _ _ _ _ _ _ _ a L).trans ?_)
  have hR : 256 * t.val + a.val = R.val := by show 256 * t.val + R.val % 256 = R.val; omega
  have hlt : 256 * t.val + a.val < 32768 := by omega
  have eR : (⟨256 * t.val + a.val, hlt⟩ : Fin 32768) = R := Fin.ext hR
  have e0 := fun k => blk0 m c t a k hlt
  have e1 := fun k => blk1 m c t a k hlt
  have e2 := fun k => blk2 m c t a k hlt
  have e4 := fun k => blk4 m c t a k hlt
  have e5 := fun k => blk5 m c t a k hlt
  have e6 := fun k => blk6 m c t a k hlt
  have e7 := fun k => blk7 m c t a k hlt
  have e8 := fun k => blk8 m c t a k hlt
  rw [eR] at e0 e1 e2 e4 e5 e6 e7 e8
  unfold val
  have er : (fun k => rows (iblk m c 0 t) (iblk m c 1 t) (iblk m c 2 t) (iblk m c 3 t) (ix2 a k)) = branch (m ((c : Thread nD τ).loc main_arg0)) (m ((c : Thread nD τ).loc main_arg1)) (m ((c : Thread nD τ).loc main_arg2)) (m ((c : Thread nD τ).loc main_arg3)) R :=
    rows_branch _ _ _ _ _ _ _ _ a R e0 e1 e2 fun l => blk3 m c t l
  have eb : (fun k => iblk m c 4 t (ix2 a k)) = fun k => m ((c : Thread nD τ).loc main_arg4) (ix2 R k) := funext e4
  have ec : (fun k => iblk m c 5 t (ix2 a k)) = fun k => m ((c : Thread nD τ).loc main_arg5) (ix2 R k) := funext e5
  have f0 : (fun k => iblk m c 9 t (ix2 k L)) = fun k => m ((c : Thread nD τ).loc main_arg6) (ix2 k L) := funext fun k => blk9 m c t k L
  have f1 : (fun k => iblk m c 10 t (ix2 k L)) = fun k => m ((c : Thread nD τ).loc main_arg7) (ix2 k L) := funext fun k => blk10 m c t k L
  have f2 : (fun k => iblk m c 11 t (ix2 k L)) = fun k => m ((c : Thread nD τ).loc main_arg8) (ix2 k L) := funext fun k => blk11 m c t k L
  exact congr (congr (congr (congr (congr (congr (congr (congr (congrArg mix (e6 L)) (e7 L)) (e8 L)) er) eb) ec) f0) f1) f2

end Kernel

section Reference
open Cert.Reference5Ideal Cert.Reference5Ideal.Gen Cert.Reference5Ideal.Facts

/-- The reference's normed heads. -/
def rhead (o p : FVec Ideal S32768x1024 .f32) (g : FVec Ideal S256 .f32) : FVec Ideal S8x4096x4x256 .f32 :=
  mulf (mulf (shapeCast S8x4096x4x256 (addf o p) shapeCasts_S32768x1024_S8x4096x4x256) (broadcastInDim S8x4096x4x256 ![0, 1, 2, 3] bcast_S8x4096x4x1_S8x4096x4x256_0_1_2_3 (Host.rsqrt (addf (Host.divf (broadcastInDim S8x4096x4x1 ![0, 1, 2] bcast_S8x4096x4_S8x4096x4x1_0_1_2 (Host.reduceAdd (mulf (shapeCast S8x4096x4x256 (addf o p) shapeCasts_S32768x1024_S8x4096x4x256) (shapeCast S8x4096x4x256 (addf o p) shapeCasts_S32768x1024_S8x4096x4x256)) (constant S_ .f32 0x00000000#32) reducesTo_S8x4096x4x256_S8x4096x4_d3 h_S_)) (broadcastInDim S8x4096x4x1 ![] bcast_S_S8x4096x4x1 (constant S_ .f32 0x43800000#32))) (broadcastInDim S8x4096x4x1 ![] bcast_S_S8x4096x4x1 (constant S_ .f32 0x358637BD#32)))))) (broadcastInDim S8x4096x4x256 ![0, 1, 2, 3] bcast_S1x1x1x256_S8x4096x4x256_0_1_2_3 (broadcastInDim S1x1x1x256 ![3] bcast_S256_S1x1x1x256_3 g))

/-- The reference's first branch, gated. -/
def rgated (o p : FVec Ideal S32768x1024 .f32) (z : FVec Ideal S32768x15360 .f32) (g : FVec Ideal S256 .f32) : FVec Ideal S8x4096x1024 .f32 :=
  mulf (shapeCast S8x4096x1024 (rhead o p g) shapeCasts_S8x4096x4x256_S8x4096x1024) (mulf (shapeCast S8x4096x1024 (extractStridedSlice S32768x1024 ![0, 2048] z slices_S32768x15360_S32768x1024_0_2048) shapeCasts_S32768x1024_S8x4096x1024) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (shapeCast S8x4096x1024 (extractStridedSlice S32768x1024 ![0, 2048] z slices_S32768x15360_S32768x1024_0_2048) shapeCasts_S32768x1024_S8x4096x1024))))))

/-- The reference's gates. -/
def rgate (z : FVec Ideal S32768x15360 .f32) : FVec Ideal S8x4096x6144 .f32 :=
  Host.divf (broadcastInDim S8x4096x6144 ![] bcast_S_S8x4096x6144 (constant S_ .f32 0x3F800000#32)) (addf (broadcastInDim S8x4096x6144 ![] bcast_S_S8x4096x6144 (constant S_ .f32 0x3F800000#32)) (Host.exp (Host.negf (shapeCast S8x4096x6144 (extractStridedSlice S32768x6144 ![0, 6144] z slices_S32768x15360_S32768x6144_0_6144) shapeCasts_S32768x6144_S8x4096x6144))))

/-- What the reference computes. -/
def out (o p : FVec Ideal S32768x1024 .f32) (z : FVec Ideal S32768x15360 .f32) (g : FVec Ideal S256 .f32) (b : FVec Ideal S32768x1024 .f32)
    (h : FVec Ideal S32768x1024 .bf16) (wa wb wc : FVec Ideal S1024x2048 .f32) : FVec Ideal S32768x2048 .bf16 :=
  truncf .bf16 (shapeCast S32768x2048 (addf (addf (mulf (extractStridedSlice S8x4096x2048 ![0, 0, 0] (rgate z) slices_S8x4096x6144_S8x4096x2048_0_0_0) (Host.dotGeneral dot_S8x4096x1024_S1024x2048_S8x4096x2048_2_0_01_1_n_n none (rgated o p z g) wa)) (mulf (extractStridedSlice S8x4096x2048 ![0, 0, 2048] (rgate z) slices_S8x4096x6144_S8x4096x2048_0_0_2048) (Host.dotGeneral dot_S8x4096x1024_S1024x2048_S8x4096x2048_2_0_01_1_n_n none (shapeCast S8x4096x1024 b shapeCasts_S32768x1024_S8x4096x1024) wb))) (mulf (extractStridedSlice S8x4096x2048 ![0, 0, 4096] (rgate z) slices_S8x4096x6144_S8x4096x2048_0_0_4096) (Host.dotGeneral dot_S8x4096x1024_S1024x2048_S8x4096x2048_2_0_01_1_n_n none (shapeCast S8x4096x1024 (extf .f32 h bitsLt_bf16_f32) shapeCasts_S32768x1024_S8x4096x1024) wc))) shapeCasts_S8x4096x2048_S32768x2048) bitsLt_bf16_f32

theorem rhead_ap (o p : FVec Ideal S32768x1024 .f32) (g : FVec Ideal S256 .f32) (b : Fin 8) (r : Fin 4096) (n : Fin 4) (d : Fin 256) :
    rhead o p g (ix4 b r n d)
      = (fun x : Fin 256 → EReal => x d * Ideal.rsqrt (Ideal.div (∑ l, x l * x l) (Ideal.ofBits FTy.f32 1132462080#32) + Ideal.ofBits FTy.f32 897988541#32) * g (ix1 d))
          (fun l => o (ix2 ⟨b.val * 4096 + r.val, by omega⟩ ⟨n.val * 256 + l.val, by omega⟩) + p (ix2 ⟨b.val * 4096 + r.val, by omega⟩ ⟨n.val * 256 + l.val, by omega⟩)) := by
  unfold rhead
  pointwise

theorem rgated_ap (o p : FVec Ideal S32768x1024 .f32) (z : FVec Ideal S32768x15360 .f32) (g : FVec Ideal S256 .f32) (b : Fin 8) (r : Fin 4096) (k : Fin 1024) :
    rgated o p z g (ix3 b r k)
      = rhead o p g (ix4 b r ⟨k.val / 256, by omega⟩ ⟨k.val % 256, by omega⟩)
          * (z (ix2 ⟨b.val * 4096 + r.val, by omega⟩ ⟨2048 + k.val, by omega⟩) * Ideal.logistic (z (ix2 ⟨b.val * 4096 + r.val, by omega⟩ ⟨2048 + k.val, by omega⟩))) := by
  unfold rgated Ideal.logistic
  pointwise

theorem rgate_ap (z : FVec Ideal S32768x15360 .f32) (b : Fin 8) (r : Fin 4096) (k : Fin 6144) :
    rgate z (ix3 b r k) = Ideal.logistic (z (ix2 ⟨b.val * 4096 + r.val, by omega⟩ ⟨6144 + k.val, by omega⟩)) := by
  unfold rgate Ideal.logistic
  pointwise

theorem out_rd (o p : FVec Ideal S32768x1024 .f32) (z : FVec Ideal S32768x15360 .f32) (g : FVec Ideal S256 .f32) (b : FVec Ideal S32768x1024 .f32)
    (h : FVec Ideal S32768x1024 .bf16) (wa wb wc : FVec Ideal S1024x2048 .f32) (R : Fin 32768) (L : Fin 2048) :
    out o p z g b h wa wb wc (ix2 R L)
      = rgate z (ix3 ⟨R.val / 4096, by omega⟩ ⟨R.val % 4096, by omega⟩ ⟨L.val, by omega⟩) * (∑ k, rgated o p z g (ix3 ⟨R.val / 4096, by omega⟩ ⟨R.val % 4096, by omega⟩ k) * wa (ix2 k L))
        + rgate z (ix3 ⟨R.val / 4096, by omega⟩ ⟨R.val % 4096, by omega⟩ ⟨2048 + L.val, by omega⟩) * (∑ k, b (ix2 R k) * wb (ix2 k L))
        + rgate z (ix3 ⟨R.val / 4096, by omega⟩ ⟨R.val % 4096, by omega⟩ ⟨4096 + L.val, by omega⟩) * (∑ k, h (ix2 R k) * wc (ix2 k L)) := by
  unfold out
  pointwise

theorem out_ap (o p : FVec Ideal S32768x1024 .f32) (z : FVec Ideal S32768x15360 .f32) (g : FVec Ideal S256 .f32) (b : FVec Ideal S32768x1024 .f32)
    (h : FVec Ideal S32768x1024 .bf16) (wa wb wc : FVec Ideal S1024x2048 .f32) (R : Fin 32768) (L : Fin 2048) :
    out o p z g b h wa wb wc (ix2 R L) = val o p z g b h wa wb wc R L := by
  have e : (⟨R.val / 4096 * 4096 + R.val % 4096, by omega⟩ : Fin 32768) = R := Fin.ext (by show R.val / 4096 * 4096 + R.val % 4096 = R.val; omega)
  have eg : ∀ k : Fin 6144, rgate z (ix3 ⟨R.val / 4096, by omega⟩ ⟨R.val % 4096, by omega⟩ k) = Ideal.logistic (z (ix2 R ⟨6144 + k.val, by omega⟩)) := fun k =>
    (rgate_ap z _ _ k).trans (congrArg (fun R' : Fin 32768 => Ideal.logistic (z (ix2 R' _))) e)
  have ea : ∀ k : Fin 1024, rgated o p z g (ix3 ⟨R.val / 4096, by omega⟩ ⟨R.val % 4096, by omega⟩ k) = branch o p z g R k := fun k => by
    refine (rgated_ap o p z g _ _ k).trans ?_
    rw [rhead_ap]
    unfold branch head
    exact congrArg (fun R' : Fin 32768 => (fun x : Fin 256 → EReal => x ⟨k.val % 256, by omega⟩ * Ideal.rsqrt (Ideal.div (∑ l, x l * x l) (Ideal.ofBits FTy.f32 1132462080#32) + Ideal.ofBits FTy.f32 897988541#32) * g (ix1 ⟨k.val % 256, by omega⟩))
        (fun l => o (ix2 R' ⟨k.val / 256 * 256 + l.val, by omega⟩) + p (ix2 R' ⟨k.val / 256 * 256 + l.val, by omega⟩))
      * (z (ix2 R' ⟨2048 + k.val, by omega⟩) * Ideal.logistic (z (ix2 R' ⟨2048 + k.val, by omega⟩)))) e
  rw [out_rd, eg, eg, eg]
  unfold val mix
  have e1 : (⟨6144 + (2048 + L.val), by omega⟩ : Fin 15360) = ⟨8192 + L.val, by omega⟩ := Fin.ext (by show 6144 + (2048 + L.val) = 8192 + L.val; omega)
  have e2 : (⟨6144 + (4096 + L.val), by omega⟩ : Fin 15360) = ⟨10240 + L.val, by omega⟩ := Fin.ext (by show 6144 + (4096 + L.val) = 10240 + L.val; omega)
  simp only [ea]
  rw [e1, e2]

/-- The reference's run ends with `out` of its arguments, which are unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans rfl, (h c).2⟩) (Value.run m ρ)

end Reference

/-- The kernel's result is the reference's function of the same arguments. -/
theorem value (m : (ℓ : Loc Cert.Kernel5Ideal.nD Cert.Kernel5Ideal.τ Cert.Kernel5Ideal.sig) → Buf (Elt Ideal) ℓ) (c : Dev Cert.Kernel5Ideal.nD) :
    (Cert.Kernel5Ideal.Gen.dats m 0 c).arrAt 12 Cert.Kernel5Ideal.cfg0.N
      = out (m ((c.tc : Thread Cert.Kernel5Ideal.nD Cert.Kernel5Ideal.τ).loc Cert.Kernel5Ideal.main_arg0))
          (m ((c.tc : Thread Cert.Kernel5Ideal.nD Cert.Kernel5Ideal.τ).loc Cert.Kernel5Ideal.main_arg1))
          (m ((c.tc : Thread Cert.Kernel5Ideal.nD Cert.Kernel5Ideal.τ).loc Cert.Kernel5Ideal.main_arg2))
          (m ((c.tc : Thread Cert.Kernel5Ideal.nD Cert.Kernel5Ideal.τ).loc Cert.Kernel5Ideal.main_arg3))
          (m ((c.tc : Thread Cert.Kernel5Ideal.nD Cert.Kernel5Ideal.τ).loc Cert.Kernel5Ideal.main_arg4))
          (m ((c.tc : Thread Cert.Kernel5Ideal.nD Cert.Kernel5Ideal.τ).loc Cert.Kernel5Ideal.main_arg5))
          (m ((c.tc : Thread Cert.Kernel5Ideal.nD Cert.Kernel5Ideal.τ).loc Cert.Kernel5Ideal.main_arg6))
          (m ((c.tc : Thread Cert.Kernel5Ideal.nD Cert.Kernel5Ideal.τ).loc Cert.Kernel5Ideal.main_arg7))
          (m ((c.tc : Thread Cert.Kernel5Ideal.nD Cert.Kernel5Ideal.τ).loc Cert.Kernel5Ideal.main_arg8)) := by
  funext i
  have hi : i = ix2 (i 0) (i 1) := by
    funext x
    match x with
    | ⟨0, _⟩ => rfl
    | ⟨1, _⟩ => rfl
  rw [hi]
  exact (arr_ap m c (i 0) (i 1)).trans (out_ap _ _ _ _ _ _ _ _ _ (i 0) (i 1)).symm

end Cert.Merge
end
end
-- ==== Proof.InProjBody.lean ====
/- The body of the input projection run on any buffers: at the first block of columns it stores the normed rows and the
   decays, at every block of columns the product. -/
module

public import proofs.«01_k».proof.Proof.Gen.Kernel6Ideal.Frame
public import Idealize.ShloMosaic.Lib.Pipeline.TableIdle

@[expose] public section

set_option synthInstance.maxSize 4096
set_option maxRecDepth 16384

noncomputable section
namespace Cert.InProj
open Cert.Kernel6Ideal Cert.Kernel6Ideal.Gen Cert.Kernel6Ideal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def k0_pay1 (v43 : FVec F S512x1024 .f32) (v44 : Vec F S1x1024 .f32) : FVec F S512x1024 .f32 :=
  have v45 : FVec F S1x1024 .f32 := shapeCast S1x1024 v44 shapeCasts_S1x1024_S1x1024
  have v46 : FVec F S512x1024 .f32 := broadcastTo S512x1024 v45 broadcasts_S1x1024_S512x1024
  have v47 : FVec F S512x1024 .f32 := addf v43 v46
  have cst_30 : F .f32 := Scalar.ofBits .f32 0x00000000#32
  have v48 : FVec F S512x1024 .f32 := broadcast S512x1024 cst_30
  have v49 : FVec F S512x1024 .f32 := minimumf v47 v48
  have v50 : FVec F S512x1024 .f32 := absf v47
  have cst_31 : F .f32 := Scalar.ofBits .f32 0x00000000#32
  have v51 : FVec F S512x1024 .f32 := broadcast S512x1024 cst_31
  have v52 : FVec F S512x1024 .f32 := subf v51 v50
  have v53 : FVec F S512x1024 .f32 := exp v52
  have cst_32 : F .f32 := Scalar.ofBits .f32 0x3F800000#32
  have v54 : FVec F S512x1024 .f32 := broadcast S512x1024 cst_32
  have v55 : FVec F S512x1024 .f32 := addf v54 v53
  have v56 : FVec F S512x1024 .f32 := log v55
  have v57 : FVec F S512x1024 .f32 := subf v49 v56
  have cst_33 : F .f32 := Scalar.ofBits .f32 0x3D800000#32
  have v58 : FVec F S512x1024 .f32 := broadcast S512x1024 cst_33
  have v59 : FVec F S512x1024 .f32 := mulf v57 v58
  v59

noncomputable def k0_pay2 (v3 : Vec F S512x2048 .bf16) (v4 : Vec F S2048x1536 .bf16) : FVec F S512x1536 .f32 :=
  have v5 : FVec F S2048x1536 .bf16 := shapeCast S2048x1536 v4 shapeCasts_S2048x1536_S2048x1536
  have cst : FVec F S512x1536 .f32 := constant S512x1536 .f32 0x00000000#32
  have v6 : FVec F S512x1536 .f32 := matmul dot_S512x2048_S2048x1536_S512x1536_1_0_0_1_n_n none v3 v5 cst
  v6

noncomputable def k0_pay3 (v8 : Vec F S512x2048 .f32) (v9 : Vec F S1x2048 .f32) (v11 : Vec F S1x1x2048 .f32) (v13 : Vec F S1x1x2048 .f32) : FVec F S512x2048 .bf16 :=
  have v10 : FVec F S1x2048 .f32 := shapeCast S1x2048 v9 shapeCasts_S1x2048_S1x2048
  have v12 : FVec F S1x2048 .f32 := shapeCast S1x2048 v11 shapeCasts_S1x1x2048_S1x2048
  have v14 : FVec F S1x2048 .f32 := shapeCast S1x2048 v13 shapeCasts_S1x1x2048_S1x2048
  have v15 : FVec F S512x2048 .f32 := mulf v8 v8
  have v16 : FVec F S512 .f32 := multiReduction .add [1] S512 v15 0x00000000#32 reduces_S512x2048_S512 (.inl rfl) rfl
  have v17 : FVec F S512x1 .f32 := shapeCast S512x1 v16 shapeCasts_S512_S512x1
  have cst_17 : F .f32 := Scalar.ofBits .f32 0x45000000#32
  have v18 : FVec F S512x1 .f32 := broadcast S512x1 cst_17
  have v19 : FVec F S512x1 .f32 := divf v17 v18
  have cst_18 : F .f32 := Scalar.ofBits .f32 0x358637BD#32
  have v20 : FVec F S512x1 .f32 := broadcast S512x1 cst_18
  have v21 : FVec F S512x1 .f32 := addf v19 v20
  have v22 : FVec F S512x1 .f32 := rsqrt v21
  have v23 : FVec F S512x2048 .f32 := broadcastTo S512x2048 v22 broadcasts_S512x1_S512x2048
  have v24 : FVec F S512x2048 .f32 := mulf v8 v23
  have v25 : FVec F S512x2048 .f32 := broadcastTo S512x2048 v10 broadcasts_S1x2048_S512x2048
  have v26 : FVec F S512x2048 .f32 := mulf v24 v25
  have cst_19 : F .f32 := Scalar.ofBits .f32 0x3F800000#32
  have v27 : FVec F S1x2048 .f32 := broadcast S1x2048 cst_19
  have v28 : FVec F S1x2048 .f32 := addf v27 v12
  have v29 : FVec F S512x2048 .f32 := broadcastTo S512x2048 v28 broadcasts_S1x2048_S512x2048
  have v30 : FVec F S512x2048 .f32 := mulf v26 v29
  have v31 : FVec F S512x2048 .f32 := broadcastTo S512x2048 v14 broadcasts_S1x2048_S512x2048
  have v32 : FVec F S512x2048 .f32 := addf v30 v31
  have v33 : FVec F S512x2048 .bf16 := truncf .bf16 v32 bitsLt_bf16_f32
  v33

noncomputable def k0_pay4 (v8 : Vec F S512x2048 .f32) (v9 : Vec F S1x2048 .f32) (v11 : Vec F S1x1x2048 .f32) (v13 : Vec F S1x1x2048 .f32) : FVec F S512x2048 .bf16 :=
  have v36 : FVec F S512x2048 .bf16 := shapeCast S512x2048 (k0_pay3 v8 v9 v11 v13) shapeCasts_S512x2048_S512x2048
  v36

noncomputable def k0_pay5 (v8 : Vec F S512x2048 .f32) (v9 : Vec F S1x2048 .f32) (v11 : Vec F S1x1x2048 .f32) (v13 : Vec F S1x1x2048 .f32) (v37 : Vec F S2048x128 .bf16) (v41 : Vec F S128x1024 .bf16) : FVec F S512x1024 .f32 :=
  have v38 : FVec F S2048x128 .bf16 := shapeCast S2048x128 v37 shapeCasts_S2048x128_S2048x128
  have cst_24 : FVec F S512x128 .f32 := constant S512x128 .f32 0x00000000#32
  have v39 : FVec F S512x128 .f32 := matmul dot_S512x2048_S2048x128_S512x128_1_0_0_1_n_n none (k0_pay3 v8 v9 v11 v13) v38 cst_24
  have v40 : FVec F S512x128 .bf16 := truncf .bf16 v39 bitsLt_bf16_f32
  have v42 : FVec F S128x1024 .bf16 := shapeCast S128x1024 v41 shapeCasts_S128x1024_S128x1024
  have cst_27 : FVec F S512x1024 .f32 := constant S512x1024 .f32 0x00000000#32
  have v43 : FVec F S512x1024 .f32 := matmul dot_S512x128_S128x1024_S512x1024_1_0_0_1_n_n none v40 v42 cst_27
  v43

noncomputable def cc0_norm_matmul_skel (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S2048x128 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S512x1536 .f32) (harg10 : arg10.IsWhole) (arg11 : Memref sig .tc .vmem S512x1024 .f32) (harg11 : arg11.IsWhole) (arg12 : Memref sig .tc .vmem S512x2048 .bf16) (harg12 : arg12.IsWhole) :
    Prog (TpuEff nD τ sig (Elt F) Λ₀ .tc) PUnit := do
  if k0_h1 : k0_cond1 i = 1#1 then do
    let v43 : FVec F S512x1024 .f32 ← k0_part1 i arg2 harg2 arg3 harg3 arg4 harg4 arg5 harg5 arg6 harg6 arg7 harg7 arg8 harg8 arg9 harg9 arg10 harg10 arg11 harg11 arg12 harg12
    let v44 : Vec F S1x1024 .f32 ← Prog.lift (.load arg9 (Rect.unit (s := S1x1024) ![0, 0] S1x1024.size inb_S1x1024_S1x1024_0_0).toLoadRect (View.loadsAt_vmem h_S1x1024))
    let v60 : Vec F S512x1024 .f32 ← Prog.lift (.load arg11 (Rect.unit (s := S512x1024) ![0, 0] S512x1024.size inb_S512x1024_S512x1024_0_0).toLoadRect (View.loadsAt_vmem h_S512x1024))
    Prog.lift (.store arg11 (Rect.unit (s := S512x1024) ![0, 0] S512x1024.size inb_S512x1024_S512x1024_0_0) (k0_pay1 v43 v44) Finset.univ (View.stores_vmem_bits_univ h_S512x1024 rfl) (.inl rfl))
    pure ⟨⟩
  else do
    pure ⟨⟩
  let v3 : Vec F S512x2048 .bf16 ← Prog.lift (.load arg12 (Rect.unit (s := S512x2048) ![0, 0] S512x2048.size inb_S512x2048_S512x2048_0_0).toLoadRect (View.loadsAt_vmem h_S512x2048))
  let v4 : Vec F S2048x1536 .bf16 ← Prog.lift (.load arg6 (Rect.unit (s := S2048x1536) ![0, 0] S2048x1536.size inb_S2048x1536_S2048x1536_0_0).toLoadRect (View.loadsAt_vmem h_S2048x1536))
  let v7 : Vec F S512x1536 .f32 ← Prog.lift (.load arg10 (Rect.unit (s := S512x1536) ![0, 0] S512x1536.size inb_S512x1536_S512x1536_0_0).toLoadRect (View.loadsAt_vmem h_S512x1536))
  Prog.lift (.store arg10 (Rect.unit (s := S512x1536) ![0, 0] S512x1536.size inb_S512x1536_S512x1536_0_0) (k0_pay2 v3 v4) Finset.univ (View.stores_vmem_bits_univ h_S512x1536 rfl) (.inl rfl))
  pure ⟨⟩

set_option maxRecDepth 65536 in
theorem cc0_norm_matmul_eq_skeleton : cc0_norm_matmul (F := F) = cc0_norm_matmul_skel (F := F) := rfl

noncomputable def k0_part1_skel (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S2048x128 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S512x1536 .f32) (harg10 : arg10.IsWhole) (arg11 : Memref sig .tc .vmem S512x1024 .f32) (harg11 : arg11.IsWhole) (arg12 : Memref sig .tc .vmem S512x2048 .bf16) (harg12 : arg12.IsWhole) :
    Prog (TpuEff nD τ sig (Elt F) Λ₀ .tc) (FVec F S512x1024 .f32) := do
  let v8 : Vec F S512x2048 .f32 ← Prog.lift (.load arg2 (Rect.unit (s := S512x2048) ![0, 0] S512x2048.size inb_S512x2048_S512x2048_0_0).toLoadRect (View.loadsAt_vmem h_S512x2048))
  let v9 : Vec F S1x2048 .f32 ← Prog.lift (.load arg3 (Rect.unit (s := S1x2048) ![0, 0] S1x2048.size inb_S1x2048_S1x2048_0_0).toLoadRect (View.loadsAt_vmem h_S1x2048))
  let v11 : Vec F S1x1x2048 .f32 ← Prog.lift (.load arg4 (Rect.unit (s := S1x1x2048) ![0, 0, 0] S1x1x2048.size inb_S1x1x2048_S1x1x2048_0_0_0).toLoadRect (View.loadsAt_vmem h_S1x1x2048))
  let v13 : Vec F S1x1x2048 .f32 ← Prog.lift (.load arg5 (Rect.unit (s := S1x1x2048) ![0, 0, 0] S1x1x2048.size inb_S1x1x2048_S1x1x2048_0_0_0).toLoadRect (View.loadsAt_vmem h_S1x1x2048))
  let v34 : Vec F S512x2048 .bf16 ← Prog.lift (.load arg12 (Rect.unit (s := S512x2048) ![0, 0] S512x2048.size inb_S512x2048_S512x2048_0_0).toLoadRect (View.loadsAt_vmem h_S512x2048))
  Prog.lift (.store arg12 (Rect.unit (s := S512x2048) ![0, 0] S512x2048.size inb_S512x2048_S512x2048_0_0) (k0_pay4 v8 v9 v11 v13) Finset.univ (View.stores_vmem h_S512x2048 (harg12.storeExact_slice rfl _ packedbf16_S512x2048_S512x2048_0_0) (fun _ => rfl)) (.inl rfl))
  let v37 : Vec F S2048x128 .bf16 ← Prog.lift (.load arg7 (Rect.unit (s := S2048x128) ![0, 0] S2048x128.size inb_S2048x128_S2048x128_0_0).toLoadRect (View.loadsAt_vmem h_S2048x128))
  let v41 : Vec F S128x1024 .bf16 ← Prog.lift (.load arg8 (Rect.unit (s := S128x1024) ![0, 0] S128x1024.size inb_S128x1024_S128x1024_0_0).toLoadRect (View.loadsAt_vmem h_S128x1024))
  pure (k0_pay5 v8 v9 v11 v13 v37 v41)

set_option maxRecDepth 65536 in
theorem k0_part1_eq_skeleton : k0_part1 (F := F) = k0_part1_skel (F := F) := rfl

abbrev cond0_0 (i : grid0.Coords) : Prop := k0_cond1 i = 1#1
theorem hcond0_0 : ∀ t : Fin cfg0.N, cond0_0 (grid0.coords t) ↔ t.val % 10 = 0 :=
  (fun t => by
    have ht : t.val < 640 := Nat.lt_of_lt_of_eq t.isLt N_0
    have e0 : (grid0.coords t 0).val = t.val / 10 % 64 := Pipeline.Grid.coords_val t 0 (by decide) rfl
    have e1 : (grid0.coords t 1).val = t.val / 1 % 10 := Pipeline.Grid.coords_val t 1 (by decide) rfl
    simp only [cond0_0, k0_cond1, e0, e1]
    word_cmp
   : ∀ t : Fin grid0.N, cond0_0 (grid0.coords t) ↔ t.val % 10 = 0)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
/-- The buffer of the decays holds nothing stored exactly before the first block of columns. -/
def freshTab0_9 (n : ℕ) : Bool := n % 10 == 0

theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
theorem liveAt0_9_A : ∀ t : Fin cfg0.N, cond0_0 (grid0.coords t) → cfg0.idle 9 (grid0.coords t) = false := by decide +kernel
/-- At the other blocks of columns nothing is stored into the decays. -/
theorem idleAt0_9_B : ∀ t : Fin cfg0.N, ¬cond0_0 (grid0.coords t) → cfg0.idle 9 (grid0.coords t) = true := by decide +kernel
theorem notFresh0_9_B : ∀ t : Fin cfg0.N, ¬cond0_0 (grid0.coords t) → cfg0.fresh 9 t.val = false := by
  intro t; rw [fresh0_9_eq t]; revert t; decide +kernel

abbrev VO0_8 : View sig .tc .vmem S512x1536 .f32 := (Memref.whole cc0_stg8_0 : Memref sig .tc .vmem S512x1536 .f32).view
abbrev VO0_9 : View sig .tc .vmem S512x1024 .f32 := (Memref.whole cc0_stg9_0 : Memref sig .tc .vmem S512x1024 .f32).view
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1536 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1536 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .f32 := win0_9.stage (cfg0.slots t 9)
abbrev hs0_9 (t : Fin cfg0.N) : (ms0_9 t).IsWhole := hstage0_9 ((cfg0.slots t 9).cast nbuf0_9)
abbrev scM0_0 : Memref sig .tc .vmem S512x2048 .bf16 := Memref.whole cc0_scratch0
abbrev VS0_0 : View sig .tc .vmem S512x2048 .bf16 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The body run at the first block of columns: what its stores leave, found by the run. -/
noncomputable def kernelRun0_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S2048x128 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S512x1536 .f32) (harg10 : arg10.IsWhole) (arg11 : Memref sig .tc .vmem S512x1024 .f32) (harg11 : arg11.IsWhole) (arg12 : Memref sig .tc .vmem S512x2048 .bf16) (harg12 : arg12.IsWhole) (hc0 : cond0_0 i)
    (x0 : Vec F S512x2048 .f32) (x1 : Vec F S1x2048 .f32) (x2 : Vec F S1x1x2048 .f32) (x3 : Vec F S1x1x2048 .f32) (x4 : Vec F S2048x1536 .bf16) (x5 : Vec F S2048x128 .bf16) (x6 : Vec F S128x1024 .bf16) (x7 : Vec F S1x1024 .f32) :
    Σ' (L8 : List (View.Piece (Elt F) S512x1536 .f32)), Σ' (L9 : List (View.Piece (Elt F) S512x1024 .f32)), { LS0 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_norm_matmul i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_norm_matmul_eq_skeleton]; unfold cc0_norm_matmul_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact HS0

set_option maxHeartbeats 1000000 in
/-- The body run at another block of columns: what its stores leave, found by the run. -/
noncomputable def kernelRun0_B (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S2048x128 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S512x1536 .f32) (harg10 : arg10.IsWhole) (arg11 : Memref sig .tc .vmem S512x1024 .f32) (harg11 : arg11.IsWhole) (arg12 : Memref sig .tc .vmem S512x2048 .bf16) (harg12 : arg12.IsWhole) (hc0 : ¬cond0_0 i)
    (x0 : Vec F S512x2048 .f32) (x1 : Vec F S1x2048 .f32) (x2 : Vec F S1x1x2048 .f32) (x3 : Vec F S1x1x2048 .f32) (x4 : Vec F S2048x1536 .bf16) (x5 : Vec F S2048x128 .bf16) (x6 : Vec F S128x1024 .bf16) (x7 : Vec F S1x1024 .f32) (xo9 : Vec F S512x1024 .f32) (xs0 : Vec F S512x2048 .bf16) :
    Σ' (L8 : List (View.Piece (Elt F) S512x1536 .f32)), Σ' (L9 : List (View.Piece (Elt F) S512x1024 .f32)), { LS0 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xo9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xo9 ∗ owns (c : Thread nD τ) arg12 fullShare xs0) -∗ K ⟨⟩))
          ⊢ wp frame (wpE (defs₀ (F := F)) Variants.none c none) E (cc0_norm_matmul i arg2 harg2 arg3 harg3 arg4 harg4 arg5 harg5 arg6 harg6 arg7 harg7 arg8 harg8 arg9 harg9 arg10 harg10 arg11 harg11 arg12 harg12) K } := by
  refine ⟨?_, [], [], fun E K => ?run⟩
  case run =>
    simp only [cc0_norm_matmul_eq_skeleton]; unfold cc0_norm_matmul_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    iexists _; isplitr; · ipureintro; exact harg12.read_unread _
    iexact HS0

end Cert.InProj

end
-- ==== Proof.InProjRun.lean ====
/- The run of the input projection: the normed rows and the decays, stored at the first block of columns, are carried
   through the other blocks of columns, the last of which writes the decays back. -/
module

public import proofs.«01_k».proof.Proof.InProjBody
public import Idealize.ShloMosaic.Lib.Pipeline.TableIdle
public import Idealize.ShloMosaic.Lib.Claim

@[expose] public section

set_option synthInstance.maxSize 4096
set_option maxRecDepth 16384

noncomputable section
namespace Cert.InProj
open Cert.Kernel6Ideal Cert.Kernel6Ideal.Gen Cert.Kernel6Ideal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_8 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S2048x128 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S512x1536 .f32) (harg10 : arg10.IsWhole) (arg11 : Memref sig .tc .vmem S512x1024 .f32) (harg11 : arg11.IsWhole) (arg12 : Memref sig .tc .vmem S512x2048 .bf16) (harg12 : arg12.IsWhole) (hc0 : cond0_0 i)
    (x0 : Vec F S512x2048 .f32) (x1 : Vec F S1x2048 .f32) (x2 : Vec F S1x1x2048 .f32) (x3 : Vec F S1x1x2048 .f32) (x4 : Vec F S2048x1536 .bf16) (x5 : Vec F S2048x128 .bf16) (x6 : Vec F S128x1024 .bf16) (x7 : Vec F S1x1024 .f32) (y : S512x1536.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1 S512x1536.size (by sl_kernel_rfl) y

def out0_A_8 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S2048x128 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S512x1536 .f32) (harg10 : arg10.IsWhole) (arg11 : Memref sig .tc .vmem S512x1024 .f32) (harg11 : arg11.IsWhole) (arg12 : Memref sig .tc .vmem S512x2048 .bf16) (harg12 : arg12.IsWhole) (hc0 : cond0_0 i)
    (x0 : Vec F S512x2048 .f32) (x1 : Vec F S1x2048 .f32) (x2 : Vec F S1x1x2048 .f32) (x3 : Vec F S1x1x2048 .f32) (x4 : Vec F S2048x1536 .bf16) (x5 : Vec F S2048x128 .bf16) (x6 : Vec F S128x1024 .bf16) (x7 : Vec F S1x1024 .f32) : Vec F S512x1536 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1)

theorem cover0_A_9 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S2048x128 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S512x1536 .f32) (harg10 : arg10.IsWhole) (arg11 : Memref sig .tc .vmem S512x1024 .f32) (harg11 : arg11.IsWhole) (arg12 : Memref sig .tc .vmem S512x2048 .bf16) (harg12 : arg12.IsWhole) (hc0 : cond0_0 i)
    (x0 : Vec F S512x2048 .f32) (x1 : Vec F S1x2048 .f32) (x2 : Vec F S1x1x2048 .f32) (x3 : Vec F S1x1x2048 .f32) (x4 : Vec F S2048x1536 .bf16) (x5 : Vec F S2048x128 .bf16) (x6 : Vec F S128x1024 .bf16) (x7 : Vec F S1x1024 .f32) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1 S512x1024.size (by sl_kernel_rfl) y

def out0_A_9 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S2048x128 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S512x1536 .f32) (harg10 : arg10.IsWhole) (arg11 : Memref sig .tc .vmem S512x1024 .f32) (harg11 : arg11.IsWhole) (arg12 : Memref sig .tc .vmem S512x2048 .bf16) (harg12 : arg12.IsWhole) (hc0 : cond0_0 i)
    (x0 : Vec F S512x2048 .f32) (x1 : Vec F S1x2048 .f32) (x2 : Vec F S1x1x2048 .f32) (x3 : Vec F S1x1x2048 .f32) (x4 : Vec F S2048x1536 .bf16) (x5 : Vec F S2048x128 .bf16) (x6 : Vec F S128x1024 .bf16) (x7 : Vec F S1x1024 .f32) : Vec F S512x1024 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1)

theorem scover0_A_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S2048x128 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S512x1536 .f32) (harg10 : arg10.IsWhole) (arg11 : Memref sig .tc .vmem S512x1024 .f32) (harg11 : arg11.IsWhole) (arg12 : Memref sig .tc .vmem S512x2048 .bf16) (harg12 : arg12.IsWhole) (hc0 : cond0_0 i)
    (x0 : Vec F S512x2048 .f32) (x1 : Vec F S1x2048 .f32) (x2 : Vec F S1x1x2048 .f32) (x3 : Vec F S1x1x2048 .f32) (x4 : Vec F S2048x1536 .bf16) (x5 : Vec F S2048x128 .bf16) (x6 : Vec F S128x1024 .bf16) (x7 : Vec F S1x1024 .f32) (y : S512x2048.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1 S512x2048.size (by sl_kernel_rfl) y

def sout0_A_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S2048x128 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S512x1536 .f32) (harg10 : arg10.IsWhole) (arg11 : Memref sig .tc .vmem S512x1024 .f32) (harg11 : arg11.IsWhole) (arg12 : Memref sig .tc .vmem S512x2048 .bf16) (harg12 : arg12.IsWhole) (hc0 : cond0_0 i)
    (x0 : Vec F S512x2048 .f32) (x1 : Vec F S1x2048 .f32) (x2 : Vec F S1x1x2048 .f32) (x3 : Vec F S1x1x2048 .f32) (x4 : Vec F S2048x1536 .bf16) (x5 : Vec F S2048x128 .bf16) (x6 : Vec F S128x1024 .bf16) (x7 : Vec F S1x1024 .f32) : Vec F S512x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1)

theorem cover0_B_8 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S2048x128 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S512x1536 .f32) (harg10 : arg10.IsWhole) (arg11 : Memref sig .tc .vmem S512x1024 .f32) (harg11 : arg11.IsWhole) (arg12 : Memref sig .tc .vmem S512x2048 .bf16) (harg12 : arg12.IsWhole) (hc0 : ¬cond0_0 i)
    (x0 : Vec F S512x2048 .f32) (x1 : Vec F S1x2048 .f32) (x2 : Vec F S1x1x2048 .f32) (x3 : Vec F S1x1x2048 .f32) (x4 : Vec F S2048x1536 .bf16) (x5 : Vec F S2048x128 .bf16) (x6 : Vec F S128x1024 .bf16) (x7 : Vec F S1x1024 .f32) (xo9 : Vec F S512x1024 .f32) (xs0 : Vec F S512x2048 .bf16) (y : S512x1536.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo9 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo9 xs0).1 S512x1536.size (by sl_kernel_rfl) y

def out0_B_8 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S2048x128 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S512x1536 .f32) (harg10 : arg10.IsWhole) (arg11 : Memref sig .tc .vmem S512x1024 .f32) (harg11 : arg11.IsWhole) (arg12 : Memref sig .tc .vmem S512x2048 .bf16) (harg12 : arg12.IsWhole) (hc0 : ¬cond0_0 i)
    (x0 : Vec F S512x2048 .f32) (x1 : Vec F S1x2048 .f32) (x2 : Vec F S1x1x2048 .f32) (x3 : Vec F S1x1x2048 .f32) (x4 : Vec F S2048x1536 .bf16) (x5 : Vec F S2048x128 .bf16) (x6 : Vec F S128x1024 .bf16) (x7 : Vec F S1x1024 .f32) (xo9 : Vec F S512x1024 .f32) (xs0 : Vec F S512x2048 .bf16) : Vec F S512x1536 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo9 xs0).1)

def out0_B_9 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S2048x128 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S512x1536 .f32) (harg10 : arg10.IsWhole) (arg11 : Memref sig .tc .vmem S512x1024 .f32) (harg11 : arg11.IsWhole) (arg12 : Memref sig .tc .vmem S512x2048 .bf16) (harg12 : arg12.IsWhole) (hc0 : ¬cond0_0 i)
    (x0 : Vec F S512x2048 .f32) (x1 : Vec F S1x2048 .f32) (x2 : Vec F S1x1x2048 .f32) (x3 : Vec F S1x1x2048 .f32) (x4 : Vec F S2048x1536 .bf16) (x5 : Vec F S2048x128 .bf16) (x6 : Vec F S128x1024 .bf16) (x7 : Vec F S1x1024 .f32) (xo9 : Vec F S512x1024 .f32) (xs0 : Vec F S512x2048 .bf16) : Vec F S512x1024 .f32 := xo9

def sout0_B_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S2048x128 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S512x1536 .f32) (harg10 : arg10.IsWhole) (arg11 : Memref sig .tc .vmem S512x1024 .f32) (harg11 : arg11.IsWhole) (arg12 : Memref sig .tc .vmem S512x2048 .bf16) (harg12 : arg12.IsWhole) (hc0 : ¬cond0_0 i)
    (x0 : Vec F S512x2048 .f32) (x1 : Vec F S1x2048 .f32) (x2 : Vec F S1x1x2048 .f32) (x3 : Vec F S1x1x2048 .f32) (x4 : Vec F S2048x1536 .bf16) (x5 : Vec F S2048x128 .bf16) (x6 : Vec F S128x1024 .bf16) (x7 : Vec F S1x1024 .f32) (xo9 : Vec F S512x1024 .f32) (xs0 : Vec F S512x2048 .bf16) : Vec F S512x2048 .bf16 := xs0

def outsAt0 (c : Dev nD) : (n : ℕ) → n < cfg0.N → Vec F S512x1536 .f32 × Vec F S512x1024 .f32 × Vec F S512x2048 .bf16
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 10 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2)

theorem outsAt0_A (c : Dev nD) (t : Fin cfg0.N) (h0 : t.val % 10 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

theorem outsAt0_B (c : Dev nD) (t : Fin cfg0.N) (h0 : ¬t.val % 10 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 640 := lt_of_lt_of_eq t.isLt (show cfg0.N = 640 from N_0)
  rw [after0_9, after0_9]
  by_cases h0 : t.val % 10 = 0
  · rw [liveAt0_9_A t ((hcond0_0 t).mpr h0)] at hi
    exact absurd hi Bool.false_ne_true
  · rw [outsAt0_B m c t h0]; rfl

theorem before0_9_B (c : Dev nD) (t : Fin cfg0.N) (h0 : ¬t.val % 10 = 0) (d) :
    (dats m 0 c).before 9 t d = (outsAt0 m c (t.val - 1) (Nat.lt_of_le_of_lt (Nat.sub_le _ _) t.isLt)).2.1 := by
  rw [Dat.before_out_traj _ 9 rfl (fun _ _ => rfl) (hcarry0_9 m c) t.val t rfl d,
    if_neg (by rw [notFresh0_9_B t (fun h => h0 ((hcond0_0 t).mp h))]; exact Bool.false_ne_true)]
  dsimp only [dats]

/-- What the body found in the buffer of the decays is what it leaves there, written back or not. -/
theorem leaves0_9_B (c : Dev nD) (t : Fin cfg0.N) (h0 : ¬t.val % 10 = 0) :
    (owns (c : Thread nD τ) (ms0_9 t) fullShare (outsAt0 m c (t.val - 1) (Nat.lt_of_le_of_lt (Nat.sub_le _ _) t.isLt)).2.1 : sProp 𝕄)
      ⊢ (dats m 0 c).leavesExact 9 t := by
  cases hf : (cfg0.win 9).flush t
  · rw [Dat.leavesExact_idle _ 9 t (idleAt0_9_B t (fun h => h0 ((hcond0_0 t).mp h))) hf]
    simp only [before0_9_B m c t h0]
    iintro H; iexists (fun _ => default); iexact H
  · unfold Dat.leavesExact
    rw [idleAt0_9_B t (fun h => h0 ((hcond0_0 t).mp h)), hf, after0_9, outsAt0_B m c t h0]
    exact Idealize.SL.BI.Entails.refl _

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 640 := lt_of_lt_of_eq t.isLt (show cfg0.N = 640 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  by_cases h0 : t.val % 10 = 0
  ·
    rw [show (dats m 0 c).leavesExact 9 t = owns (c : Thread nD τ) (ms0_9 t) fullShare ((dats m 0 c).after 9 t) from by
      unfold Dat.leavesExact; rw [liveAt0_9_A t ((hcond0_0 t).mpr h0)], after0_9]
    by_cases hz : t.val = 0
    · rw [PhiS_castSucc m c t, PhiS_zero m c _ _ hz, PhiA0_eq]
      rw [outsAt0_A m c t h0]
      unfold out0_A_8 out0_A_9 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      iintro ⟨H0, H1, H2, H3, H4, H5, H6, H7, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_8 out0_A_9 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexists _; iexact HS0
      iintro ⟨H0, H1, H2, H3, H4, H5, H6, H7, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _)
  ·
    by_cases hz : t.val = 0
    · exfalso; have hN : t.val < 640 := lt_of_lt_of_eq t.isLt (show cfg0.N = 640 from N_0); omega
    · rw [PhiS_castSucc m c t, PhiS_pos m c _ _ hz]
      rw [outsAt0_B m c t h0]
      simp only [before0_9_B m c t h0]
      unfold out0_B_8 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HS0]; · iexact HS0
      iintro ⟨H0, H1, H2, H3, H4, H5, H6, H7, ⟨%e8, H8⟩, H9, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _)
      iapply (leaves0_9_B m c t h0); iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 640 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.InProj

end
-- ==== Proof.InProj.lean ====
/- The input projection with the decays: what the kernel leaves in its two results, entry by entry, and that the plain
   reference leaves the same. The weights' columns are reordered on the host and the low-rank decays' weights padded to 128
   columns and set out block by block; the columns of zeros add nothing. -/
module

public import proofs.«01_k».proof.Proof.InProjRun
public import proofs.«01_k».proof.Proof.Gen.Reference6Ideal.Run
public import proofs.«01_k».proof.Proof.Up
public import Idealize.ShloMosaic.Lib.Routing.OpsOne

set_option maxRecDepth 16384

@[expose] public section
noncomputable section
namespace Cert.InProj
open Idealize.ShloMosaic Idealize.ShloMosaic.TcCoe Idealize.ShloMosaic.Tactic

/-- The decays' tail at one entry: the logarithm of the sigmoid, over sixteen. -/
def klsg (p : EReal) : EReal :=
  (min p 0 - Ideal.log (1 + Ideal.exp (0 - FloatOps.absf (F := Ideal) (φ := .f32) p))) * Ideal.ofBits FTy.f32 1031798784#32

theorem ofBits_16 : Ideal.ofBits FTy.f32 1098907648#32 = ((16 : ℝ) : EReal) := by
  simp [Ideal.ofBits, Ideal.ieee, -EReal.coe_mul]; norm_num

theorem ofBits_inv16 : Ideal.ofBits FTy.f32 1031798784#32 = ((1 / 16 : ℝ) : EReal) := by
  simp [Ideal.ofBits, Ideal.ieee, -EReal.coe_mul]; norm_num

/-- The logarithm in the tail is a real number at every argument. -/
theorem log_real (p : EReal) : ∃ l : ℝ, Ideal.log (1 + Ideal.exp (-max p (-p))) = (l : EReal) := by
  have one : Ideal.log (1 + 0) = ((0 : ℝ) : EReal) := by
    rw [add_zero, ← EReal.coe_one, Ideal.log_coe, if_neg (by norm_num), Real.log_one]
  induction p using EReal.rec with
  | bot => exact ⟨0, by rw [EReal.neg_bot, max_eq_right bot_le, EReal.neg_top]; exact one⟩
  | top => exact ⟨0, by rw [EReal.neg_top, max_eq_left bot_le, EReal.neg_top]; exact one⟩
  | coe r =>
    have e : max (r : EReal) (-r) = ((max r (-r) : ℝ) : EReal) := by
      rw [← EReal.coe_neg]; exact (EReal.coe_strictMono.monotone.map_max).symm
    have h := Real.exp_pos (-max r (-r))
    refine ⟨Real.log (1 + Real.exp (-max r (-r))), ?_⟩
    rw [e, ← EReal.coe_neg, Ideal.exp_coe, ← EReal.coe_one, ← EReal.coe_add, Ideal.log_coe, if_neg (by linarith)]

/-- The reference's tail is the kernel's. -/
theorem lsg_eq (p : EReal) :
    Ideal.div (-(max (-p) 0 + Ideal.log1p (Ideal.exp (-FloatOps.absf (F := Ideal) (φ := .f32) (-p))))) (Ideal.ofBits FTy.f32 1098907648#32) = klsg p := by
  have ha : FloatOps.absf (F := Ideal) (φ := .f32) (-p) = max p (-p) := by
    show max (-p) (- -p) = max p (-p)
    rw [neg_neg, max_comm]
  have hb : FloatOps.absf (F := Ideal) (φ := .f32) p = max p (-p) := rfl
  unfold klsg Ideal.log1p Ideal.div
  rw [ha, hb, ofBits_16, ofBits_inv16, zero_sub]
  obtain ⟨l, hl⟩ := log_real p
  have hm : max (-p) 0 = -min p 0 := by
    rcases le_total p 0 with h | h
    · rw [min_eq_left h, max_eq_left (by simpa using EReal.neg_le_neg_iff.mpr h)]
    · rw [min_eq_right h, max_eq_right (by simpa using EReal.neg_le_neg_iff.mpr h), neg_zero]
  rw [hl, hm, EReal.neg_add (Or.inr (EReal.coe_ne_top l)) (Or.inr (EReal.coe_ne_bot l)), neg_neg,
    if_neg (by rw [← EReal.coe_zero]; exact fun h => by have := EReal.coe_injective h; norm_num at this),
    ← EReal.coe_inv]
  norm_num

/-- A sum over the padded low rank is the sum over one direction's sixteen. -/
theorem low_rank (h : Fin 2048 → EReal) (w : Fin 2048 → Fin 15392 → EReal) (v : Fin 16 → EReal) (i : Fin 2) (G : Fin 2048 → Fin 128 → EReal)
    (hG : ∀ k q, G k q = if h : q.val < 32 then w k ⟨3072 + q.val, by omega⟩ else 0) (A : Fin 128 → EReal)
    (hA : ∀ q, A q = if h : 16 * i.val ≤ q.val ∧ q.val < 16 * i.val + 16 then v ⟨q.val - 16 * i.val, by omega⟩ else 0) :
    ∑ q, (∑ k, h k * G k q) * A q = ∑ q : Fin 16, (∑ k, h k * w k ⟨3072 + (i.val * 16 + q.val), by omega⟩) * v q := by
  refine (Fintype.sum_of_injective (fun q : Fin 16 => (⟨16 * i.val + q.val, by omega⟩ : Fin 128)) (fun q q' e => ?_) _ _ (fun q hq => ?_) (fun q => ?_)).symm
  · have e' : 16 * i.val + q.val = 16 * i.val + q'.val := congrArg Fin.val e
    exact Fin.ext (by omega)
  · rw [hA, dif_neg fun hh => hq ⟨⟨q.val - 16 * i.val, by omega⟩, Fin.ext (by show 16 * i.val + (q.val - 16 * i.val) = q.val; omega)⟩, mul_zero]
  · rw [hA, dif_pos (by show 16 * i.val ≤ 16 * i.val + q.val ∧ 16 * i.val + q.val < 16 * i.val + 16; omega)]
    have e : (⟨16 * i.val + q.val - 16 * i.val, by omega⟩ : Fin 16) = q := Fin.ext (by show 16 * i.val + q.val - 16 * i.val = q.val; omega)
    refine congrArg₂ (· * ·) (Finset.sum_congr rfl fun k _ => ?_) (congrArg v e).symm
    rw [hG, dif_pos (by show 16 * i.val + q.val < 32; omega)]
    exact congrArg (fun x => h k * w k x) (Fin.ext (by show 3072 + (i.val * 16 + q.val) = 3072 + (16 * i.val + q.val); omega))

/-- The column of the given weights that a column of the reordered weights is. -/
def col (L : Fin 15360) : Fin 15392 :=
  if h : L.val < 3072 then ⟨L.val, by omega⟩
  else if h : L.val < 6144 then ⟨L.val + 32, by omega⟩
  else if h : L.val < 12288 then ⟨L.val + 3104, by omega⟩
  else ⟨L.val - 6112, by omega⟩

/-- The projection at a row and a column. -/
def prj (x : FVec Ideal ⟨2, ![32768, 2048]⟩ .f32) (g : FVec Ideal ⟨1, ![2048]⟩ .f32) (sc sh : FVec Ideal ⟨3, ![8, 1, 2048]⟩ .f32)
    (w : FVec Ideal ⟨2, ![2048, 15392]⟩ .f32) (R : Fin 32768) (L : Fin 15360) : EReal :=
  ∑ k, Up.hid x g sc sh R k * w (ix2 k (col L))

/-- The decay at a row and a column. -/
def dcy (x : FVec Ideal ⟨2, ![32768, 2048]⟩ .f32) (g : FVec Ideal ⟨1, ![2048]⟩ .f32) (sc sh : FVec Ideal ⟨3, ![8, 1, 2048]⟩ .f32)
    (w : FVec Ideal ⟨2, ![2048, 15392]⟩ .f32) (wa : FVec Ideal ⟨3, ![2, 16, 512]⟩ .f32) (ba : FVec Ideal ⟨2, ![2, 512]⟩ .f32)
    (R : Fin 32768) (C : Fin 1024) : EReal :=
  klsg ((∑ q : Fin 16, (∑ k, Up.hid x g sc sh R k * w (ix2 k ⟨3072 + (C.val / 512 * 16 + q.val), by omega⟩)) * wa (ix3 ⟨C.val / 512, by omega⟩ q ⟨C.val % 512, by omega⟩))
    + ba (ix2 ⟨C.val / 512, by omega⟩ ⟨C.val % 512, by omega⟩))

section Kernel
open Cert.Kernel6Ideal Cert.Kernel6Ideal.Gen Cert.Kernel6Ideal.Facts

theorem pay3_ap (x : FVec Ideal S512x2048 .f32) (g : FVec Ideal S1x2048 .f32) (sc sh : FVec Ideal S1x1x2048 .f32) (i : Fin 512) (k : Fin 2048) :
    k0_pay3 (F := Ideal) x g sc sh (ix2 i k)
      = Up.nrm (fun k => x (ix2 i k)) (fun k => g (ix2 0 k)) (fun k => sc (ix3 0 0 k)) (fun k => sh (ix3 0 0 k)) k := by
  unfold Up.nrm
  pointwise [k0_pay3]

theorem pay4_eq (x : FVec Ideal S512x2048 .f32) (g : FVec Ideal S1x2048 .f32) (sc sh : FVec Ideal S1x1x2048 .f32) :
    k0_pay4 (F := Ideal) x g sc sh = k0_pay3 (F := Ideal) x g sc sh := by
  funext i
  pointwise [k0_pay4]

theorem pay2_ap (h : FVec Ideal S512x2048 .bf16) (w : FVec Ideal S2048x1536 .bf16) (i : Fin 512) (j : Fin 1536) :
    k0_pay2 (F := Ideal) h w (ix2 i j) = ∑ k, h (ix2 i k) * w (ix2 k j) := by
  pointwise [k0_pay2]

theorem pay5_ap (h : FVec Ideal S512x2048 .bf16) (x : FVec Ideal S512x2048 .f32) (g : FVec Ideal S1x2048 .f32) (sc sh : FVec Ideal S1x1x2048 .f32)
   (hx : k0_pay3 (F := Ideal) x g sc sh = h) (wg : FVec Ideal S2048x128 .bf16) (wa : FVec Ideal S128x1024 .bf16)
    (i : Fin 512) (j : Fin 1024) :
    k0_pay5 (F := Ideal) x g sc sh wg wa (ix2 i j)
      = ∑ q, (∑ k, h (ix2 i k) * wg (ix2 k q)) * wa (ix2 q j) := by
  unfold k0_pay5
  rw [hx]
  pointwise

theorem pay1_ap (v : FVec Ideal S512x1024 .f32) (b : FVec Ideal S1x1024 .f32) (i : Fin 512) (j : Fin 1024) :
    k0_pay1 (F := Ideal) v b (ix2 i j) = klsg (v (ix2 i j) + b (ix2 0 j)) := by
  unfold klsg
  pointwise [k0_pay1]

variable (m : (ℓ : Loc nD τ sig) → Buf (Elt Ideal) ℓ) (c : Dev nD)

/-- At the first block of columns the norm is stored, … -/
theorem keep_first (t : Fin cfg0.N) (h0 : t.val % 10 = 0) :
    (outsAt0 m c t.val t.isLt).2.2 = k0_pay4 (F := Ideal) (iblk m c 0 t) (iblk m c 1 t) (iblk m c 2 t) (iblk m c 3 t) := by
  rw [outsAt0_A m c t h0]
  dsimp only
  unfold sout0_A_0 kernelRun0_A
  dsimp only
  unfold kernelRun0_A.sl.HS0_1
  rw [View.read_writes_full, Up.read_all, Up.read_all, Up.read_all, Up.read_all]

/-- … and at the others it stays. -/
theorem keep_next (t : Fin cfg0.N) (h0 : ¬ t.val % 10 = 0) :
    (outsAt0 m c t.val t.isLt).2.2 = (outsAt0 m c (t.val - 1) (Nat.lt_of_le_of_lt (Nat.sub_le _ _) t.isLt)).2.2 := by
  rw [outsAt0_B m c t h0]
  rfl

/-- So are the decays. -/
theorem dec_first (t : Fin cfg0.N) (h0 : t.val % 10 = 0) :
    (outsAt0 m c t.val t.isLt).2.1
      = k0_pay1 (F := Ideal) (k0_pay5 (F := Ideal) (iblk m c 0 t) (iblk m c 1 t) (iblk m c 2 t) (iblk m c 3 t) (iblk m c 5 t) (iblk m c 6 t)) (iblk m c 7 t) := by
  rw [outsAt0_A m c t h0]
  dsimp only
  unfold out0_A_9 kernelRun0_A
  dsimp only
  unfold kernelRun0_A.sl.r
  rw [View.read_writes_full, Up.read_all, Up.read_all, Up.read_all, Up.read_all, Up.read_all, Up.read_all, Up.read_all]

theorem dec_next (t : Fin cfg0.N) (h0 : ¬ t.val % 10 = 0) :
    (outsAt0 m c t.val t.isLt).2.1 = (outsAt0 m c (t.val - 1) (Nat.lt_of_le_of_lt (Nat.sub_le _ _) t.isLt)).2.1 := by
  rw [outsAt0_B m c t h0]
  rfl

theorem out_first (t : Fin cfg0.N) (h0 : t.val % 10 = 0) :
    (outsAt0 m c t.val t.isLt).1 = k0_pay2 (F := Ideal) (outsAt0 m c t.val t.isLt).2.2 (iblk m c 4 t) := by
  rw [keep_first m c t h0, outsAt0_A m c t h0]
  dsimp only
  unfold out0_A_8 kernelRun0_A
  dsimp only
  unfold kernelRun0_A.sl.v3 kernelRun0_A.sl.HS0_1
  rw [View.read_writes_full, View.readCov_full, Up.read_all, Up.read_all, Up.read_all, Up.read_all, Up.read_all]

theorem out_next (t : Fin cfg0.N) (h0 : ¬ t.val % 10 = 0) :
    (outsAt0 m c t.val t.isLt).1 = k0_pay2 (F := Ideal) (outsAt0 m c t.val t.isLt).2.2 (iblk m c 4 t) := by
  rw [keep_next m c t h0, outsAt0_B m c t h0]
  dsimp only
  unfold out0_B_8 kernelRun0_B
  dsimp only
  rw [View.read_writes_full]
  exact congrArg₂ (k0_pay2 (F := Ideal)) (Up.read_all _ _ _) (Up.read_all _ _ _)

theorem out_eq (t : Fin cfg0.N) :
    (outsAt0 m c t.val t.isLt).1 = k0_pay2 (F := Ideal) (outsAt0 m c t.val t.isLt).2.2 (iblk m c 4 t) := by
  by_cases h0 : t.val % 10 = 0
  · exact out_first m c t h0
  · exact out_next m c t h0

theorem col_read (f : Fin 15392 → EReal) (L : Fin 15360) :
    (if h : L.val < 3072 then f ⟨L.val, by omega⟩
      else if h : L.val - 3072 < 3072 then f ⟨3104 + (L.val - 3072), by omega⟩
      else if h : L.val - 3072 - 3072 < 6144 then f ⟨9248 + (L.val - 3072 - 3072), by omega⟩
      else f ⟨6176 + (L.val - 3072 - 3072 - 6144), by omega⟩) = f (col L) := by
  have at_col : ∀ x y : Fin 15392, x.val = y.val → f x = f y := fun x y h => congrArg f (Fin.ext h)
  by_cases h1 : L.val < 3072
  · rw [dif_pos h1]
    unfold col
    rw [dif_pos h1]
  rw [dif_neg h1]
  by_cases h2 : L.val < 6144
  · rw [dif_pos (show L.val - 3072 < 3072 by omega)]
    unfold col
    rw [dif_neg h1, dif_pos h2]
    exact at_col _ _ (by show 3104 + (L.val - 3072) = L.val + 32; omega)
  rw [dif_neg (show ¬ L.val - 3072 < 3072 by omega)]
  by_cases h3 : L.val < 12288
  · rw [dif_pos (show L.val - 3072 - 3072 < 6144 by omega)]
    unfold col
    rw [dif_neg h1, dif_neg h2, dif_pos h3]
    exact at_col _ _ (by show 9248 + (L.val - 3072 - 3072) = L.val + 3104; omega)
  · rw [dif_neg (show ¬ L.val - 3072 - 3072 < 6144 by omega)]
    unfold col
    rw [dif_neg h1, dif_neg h2, dif_neg h3]
    exact at_col _ _ (by show 6176 + (L.val - 3072 - 3072 - 6144) = L.val - 6112; omega)

theorem V_w (k : Fin 2048) (L : Fin 15360) : V m c main_v5 (ix2 k L) = m ((c : Thread nD τ).loc main_arg4) (ix2 k (col L)) := by
  have h : V m c main_v5 = (truncf .bf16 (concatenate S2048x15360 1 [⟨S2048x3072, extractStridedSlice S2048x3072 ![0, 0] (m ((c : Thread nD τ).loc main_arg4)) slices_S2048x15392_S2048x3072_0_0⟩, ⟨S2048x3072, extractStridedSlice S2048x3072 ![0, 3104] (m ((c : Thread nD τ).loc main_arg4)) slices_S2048x15392_S2048x3072_0_3104⟩, ⟨S2048x6144, extractStridedSlice S2048x6144 ![0, 9248] (m ((c : Thread nD τ).loc main_arg4)) slices_S2048x15392_S2048x6144_0_9248⟩, ⟨S2048x3072, extractStridedSlice S2048x3072 ![0, 6176] (m ((c : Thread nD τ).loc main_arg4)) slices_S2048x15392_S2048x3072_0_6176⟩] concatenates_S2048x3072_S2048x3072_S2048x6144_S2048x3072_S2048x15360_d1) bitsLt_bf16_f32 : FVec Ideal S2048x15360 .bf16) := by
    unfold V
    simp only [List.flatten_cons, List.flatten_nil, List.append_nil, List.cons_append, List.nil_append, hostOps0, hostOps0_1, hostOps0_2, StableHlo.TRef.ternary, StableHlo.TRef.binary, StableHlo.TRef.unary, StableHlo.TRef.toBuf, StableHlo.TRef.ofBuf, cast_eq]
    after_results_simp
    all_goals (try rfl)
  rw [h]
  generalize m ((c : Thread nD τ).loc main_arg4) = w
  change FVec Ideal S2048x15392 .f32 at w
  pointwise
  exact col_read (fun x => w (ix2 k x)) L

/-- The real of the zero word. -/
theorem zero_of_word : (FloatOps.sitofp (F := Ideal) FTy.f32 (0#32 : BitVec 32) : EReal) = 0 := by
  show ((((0#32 : BitVec 32).toInt : ℝ)) : EReal) = 0
  simp

/-- The decays' weights padded with zero columns. -/
theorem V_ga (k : Fin 2048) (q : Fin 128) :
    V m c main_v8 (ix2 k q) = if h : q.val < 32 then m ((c : Thread nD τ).loc main_arg4) (ix2 k ⟨3072 + q.val, by omega⟩) else (0 : EReal) := by
  have h : V m c main_v8 = (truncf .bf16 (pad S2048x128 ![0, 0] ![0, 96] ![0, 0] (extractStridedSlice S2048x32 ![0, 3072] (m ((c : Thread nD τ).loc main_arg4)) slices_S2048x15392_S2048x32_0_3072) (sitofp (F := Ideal) .f32 (constantI S_ 32 0#32)) pads_S2048x32_S2048x128_000_0960 h_S_) bitsLt_bf16_f32 : FVec Ideal S2048x128 .bf16) := by
    unfold V
    simp only [List.flatten_cons, List.flatten_nil, List.append_nil, List.cons_append, List.nil_append, hostOps0, hostOps0_1, hostOps0_2, StableHlo.TRef.ternary, StableHlo.TRef.binary, StableHlo.TRef.unary, StableHlo.TRef.toBuf, StableHlo.TRef.ofBuf, cast_eq]
    after_results_simp
    all_goals (try rfl)
  rw [h]
  generalize m ((c : Thread nD τ).loc main_arg4) = w
  change FVec Ideal S2048x15392 .f32 at w
  pointwise
  rw [show (FloatOps.sitofp (F := Ideal) FTy.f32 0#32 : EReal) = 0 from zero_of_word]

theorem V_g (k : Fin 2048) : V m c main_v22 (ix2 0 k) = m ((c : Thread nD τ).loc main_arg1) (ix1 k) := by
  have h : V m c main_v22 = (broadcastInDim S1x2048 ![1] bcast_S2048_S1x2048_1 (m ((c : Thread nD τ).loc main_arg1)) : FVec Ideal S1x2048 .f32) := by
    unfold V
    simp only [List.flatten_cons, List.flatten_nil, List.append_nil, List.cons_append, List.nil_append, hostOps0, hostOps0_1, hostOps0_2, StableHlo.TRef.ternary, StableHlo.TRef.binary, StableHlo.TRef.unary, StableHlo.TRef.toBuf, StableHlo.TRef.ofBuf, cast_eq]
    after_results_simp
    all_goals (try rfl)
  rw [h]
  generalize m ((c : Thread nD τ).loc main_arg1) = g
  change FVec Ideal S2048 .f32 at g
  pointwise

theorem row_ap (g : FVec Ideal S2x512 .f32) (C : Fin 1024) :
    shapeCast S1x1024 g shapeCasts_S2x512_S1x1024 (ix2 0 C) = g (ix2 ⟨C.val / 512, by omega⟩ ⟨C.val % 512, by omega⟩) := by
  pointwise

theorem V_b (C : Fin 1024) : V m c main_v24 (ix2 0 C) = m ((c : Thread nD τ).loc main_arg6) (ix2 ⟨C.val / 512, by omega⟩ ⟨C.val % 512, by omega⟩) := by
  have h : V m c main_v24 = (shapeCast S1x1024 (m ((c : Thread nD τ).loc main_arg6)) shapeCasts_S2x512_S1x1024 : FVec Ideal S1x1024 .f32) := by
    unfold V
    simp only [List.flatten_cons, List.flatten_nil, List.append_nil, List.cons_append, List.nil_append, hostOps0, hostOps0_1, hostOps0_2, StableHlo.TRef.ternary, StableHlo.TRef.binary, StableHlo.TRef.unary, StableHlo.TRef.toBuf, StableHlo.TRef.ofBuf, cast_eq]
    after_results_simp
    all_goals (try rfl)
  rw [h]
  exact row_ap _ C

/-- A block of sixteen rows and 512 columns written at a place, read at an entry. -/
theorem block_at (x : FVec Ideal S128x1024 .f32) (idx : IVec S2 32) (u : FVec Ideal S16x512 .f32) (r0 c0 : ℕ)
    (hr : (idx (ix1 0)).toInt = r0) (hc : (idx (ix1 1)).toInt = c0) (q : Fin 128) (j : Fin 1024) :
    Host.scatter scatter_S128x1024_S2_S16x512_01_n_01_0 (fun _ b => b) x idx u (ix2 q j)
      = if h : (r0 ≤ q.val ∧ q.val < r0 + 16) ∧ c0 ≤ j.val ∧ j.val < c0 + 512 then u (ix2 ⟨q.val - r0, by omega⟩ ⟨j.val - c0, by omega⟩)
        else x (ix2 q j) := by
  have lands : ∀ (a : Fin 16) (b : Fin 512), scatter_S128x1024_S2_S16x512_01_n_01_0.resultIdx? (ix2 a b) idx = some (ix2 q j)
      ↔ r0 + a.val = q.val ∧ c0 + b.val = j.val := by
    intro a b
    have w0 : scatter_S128x1024_S2_S16x512_01_n_01_0.window (ix2 a b) 0 = a.val := rfl
    have w1 : scatter_S128x1024_S2_S16x512_01_n_01_0.window (ix2 a b) 1 = b.val := rfl
    have s0 : scatter_S128x1024_S2_S16x512_01_n_01_0.start (ix2 a b) idx 0 = r0 :=
      (Routing.start_pair (R := 128) (C := 1024) scatter_S128x1024_S2_S16x512_01_n_01_0 rfl rfl idx (ix2 a b) 0).trans hr
    have s1 : scatter_S128x1024_S2_S16x512_01_n_01_0.start (ix2 a b) idx 1 = c0 :=
      (Routing.start_pair (R := 128) (C := 1024) scatter_S128x1024_S2_S16x512_01_n_01_0 rfl rfl idx (ix2 a b) 1).trans hc
    refine (Routing.resultIdx?_ix2 (R := 128) (C := 1024) scatter_S128x1024_S2_S16x512_01_n_01_0 (ix2 a b) idx q j).trans ?_
    rw [s0, s1, w0, w1]
    omega
  have split : ∀ k : S16x512.Idx, k = ix2 (k 0) (k 1) := fun k => by
    funext x
    match x with
    | ⟨0, _⟩ => rfl
    | ⟨1, _⟩ => rfl
  by_cases h : (r0 ≤ q.val ∧ q.val < r0 + 16) ∧ c0 ≤ j.val ∧ j.val < c0 + 512
  · rw [dif_pos h]
    refine Routing.scatter_set_hit _ x idx u _ _ (fun k hk => ?_) (ix2 ⟨q.val - r0, by omega⟩ ⟨j.val - c0, by omega⟩) ((lands _ _).2 ⟨by show r0 + (q.val - r0) = q.val; omega, by show c0 + (j.val - c0) = j.val; omega⟩)
    rw [split k] at hk ⊢
    have e := (lands _ _).1 hk
    exact congrArg₂ (fun a b => u (ix2 a b)) (Fin.ext (by show (k 0).val = q.val - r0; omega)) (Fin.ext (by show (k 1).val = j.val - c0; omega))
  · rw [dif_neg h]
    refine Routing.scatter_set_miss _ x idx u _ fun k hk => ?_
    rw [split k] at hk
    have e := (lands _ _).1 hk
    have h0 : (k 0).val < 16 := (k 0).isLt
    have h1 : (k 1).val < 512 := (k 1).isLt
    exact h (by omega)

theorem trunc_eq (x : FVec Ideal S128x1024 .f32) : (truncf .bf16 x bitsLt_bf16_f32 : FVec Ideal S128x1024 .bf16) = x := rfl

/-- The two words of a place. -/
theorem word0 (a b : BitVec 32) (n : ℕ) (h : a.toInt = n) :
    ((concatenate S2 0 [⟨S1, broadcastInDim S1 ![] bcast_S_S1 (constantI S_ 32 a)⟩, ⟨S1, broadcastInDim S1 ![] bcast_S_S1 (constantI S_ 32 b)⟩] concatenates_S1_S1_S2_d0 : IVec S2 32) (ix1 0)).toInt = n := by
  rw [← h]
  pointwise

theorem word1 (a b : BitVec 32) (n : ℕ) (h : b.toInt = n) :
    ((concatenate S2 0 [⟨S1, broadcastInDim S1 ![] bcast_S_S1 (constantI S_ 32 a)⟩, ⟨S1, broadcastInDim S1 ![] bcast_S_S1 (constantI S_ 32 b)⟩] concatenates_S1_S1_S2_d0 : IVec S2 32) (ix1 1)).toInt = n := by
  rw [← h]
  pointwise

theorem congr3 {A B C : ℕ} (w : FVec Ideal ⟨3, ![A, B, C]⟩ .f32) {a a' : Fin A} {b b' : Fin B} {d d' : Fin C} (ha : a = a') (hb : b = b') (hd : d = d') :
    w (ix3 a b d) = w (ix3 a' b' d') := by
  rw [ha, hb, hd]

theorem dir0_ap (w : FVec Ideal S2x16x512 .f32) (a : Fin 16) (b : Fin 512) :
    shapeCast S16x512 (extractStridedSlice S1x16x512 ![0, 0, 0] w slices_S2x16x512_S1x16x512_0_0_0) shapeCasts_S1x16x512_S16x512 (ix2 a b) = w (ix3 0 a b) := by
  pointwise

theorem dir1_ap (w : FVec Ideal S2x16x512 .f32) (a : Fin 16) (b : Fin 512) :
    shapeCast S16x512 (extractStridedSlice S1x16x512 ![1, 0, 0] w slices_S2x16x512_S1x16x512_1_0_0) shapeCasts_S1x16x512_S16x512 (ix2 a b) = w (ix3 1 a b) := by
  pointwise

/-- The decays' second weights, one block of rows per direction. -/
theorem V_wa (q : Fin 128) (j : Fin 1024) :
    V m c main_v23 (ix2 q j) = if h : 16 * (j.val / 512) ≤ q.val ∧ q.val < 16 * (j.val / 512) + 16 then
        m ((c : Thread nD τ).loc main_arg5) (ix3 ⟨j.val / 512, by omega⟩ ⟨q.val - 16 * (j.val / 512), by omega⟩ ⟨j.val % 512, by omega⟩) else (0 : EReal) := by
  have h : V m c main_v23 = (truncf .bf16 (Host.scatter scatter_S128x1024_S2_S16x512_01_n_01_0 (fun _ b => b)
      (Host.scatter scatter_S128x1024_S2_S16x512_01_n_01_0 (fun _ b => b) (broadcastInDim S128x1024 ![] bcast_S_S128x1024 (constant (F := Ideal) S_ .f32 0x00000000#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0)
        (shapeCast S16x512 (extractStridedSlice S1x16x512 ![0, 0, 0] (m ((c : Thread nD τ).loc main_arg5)) slices_S2x16x512_S1x16x512_0_0_0) shapeCasts_S1x16x512_S16x512))
        (concatenate S2 0 [⟨S1, broadcastInDim S1 ![] bcast_S_S1 (constantI S_ 32 16#32)⟩, ⟨S1, broadcastInDim S1 ![] bcast_S_S1 (constantI S_ 32 512#32)⟩] concatenates_S1_S1_S2_d0)
        (shapeCast S16x512 (extractStridedSlice S1x16x512 ![1, 0, 0] (m ((c : Thread nD τ).loc main_arg5)) slices_S2x16x512_S1x16x512_1_0_0) shapeCasts_S1x16x512_S16x512)) bitsLt_bf16_f32 : FVec Ideal S128x1024 .bf16) := by
    unfold V
    simp only [List.flatten_cons, List.flatten_nil, List.append_nil, List.cons_append, List.nil_append, hostOps0, hostOps0_1, hostOps0_2, StableHlo.TRef.ternary, StableHlo.TRef.binary, StableHlo.TRef.unary, StableHlo.TRef.toBuf, StableHlo.TRef.ofBuf, cast_eq]
    after_results_simp
    all_goals (try rfl)
  rw [h]
  generalize m ((c : Thread nD τ).loc main_arg5) = w
  change FVec Ideal S2x16x512 .f32 at w
  refine (congrFun (trunc_eq _) (ix2 q j)).trans ((block_at _ _ _ 16 512 (word0 _ _ _ rfl) (word1 _ _ _ rfl) q j).trans ?_)
  rw [block_at _ _ _ 0 0 (word0 _ _ _ rfl) (word1 _ _ _ rfl) q j]
  by_cases hj : j.val < 512
  · have hj0 : j.val / 512 = 0 := by omega
    rw [dif_neg (by omega)]
    by_cases hq : q.val < 16
    · rw [dif_pos (by omega), dif_pos (by omega)]
      refine (dir0_ap w _ _).trans (congr3 w (Fin.ext ?_) (Fin.ext ?_) (Fin.ext ?_))
      · show 0 = j.val / 512; omega
      · show q.val - 0 = q.val - 16 * (j.val / 512); omega
      · show j.val - 0 = j.val % 512; omega
    · rw [dif_neg (by omega), dif_neg (by omega)]
      pointwise
  · have hj1 : j.val / 512 = 1 := by omega
    by_cases hq : 16 ≤ q.val ∧ q.val < 32
    · rw [dif_pos (by omega), dif_pos (by omega)]
      refine (dir1_ap w _ _).trans (congr3 w (Fin.ext ?_) (Fin.ext ?_) (Fin.ext ?_))
      · show 1 = j.val / 512; omega
      · show q.val - 16 = q.val - 16 * (j.val / 512); omega
      · show j.val - 512 = j.val % 512; omega
    · rw [dif_neg (by omega), dif_neg (by omega), dif_neg (by omega)]
      pointwise

theorem flush8 (t : Fin cfg0.N) : (cfg0.win 8).flush t = true := flush0_8 t
theorem index0 : ∀ t : Fin grid0.N, win0_0.index t = ![t.val / 10, 0] := by decide +kernel
theorem index1 : ∀ t : Fin grid0.N, win0_1.index t = ![0, 0] := by decide +kernel
theorem index2 : ∀ t : Fin grid0.N, win0_2.index t = ![t.val / 80, 0, 0] := by decide +kernel
theorem index3 : ∀ t : Fin grid0.N, win0_3.index t = ![t.val / 80, 0, 0] := by decide +kernel
theorem index4 : ∀ t : Fin grid0.N, win0_4.index t = ![0, t.val % 10] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![t.val / 10, t.val % 10] := by decide +kernel
theorem index9 : ∀ t : Fin grid0.N, win0_9.index t = ![t.val / 10, 0] := by decide +kernel

/-- Two points write different blocks of the projection, … -/
theorem disj8 (t t' : Fin cfg0.N) (_ : (cfg0.win 8).flush t = true) (_ : (cfg0.win 8).flush t' = true) (hne : t ≠ t') :
    Disjoint ((cfg0.win 8).blk t).view.set ((cfg0.win 8).blk t').view.set :=
  (cfg0.win 8).disjoint_blk fun h => hne (by
    have h' : win0_8.index t = win0_8.index t' := h
    rw [index8, index8] at h'
    have h0 : t.val / 10 = t'.val / 10 := congrFun h' 0
    have h1 : t.val % 10 = t'.val % 10 := congrFun h' 1
    exact Fin.ext (by omega))

/-- … and two that write decays write different blocks of them. -/
theorem disj9 (t t' : Fin cfg0.N) (ht : (cfg0.win 9).flush t = true) (ht' : (cfg0.win 9).flush t' = true) (hne : t ≠ t') :
    Disjoint ((cfg0.win 9).blk t).view.set ((cfg0.win 9).blk t').view.set :=
  (cfg0.win 9).disjoint_blk fun h => hne (by
    have h' : win0_9.index t = win0_9.index t' := h
    rw [index9, index9] at h'
    have h0 : t.val / 10 = t'.val / 10 := congrFun h' 0
    have h1 := (flush0_9 t).1 ht
    have h2 := (flush0_9 t').1 ht'
    exact Fin.ext (by omega))

theorem blk0 (t : Fin cfg0.N) (a : Fin 512) (k : Fin 2048) (h : 512 * (t.val / 10) + a.val < 32768) :
    iblk m c 0 t (ix2 a k) = m ((c : Thread nD τ).loc main_arg0) (ix2 ⟨512 * (t.val / 10) + a.val, h⟩ k) := by
  refine (congrFun (V_main_arg0 m c) _).trans (congrArg (m ((c : Thread nD τ).loc main_arg0)) ?_)
  funext x
  match x with
  | ⟨0, _⟩ => apply Fin.ext; show win0_0.index t 0 * 512 + 1 * a.val = 512 * (t.val / 10) + a.val; rw [index0]; show t.val / 10 * 512 + 1 * a.val = _; omega
  | ⟨1, _⟩ => apply Fin.ext; show win0_0.index t 1 * 2048 + 1 * k.val = k.val; rw [index0]; show 0 * 2048 + 1 * k.val = _; omega

theorem blk1 (t : Fin cfg0.N) (k : Fin 2048) :
    iblk m c 1 t (ix2 0 k) = m ((c : Thread nD τ).loc main_arg1) (ix1 k) := by
  refine Eq.trans (congrArg (V m c main_v22) ?_) (V_g m c k)
  funext x
  match x with
  | ⟨0, _⟩ => apply Fin.ext; show win0_1.index t 0 * 1 + 1 * 0 = 0; rw [index1]; rfl
  | ⟨1, _⟩ => apply Fin.ext; show win0_1.index t 1 * 2048 + 1 * k.val = k.val; rw [index1]; show 0 * 2048 + 1 * k.val = _; omega

theorem blk2 (t : Fin cfg0.N) (k : Fin 2048) (h : t.val / 80 < 8) :
    iblk m c 2 t (ix3 0 0 k) = m ((c : Thread nD τ).loc main_arg2) (ix3 ⟨t.val / 80, h⟩ 0 k) := by
  refine (congrFun (V_main_arg2 m c) _).trans (congrArg (m ((c : Thread nD τ).loc main_arg2)) ?_)
  funext x
  match x with
  | ⟨0, _⟩ => apply Fin.ext; show win0_2.index t 0 * 1 + 1 * 0 = t.val / 80; rw [index2]; show t.val / 80 * 1 + 1 * 0 = _; omega
  | ⟨1, _⟩ => apply Fin.ext; show win0_2.index t 1 * 1 + 1 * 0 = 0; rw [index2]; rfl
  | ⟨2, _⟩ => apply Fin.ext; show win0_2.index t 2 * 2048 + 1 * k.val = k.val; rw [index2]; show 0 * 2048 + 1 * k.val = _; omega

theorem blk3 (t : Fin cfg0.N) (k : Fin 2048) (h : t.val / 80 < 8) :
    iblk m c 3 t (ix3 0 0 k) = m ((c : Thread nD τ).loc main_arg3) (ix3 ⟨t.val / 80, h⟩ 0 k) := by
  refine (congrFun (V_main_arg3 m c) _).trans (congrArg (m ((c : Thread nD τ).loc main_arg3)) ?_)
  funext x
  match x with
  | ⟨0, _⟩ => apply Fin.ext; show win0_3.index t 0 * 1 + 1 * 0 = t.val / 80; rw [index3]; show t.val / 80 * 1 + 1 * 0 = _; omega
  | ⟨1, _⟩ => apply Fin.ext; show win0_3.index t 1 * 1 + 1 * 0 = 0; rw [index3]; rfl
  | ⟨2, _⟩ => apply Fin.ext; show win0_3.index t 2 * 2048 + 1 * k.val = k.val; rw [index3]; show 0 * 2048 + 1 * k.val = _; omega

theorem blk4 (t : Fin cfg0.N) (k : Fin 2048) (j : Fin 1536) :
    iblk m c 4 t (ix2 k j) = m ((c : Thread nD τ).loc main_arg4) (ix2 k (col ⟨1536 * (t.val % 10) + j.val, by omega⟩)) := by
  refine Eq.trans (congrArg (V m c main_v5) ?_) (V_w m c k ⟨1536 * (t.val % 10) + j.val, by omega⟩)
  funext x
  match x with
  | ⟨0, _⟩ => apply Fin.ext; show win0_4.index t 0 * 2048 + 1 * k.val = k.val; rw [index4]; show 0 * 2048 + 1 * k.val = _; omega
  | ⟨1, _⟩ => apply Fin.ext; show win0_4.index t 1 * 1536 + 1 * j.val = 1536 * (t.val % 10) + j.val; rw [index4]; show t.val % 10 * 1536 + 1 * j.val = _; omega

theorem blk5 (t : Fin cfg0.N) (k : Fin 2048) (q : Fin 128) :
    iblk m c 5 t (ix2 k q) = if h : q.val < 32 then m ((c : Thread nD τ).loc main_arg4) (ix2 k ⟨3072 + q.val, by omega⟩) else (0 : EReal) := by
  refine Eq.trans (congrArg (V m c main_v8) ?_) (V_ga m c k q)
  funext x
  match x with
  | ⟨0, _⟩ => apply Fin.ext; show win0_5.index t 0 * 2048 + 1 * k.val = k.val; rw [index5]; show 0 * 2048 + 1 * k.val = _; omega
  | ⟨1, _⟩ => apply Fin.ext; show win0_5.index t 1 * 128 + 1 * q.val = q.val; rw [index5]; show 0 * 128 + 1 * q.val = _; omega

theorem blk6 (t : Fin cfg0.N) (q : Fin 128) (j : Fin 1024) :
    iblk m c 6 t (ix2 q j) = if h : 16 * (j.val / 512) ≤ q.val ∧ q.val < 16 * (j.val / 512) + 16 then
        m ((c : Thread nD τ).loc main_arg5) (ix3 ⟨j.val / 512, by omega⟩ ⟨q.val - 16 * (j.val / 512), by omega⟩ ⟨j.val % 512, by omega⟩) else (0 : EReal) := by
  refine Eq.trans (congrArg (V m c main_v23) ?_) (V_wa m c q j)
  funext x
  match x with
  | ⟨0, _⟩ => apply Fin.ext; show win0_6.index t 0 * 128 + 1 * q.val = q.val; rw [index6]; show 0 * 128 + 1 * q.val = _; omega
  | ⟨1, _⟩ => apply Fin.ext; show win0_6.index t 1 * 1024 + 1 * j.val = j.val; rw [index6]; show 0 * 1024 + 1 * j.val = _; omega

theorem blk7 (t : Fin cfg0.N) (j : Fin 1024) :
    iblk m c 7 t (ix2 0 j) = m ((c : Thread nD τ).loc main_arg6) (ix2 ⟨j.val / 512, by omega⟩ ⟨j.val % 512, by omega⟩) := by
  refine Eq.trans (congrArg (V m c main_v24) ?_) (V_b m c j)
  funext x
  match x with
  | ⟨0, _⟩ => apply Fin.ext; show win0_7.index t 0 * 1 + 1 * 0 = 0; rw [index7]; rfl
  | ⟨1, _⟩ => apply Fin.ext; show win0_7.index t 1 * 1024 + 1 * j.val = j.val; rw [index7]; show 0 * 1024 + 1 * j.val = _; omega

/-- The normed entries of the arguments. -/
def hidm (R : Fin 32768) : Fin 2048 → EReal :=
  Up.hid (m ((c : Thread nD τ).loc main_arg0)) (m ((c : Thread nD τ).loc main_arg1)) (m ((c : Thread nD τ).loc main_arg2))
    (m ((c : Thread nD τ).loc main_arg3)) R

/-- The decays of the arguments. -/
def dcym (R : Fin 32768) (C : Fin 1024) : EReal :=
  dcy (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) R C

/-- The norm of the block's rows. -/
theorem pay3_hid (t : Fin cfg0.N) (a : Fin 512) (k : Fin 2048) (h : 512 * (t.val / 10) + a.val < 32768) :
    k0_pay3 (F := Ideal) (iblk m c 0 t) (iblk m c 1 t) (iblk m c 2 t) (iblk m c 3 t) (ix2 a k) = hidm m c ⟨512 * (t.val / 10) + a.val, h⟩ k := by
  refine (pay3_ap _ _ _ _ a k).trans ?_
  unfold hidm Up.hid
  have e0 : (fun k => iblk m c 0 t (ix2 a k)) = _ := funext fun k => blk0 m c t a k h
  have e1 : (fun k => iblk m c 1 t (ix2 0 k)) = _ := funext fun k => blk1 m c t k
  have hb : t.val / 80 < 8 := by omega
  have hB : (⟨t.val / 80, hb⟩ : Fin 8) = ⟨(512 * (t.val / 10) + a.val) / 4096, by omega⟩ := Fin.ext (by show t.val / 80 = (512 * (t.val / 10) + a.val) / 4096; omega)
  have e2 : (fun k => iblk m c 2 t (ix3 0 0 k)) = _ := funext fun k => blk2 m c t k hb
  have e3 : (fun k => iblk m c 3 t (ix3 0 0 k)) = _ := funext fun k => blk3 m c t k hb
  rw [hB] at e2 e3
  exact congrFun (congr (congr (congr (congrArg Up.nrm e0) e1) e2) e3) k

/-- The decays of the block's rows. -/
theorem pay1_dcy (t : Fin cfg0.N) (a : Fin 512) (C : Fin 1024) (h : 512 * (t.val / 10) + a.val < 32768) :
    k0_pay1 (F := Ideal) (k0_pay5 (F := Ideal) (iblk m c 0 t) (iblk m c 1 t) (iblk m c 2 t) (iblk m c 3 t) (iblk m c 5 t) (iblk m c 6 t)) (iblk m c 7 t) (ix2 a C)
      = dcym m c ⟨512 * (t.val / 10) + a.val, h⟩ C := by
  refine (pay1_ap _ _ a C).trans ?_
  unfold dcym dcy
  refine congrArg klsg (congrArg₂ (· + ·) ?_ (blk7 m c t C))
  refine (pay5_ap _ _ _ _ _ rfl _ _ a C).trans ?_
  refine (low_rank _ (fun k x => m ((c : Thread nD τ).loc main_arg4) (ix2 k x))
    (fun q => m ((c : Thread nD τ).loc main_arg5) (ix3 ⟨C.val / 512, by omega⟩ q ⟨C.val % 512, by omega⟩)) ⟨C.val / 512, by omega⟩ _ (fun k q => blk5 m c t k q) _ (fun q => blk6 m c t q C)).trans ?_
  exact Finset.sum_congr rfl fun q _ => congrArg (· * _) (Finset.sum_congr rfl fun k _ => congrArg (· * _) (pay3_hid m c t a k h))

/-- What is kept after a point is the norm of the point's block of rows, … -/
theorem kept (n : ℕ) : ∀ (hn : n < cfg0.N) (a : Fin 512) (k : Fin 2048) (h : 512 * (n / 10) + a.val < 32768),
    (outsAt0 m c n hn).2.2 (ix2 a k) = hidm m c ⟨512 * (n / 10) + a.val, h⟩ k := by
  induction n with
  | zero =>
    intro hn a k h
    exact (congrFun ((keep_first m c ⟨0, hn⟩ rfl).trans (pay4_eq _ _ _ _)) (ix2 a k)).trans (pay3_hid m c ⟨0, hn⟩ a k h)
  | succ n ih =>
    intro hn a k h
    by_cases h0 : (n + 1) % 10 = 0
    · exact (congrFun ((keep_first m c ⟨n + 1, hn⟩ h0).trans (pay4_eq _ _ _ _)) (ix2 a k)).trans (pay3_hid m c ⟨n + 1, hn⟩ a k h)
    · have hq : n / 10 = (n + 1) / 10 := by omega
      refine (congrFun (keep_next m c ⟨n + 1, hn⟩ h0) (ix2 a k)).trans ((ih (by omega) a k (by omega)).trans ?_)
      exact congrArg (fun R => hidm m c R k) (Fin.ext (by show 512 * (n / 10) + a.val = 512 * ((n + 1) / 10) + a.val; rw [hq]))

/-- … and the decays held are that block's. -/
theorem held (n : ℕ) : ∀ (hn : n < cfg0.N) (a : Fin 512) (C : Fin 1024) (h : 512 * (n / 10) + a.val < 32768),
    (outsAt0 m c n hn).2.1 (ix2 a C) = dcym m c ⟨512 * (n / 10) + a.val, h⟩ C := by
  induction n with
  | zero =>
    intro hn a C h
    exact (congrFun (dec_first m c ⟨0, hn⟩ rfl) (ix2 a C)).trans (pay1_dcy m c ⟨0, hn⟩ a C h)
  | succ n ih =>
    intro hn a C h
    by_cases h0 : (n + 1) % 10 = 0
    · exact (congrFun (dec_first m c ⟨n + 1, hn⟩ h0) (ix2 a C)).trans (pay1_dcy m c ⟨n + 1, hn⟩ a C h)
    · have hq : n / 10 = (n + 1) / 10 := by omega
      refine (congrFun (dec_next m c ⟨n + 1, hn⟩ h0) (ix2 a C)).trans ((ih (by omega) a C (by omega)).trans ?_)
      exact congrArg (fun R => dcym m c R C) (Fin.ext (by show 512 * (n / 10) + a.val = 512 * ((n + 1) / 10) + a.val; rw [hq]))

theorem flushed8 (t : Fin cfg0.N) : (dats m 0 c).flushed 8 t = (cfg0.win 8).cut (grid0.coords t) (outsAt0 m c t.val t.isLt).1 := by
  show (cfg0.win 8).cut (grid0.coords t) ((dats m 0 c).after 8 t) = _
  rw [after0_8]

theorem flushed9 (t : Fin cfg0.N) : (dats m 0 c).flushed 9 t = (cfg0.win 9).cut (grid0.coords t) (outsAt0 m c t.val t.isLt).2.1 := by
  show (cfg0.win 9).cut (grid0.coords t) ((dats m 0 c).after 9 t) = _
  rw [after0_9]

/-- The projection after the run, at a row and a column. -/
theorem arr8_ap (R : Fin 32768) (L : Fin 15360) :
    (dats m 0 c).arrAt 8 cfg0.N (ix2 R L)
      = prj (m ((c : Thread nD τ).loc main_arg0)) (m ((c : Thread nD τ).loc main_arg1)) (m ((c : Thread nD τ).loc main_arg2))
          (m ((c : Thread nD τ).loc main_arg3)) (m ((c : Thread nD τ).loc main_arg4)) R L := by
  let t : Fin cfg0.N := (⟨R.val / 512 * 10 + L.val / 1536, by show _ < 640; omega⟩ : Fin 640)
  have htv : t.val = R.val / 512 * 10 + L.val / 1536 := rfl
  let a : Fin 512 := ⟨R.val % 512, by omega⟩
  let j : Fin 1536 := ⟨L.val % 1536, by omega⟩
  have e := congrFun ((dats m 0 c).read_blk_arrAt_eq_flushed 8 disj8 cfg0.N t t.isLt (flush8 t)) (ix2 a j)
  rw [flushed8, out_eq] at e
  have ei : ((cfg0.win 8).blk t).view.emb (ix2 a j) = ix2 R L := by
    funext x
    match x with
    | ⟨0, _⟩ => apply Fin.ext; show win0_8.index t 0 * 512 + 1 * (R.val % 512) = R.val; rw [index8]; show t.val / 10 * 512 + 1 * (R.val % 512) = _; omega
    | ⟨1, _⟩ => apply Fin.ext; show win0_8.index t 1 * 1536 + 1 * (L.val % 1536) = L.val; rw [index8]; show t.val % 10 * 1536 + 1 * (L.val % 1536) = _; omega
  rw [← ei]
  refine e.trans ((pay2_ap _ _ a j).trans ?_)
  have eR : (⟨512 * (t.val / 10) + a.val, by show 512 * (t.val / 10) + R.val % 512 < 32768; omega⟩ : Fin 32768) = R :=
    Fin.ext (by show 512 * (t.val / 10) + R.val % 512 = R.val; omega)
  have eL : (⟨1536 * (t.val % 10) + j.val, by show 1536 * (t.val % 10) + L.val % 1536 < 15360; omega⟩ : Fin 15360) = L :=
    Fin.ext (by show 1536 * (t.val % 10) + L.val % 1536 = L.val; omega)
  unfold prj
  exact Finset.sum_congr rfl fun k _ => congrArg₂ (· * ·)
    ((kept m c t.val t.isLt a k (by show 512 * (t.val / 10) + R.val % 512 < 32768; omega)).trans (congrArg (fun R => hidm m c R k) eR))
    ((blk4 m c t k j).trans (congrArg (fun L => m ((c : Thread nD τ).loc main_arg4) (ix2 k (col L))) eL))

/-- The decays after the run, at a row and a column. -/
theorem arr9_ap (R : Fin 32768) (C : Fin 1024) : (dats m 0 c).arrAt 9 cfg0.N (ix2 R C) = dcym m c R C := by
  let t : Fin cfg0.N := (⟨R.val / 512 * 10 + 9, by show _ < 640; omega⟩ : Fin 640)
  have htv : t.val = R.val / 512 * 10 + 9 := rfl
  let a : Fin 512 := ⟨R.val % 512, by omega⟩
  have e := congrFun ((dats m 0 c).read_blk_arrAt_eq_flushed 9 disj9 cfg0.N t t.isLt ((flush0_9 t).2 (by omega))) (ix2 a C)
  rw [flushed9] at e
  have ei : ((cfg0.win 9).blk t).view.emb (ix2 a C) = ix2 R C := by
    funext x
    match x with
    | ⟨0, _⟩ => apply Fin.ext; show win0_9.index t 0 * 512 + 1 * (R.val % 512) = R.val; rw [index9]; show t.val / 10 * 512 + 1 * (R.val % 512) = _; omega
    | ⟨1, _⟩ => apply Fin.ext; show win0_9.index t 1 * 1024 + 1 * C.val = C.val; rw [index9]; show 0 * 1024 + 1 * C.val = _; omega
  rw [← ei]
  refine e.trans ((held m c t.val t.isLt a C (by show 512 * (t.val / 10) + R.val % 512 < 32768; omega)).trans ?_)
  exact congrArg (fun R => dcym m c R C) (Fin.ext (by show 512 * (t.val / 10) + R.val % 512 = R.val; omega))

/-- The run ends with both arrays as written and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v25_0) = (dats m 0 c).arrAt 8 cfg0.N
      ∧ r.2.mem ((c.tc : Thread nD τ).loc main_v25_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h.1 c).1 8, (h.1 c).1 9, h.2 c⟩) (θ_run_and (run_main m ρ) (unchanged m ρ))

end Kernel
section Reference
open Cert.Reference6Ideal Cert.Reference6Ideal.Gen Cert.Reference6Ideal.Facts

/-- The reference's product of the normed rows with the weights. -/
def rprod (h : FVec Ideal S8x4096x2048 .f32) (w : FVec Ideal S2048x15392 .f32) : FVec Ideal S8x4096x15392 .f32 :=
  Host.dotGeneral dot_S8x4096x2048_S2048x15392_S8x4096x15392_2_0_01_1_n_n none h w

/-- The reference's reordered columns. -/
def rproj (p : FVec Ideal S8x4096x15392 .f32) : FVec Ideal S32768x15360 .f32 :=
  shapeCast S32768x15360 (concatenate S8x4096x15360 2 [⟨S8x4096x3072, extractStridedSlice S8x4096x3072 ![0, 0, 0] p slices_S8x4096x15392_S8x4096x3072_0_0_0⟩, ⟨S8x4096x3072, extractStridedSlice S8x4096x3072 ![0, 0, 3104] p slices_S8x4096x15392_S8x4096x3072_0_0_3104⟩, ⟨S8x4096x6144, extractStridedSlice S8x4096x6144 ![0, 0, 9248] p slices_S8x4096x15392_S8x4096x6144_0_0_9248⟩, ⟨S8x4096x3072, extractStridedSlice S8x4096x3072 ![0, 0, 6176] p slices_S8x4096x15392_S8x4096x3072_0_0_6176⟩] concatenates_S8x4096x3072_S8x4096x3072_S8x4096x6144_S8x4096x3072_S8x4096x15360_d2) shapeCasts_S8x4096x15360_S32768x15360

/-- The reference's decays before the logarithm of the sigmoid. -/
def rpre (p : FVec Ideal S8x4096x15392 .f32) (wa : FVec Ideal S2x16x512 .f32) (ba : FVec Ideal S2x512 .f32) : FVec Ideal S8x4096x2x512 .f32 :=
  addf (transpose S8x4096x2x512 [2, 3, 0, 1] (Host.dotGeneral dot_S2x16x512_S8x4096x2x16_S2x512x8x4096_1_3_2_01_0_2 none wa (shapeCast S8x4096x2x16 (extractStridedSlice S8x4096x32 ![0, 0, 3072] p slices_S8x4096x15392_S8x4096x32_0_0_3072) shapeCasts_S8x4096x32_S8x4096x2x16)) transposes_S2x512x8x4096_S8x4096x2x512_2_3_0_1) (broadcastInDim S8x4096x2x512 ![0, 1, 2, 3] bcast_S1x1x2x512_S8x4096x2x512_0_1_2_3 (broadcastInDim S1x1x2x512 ![2, 3] bcast_S2x512_S1x1x2x512_2_3 ba))

/-- The reference's decays from those. -/
def rdec (u : FVec Ideal S8x4096x2x512 .f32) : FVec Ideal S32768x1024 .f32 :=
  shapeCast S32768x1024 (Host.divf (Host.negf (select (cmpf .une (subf (Host.negf u) (broadcastInDim S8x4096x2x512 ![] bcast_S_S8x4096x2x512 (constant S_ .f32 0x00000000#32))) (subf (Host.negf u) (broadcastInDim S8x4096x2x512 ![] bcast_S_S8x4096x2x512 (constant S_ .f32 0x00000000#32)))) (addf (Host.negf u) (broadcastInDim S8x4096x2x512 ![] bcast_S_S8x4096x2x512 (constant S_ .f32 0x00000000#32))) (addf (maximumf (Host.negf u) (broadcastInDim S8x4096x2x512 ![] bcast_S_S8x4096x2x512 (constant S_ .f32 0x00000000#32))) (Host.log1p (Host.exp (Host.negf (Host.absf (subf (Host.negf u) (broadcastInDim S8x4096x2x512 ![] bcast_S_S8x4096x2x512 (constant S_ .f32 0x00000000#32)))))))))) (broadcastInDim S8x4096x2x512 ![] bcast_S_S8x4096x2x512 (constant S_ .f32 0x41800000#32))) shapeCasts_S8x4096x2x512_S32768x1024

/-- What the reference computes: the projection and the decays. -/
def out0 (x : FVec Ideal S32768x2048 .f32) (g : FVec Ideal S2048 .f32) (sc sh : FVec Ideal S8x1x2048 .f32) (w : FVec Ideal S2048x15392 .f32) : FVec Ideal S32768x15360 .f32 :=
  rproj (rprod (Up.rnorm x g sc sh) w)

def out1 (x : FVec Ideal S32768x2048 .f32) (g : FVec Ideal S2048 .f32) (sc sh : FVec Ideal S8x1x2048 .f32) (w : FVec Ideal S2048x15392 .f32)
    (wa : FVec Ideal S2x16x512 .f32) (ba : FVec Ideal S2x512 .f32) : FVec Ideal S32768x1024 .f32 :=
  rdec (rpre (rprod (Up.rnorm x g sc sh) w) wa ba)

theorem rprod_ap (h : FVec Ideal S8x4096x2048 .f32) (w : FVec Ideal S2048x15392 .f32) (b : Fin 8) (r : Fin 4096) (l : Fin 15392) :
    rprod h w (ix3 b r l) = ∑ k, h (ix3 b r k) * w (ix2 k l) := by
  unfold rprod
  pointwise

theorem rproj_ap (p : FVec Ideal S8x4096x15392 .f32) (R : Fin 32768) (L : Fin 15360) :
    rproj p (ix2 R L) = p (ix3 ⟨R.val / 4096, by omega⟩ ⟨R.val % 4096, by omega⟩ (col L)) := by
  unfold rproj
  pointwise
  exact col_read (fun x => p (ix3 ⟨R.val / 4096, by omega⟩ ⟨R.val % 4096, by omega⟩ x)) L

theorem rpre_ap (p : FVec Ideal S8x4096x15392 .f32) (wa : FVec Ideal S2x16x512 .f32) (ba : FVec Ideal S2x512 .f32) (b : Fin 8) (r : Fin 4096) (i : Fin 2) (d : Fin 512) :
    rpre p wa ba (ix4 b r i d) = (∑ q : Fin 16, p (ix3 b r ⟨3072 + (i.val * 16 + q.val), by omega⟩) * wa (ix3 i q d)) + ba (ix2 i d) := by
  unfold rpre
  pointwise
  exact congrArg (· + ba (ix2 i d)) (Finset.sum_congr rfl fun q _ => mul_comm _ _)

theorem rdec_ap (u : FVec Ideal S8x4096x2x512 .f32) (R : Fin 32768) (C : Fin 1024) :
    rdec u (ix2 R C) = klsg (u (ix4 ⟨R.val / 4096, by omega⟩ ⟨R.val % 4096, by omega⟩ ⟨C.val / 512, by omega⟩ ⟨C.val % 512, by omega⟩)) := by
  unfold rdec
  pointwise
  rw [if_neg (by simp)]
  exact lsg_eq _

theorem hid_ap (x : FVec Ideal S32768x2048 .f32) (g : FVec Ideal S2048 .f32) (sc sh : FVec Ideal S8x1x2048 .f32) (R : Fin 32768) (k : Fin 2048) :
    Up.rnorm x g sc sh (ix3 ⟨R.val / 4096, by omega⟩ ⟨R.val % 4096, by omega⟩ k) = Up.hid x g sc sh R k := by
  refine (Up.rnorm_ap x g sc sh _ _ k).trans ?_
  unfold Up.hid
  have e : (⟨R.val / 4096 * 4096 + R.val % 4096, by omega⟩ : Fin 32768) = R := Fin.ext (by show R.val / 4096 * 4096 + R.val % 4096 = R.val; omega)
  exact congrArg (fun R' : Fin 32768 => Up.nrm (fun k => x (ix2 R' k)) (fun k => g (ix1 k)) (fun k => sc (ix3 ⟨R.val / 4096, by omega⟩ 0 k)) (fun k => sh (ix3 ⟨R.val / 4096, by omega⟩ 0 k)) k) e

theorem out0_ap (x : FVec Ideal S32768x2048 .f32) (g : FVec Ideal S2048 .f32) (sc sh : FVec Ideal S8x1x2048 .f32) (w : FVec Ideal S2048x15392 .f32)
    (R : Fin 32768) (L : Fin 15360) : out0 x g sc sh w (ix2 R L) = prj x g sc sh w R L :=
  (rproj_ap _ R L).trans ((rprod_ap _ w _ _ _).trans (Finset.sum_congr rfl fun k _ => congrArg (· * _) (hid_ap x g sc sh R k)))

theorem out1_ap (x : FVec Ideal S32768x2048 .f32) (g : FVec Ideal S2048 .f32) (sc sh : FVec Ideal S8x1x2048 .f32) (w : FVec Ideal S2048x15392 .f32)
    (wa : FVec Ideal S2x16x512 .f32) (ba : FVec Ideal S2x512 .f32)
    (R : Fin 32768) (C : Fin 1024) : out1 x g sc sh w wa ba (ix2 R C) = dcy x g sc sh w wa ba R C :=
  (rdec_ap _ R C).trans (congrArg klsg ((rpre_ap _ wa ba _ _ _ _).trans (congrArg (· + _) (Finset.sum_congr rfl fun q _ => congrArg (· * _)
    ((rprod_ap _ w _ _ _).trans (Finset.sum_congr rfl fun k _ => congrArg (· * _) (hid_ap x g sc sh R k)))))))

/-- The reference's run ends with `out0` and `out1` of its arguments, which are unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = out0 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v37) = out1 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans rfl, (h c).2.1.trans rfl, (h c).2.2⟩) (Value.run m ρ)

end Reference

/-- The kernel's results are the reference's functions of the same arguments. -/
theorem value0 (m : (ℓ : Loc Cert.Kernel6Ideal.nD Cert.Kernel6Ideal.τ Cert.Kernel6Ideal.sig) → Buf (Elt Ideal) ℓ) (c : Dev Cert.Kernel6Ideal.nD) :
    (dats m 0 c).arrAt 8 Cert.Kernel6Ideal.cfg0.N
      = out0 (m ((c.tc : Thread Cert.Kernel6Ideal.nD Cert.Kernel6Ideal.τ).loc Cert.Kernel6Ideal.main_arg0))
          (m ((c.tc : Thread Cert.Kernel6Ideal.nD Cert.Kernel6Ideal.τ).loc Cert.Kernel6Ideal.main_arg1))
          (m ((c.tc : Thread Cert.Kernel6Ideal.nD Cert.Kernel6Ideal.τ).loc Cert.Kernel6Ideal.main_arg2))
          (m ((c.tc : Thread Cert.Kernel6Ideal.nD Cert.Kernel6Ideal.τ).loc Cert.Kernel6Ideal.main_arg3))
          (m ((c.tc : Thread Cert.Kernel6Ideal.nD Cert.Kernel6Ideal.τ).loc Cert.Kernel6Ideal.main_arg4)) := by
  funext i
  have hi : i = ix2 (i 0) (i 1) := by
    funext x
    match x with
    | ⟨0, _⟩ => rfl
    | ⟨1, _⟩ => rfl
  rw [hi]
  exact (arr8_ap m c (i 0) (i 1)).trans (out0_ap _ _ _ _ _ (i 0) (i 1)).symm

theorem value1 (m : (ℓ : Loc Cert.Kernel6Ideal.nD Cert.Kernel6Ideal.τ Cert.Kernel6Ideal.sig) → Buf (Elt Ideal) ℓ) (c : Dev Cert.Kernel6Ideal.nD) :
    (dats m 0 c).arrAt 9 Cert.Kernel6Ideal.cfg0.N
      = out1 (m ((c.tc : Thread Cert.Kernel6Ideal.nD Cert.Kernel6Ideal.τ).loc Cert.Kernel6Ideal.main_arg0))
          (m ((c.tc : Thread Cert.Kernel6Ideal.nD Cert.Kernel6Ideal.τ).loc Cert.Kernel6Ideal.main_arg1))
          (m ((c.tc : Thread Cert.Kernel6Ideal.nD Cert.Kernel6Ideal.τ).loc Cert.Kernel6Ideal.main_arg2))
          (m ((c.tc : Thread Cert.Kernel6Ideal.nD Cert.Kernel6Ideal.τ).loc Cert.Kernel6Ideal.main_arg3))
          (m ((c.tc : Thread Cert.Kernel6Ideal.nD Cert.Kernel6Ideal.τ).loc Cert.Kernel6Ideal.main_arg4))
          (m ((c.tc : Thread Cert.Kernel6Ideal.nD Cert.Kernel6Ideal.τ).loc Cert.Kernel6Ideal.main_arg5))
          (m ((c.tc : Thread Cert.Kernel6Ideal.nD Cert.Kernel6Ideal.τ).loc Cert.Kernel6Ideal.main_arg6)) := by
  funext i
  have hi : i = ix2 (i 0) (i 1) := by
    funext x
    match x with
    | ⟨0, _⟩ => rfl
    | ⟨1, _⟩ => rfl
  rw [hi]
  exact (arr9_ap m c (i 0) (i 1)).trans (out1_ap _ _ _ _ _ _ _ (i 0) (i 1)).symm

end Cert.InProj

end

end
-- ==== Proof.CtxDefs.lean ====
/- The attention of the context tokens: eight heads of normalised queries and keys, the softmax of their scores over the
   batch's 256 tokens, and the values it weighs. -/
module

public import proofs.«01_k».proof.Proof.NaEq
public import Idealize.ShloMosaic.Lib.Pipeline.ValueKit.Tiles
public import Idealize.ShloMosaic.Lib.Pointwise

set_option maxRecDepth 16384

@[expose] public section
noncomputable section
namespace Cert.Ctx
open Idealize.ShloMosaic Idealize.ShloMosaic.TcCoe Idealize.ShloMosaic.Tactic
open Cert.Na (sc)

/-- The root-mean-square normalisation of `x` with gains `g`. -/
def norm (x g : Fin 128 → EReal) (d : Fin 128) : EReal :=
  x d * Ideal.rsqrt (Ideal.div (∑ e, x e * x e) (Ideal.ofBits .f32 0x43000000#32) + Ideal.ofBits .f32 0x358637BD#32) * g d

/-- The values `V` weighted by the softmax of the scores `S`. -/
def pooled (S V : Fin 256 → EReal) : EReal :=
  ∑ i, Ideal.div (Ideal.exp (S i - Finset.univ.sup S)) (∑ j, Ideal.exp (S j - Finset.univ.sup S)) * V i

/-- Feature `d` of token `p` of batch `b`, head `h`, of the queries (`s = 0`), the keys (`s = 1`) or the values (`s = 2`). -/
def feat (P : FVec Ideal ⟨2, ![8192, 15360]⟩ .f32) (s : Fin 3) (b : Fin 32) (h : Fin 8) (p : Fin 256) (d : Fin 128) : EReal :=
  P (ix2 ⟨256 * b.val + p.val, by omega⟩ ⟨3072 + 1024 * s.val + 128 * h.val + d.val, by omega⟩)

/-- The normalised keys. -/
def keys (P : FVec Ideal ⟨2, ![8192, 15360]⟩ .f32) (gk : FVec Ideal ⟨1, ![128]⟩ .f32) (b : Fin 32) (h : Fin 8) (p : Fin 256) (d : Fin 128) : EReal :=
  norm (feat P 1 b h p) (fun e => gk (ix1 e)) d

/-- The attention. -/
def attn (P : FVec Ideal ⟨2, ![8192, 15360]⟩ .f32) (gq gk : FVec Ideal ⟨1, ![128]⟩ .f32) (b : Fin 32) (h : Fin 8) (p : Fin 256) (d : Fin 128) : EReal :=
  pooled (fun n => (∑ e, norm (feat P 0 b h p) (fun e => gq (ix1 e)) e * keys P gk b h n e) * sc) (fun n => feat P 2 b h n d)

theorem bot_word : Ideal.ofBits .f32 0xFF800000#32 = ⊥ := by
  simp [Ideal.ofBits, Ideal.ieee]

/-- The scores' scale moves out of the products' sum. -/
theorem scale_out (q k : Fin 128 → EReal) : ∑ e, q e * sc * k e = (∑ e, q e * k e) * sc := by
  have h : ∃ r : ℝ, 0 ≤ r ∧ sc = r := by
    refine ⟨(11863283 : ℝ) * 2 ^ (-27 : ℤ), by positivity, ?_⟩
    simp [sc, Ideal.ofBits, Ideal.ieee, -EReal.coe_mul]
    try norm_num
  obtain ⟨r, h0, hr⟩ := h
  rw [hr, Cert.Na.sum_mul_coe _ _ _ h0]
  exact Finset.sum_congr rfl fun e _ => mul_right_comm _ _ _

end Cert.Ctx
end
end
-- ==== Proof.CtxKer.lean ====
/- What the kernel of the attention of the context tokens leaves in its three arrays. -/
module

public import proofs.«01_k».proof.Proof.Gen.Kernel7Ideal.Value
public import proofs.«01_k».proof.Proof.CtxDefs

set_option maxRecDepth 16384

@[expose] public section
noncomputable section
namespace Cert.Ctx
open Idealize.ShloMosaic Idealize.ShloMosaic.TcCoe Idealize.ShloMosaic.Tactic
open Cert.Na (sc)

section Kernel
open Cert.Kernel7Ideal Cert.Kernel7Ideal.Gen Cert.Kernel7Ideal.Facts

theorem pay1_ap (q : FVec Ideal S256x128 .f32) (g : FVec Ideal S1x128 .f32) (r : Fin 256) (l : Fin 128) :
    k0_pay1 (F := Ideal) q g (ix2 r l) = norm (fun e => q (ix2 r e)) (fun e => g (ix2 0 e)) l * sc := by
  unfold norm
  pointwise [k0_pay1]
  rfl

theorem pay2_ap (k : FVec Ideal S256x128 .f32) (g : FVec Ideal S1x128 .f32) (r : Fin 256) (l : Fin 128) :
    k0_pay2 (F := Ideal) k g (ix2 r l) = norm (fun e => k (ix2 r e)) (fun e => g (ix2 0 e)) l := by
  unfold norm
  pointwise [k0_pay2]

theorem pay3_ap (k : FVec Ideal S256x128 .f32) (g : FVec Ideal S1x128 .f32) (r : Fin 256) (l : Fin 128) :
    k0_pay3 (F := Ideal) k g (ix4 0 0 r l) = norm (fun e => k (ix2 r e)) (fun e => g (ix2 0 e)) l := by
  refine Eq.trans ?_ (pay2_ap k g r l)
  pointwise [k0_pay3]

theorem pay4_ap (v : FVec Ideal S256x128 .f32) (r : Fin 256) (l : Fin 128) :
    k0_pay4 (F := Ideal) v (ix4 0 0 r l) = v (ix2 r l) := by
  pointwise [k0_pay4]

theorem pay5_ap (q k v : FVec Ideal S256x128 .f32) (r : Fin 256) (l : Fin 128) :
    k0_pay5 (F := Ideal) q k v (ix2 r l) = pooled (fun n => ∑ e, q (ix2 r e) * k (ix2 n e)) (fun n => v (ix2 n l)) := by
  unfold pooled
  pointwise [k0_pay5]
  simp only [bot_word]
  rfl

/-- A head's attention. -/
theorem head_ap (q k v : FVec Ideal S256x128 .f32) (gq gk : FVec Ideal S1x128 .f32) (r : Fin 256) (l : Fin 128) :
    k0_pay5 (F := Ideal) (k0_pay1 q gq) (k0_pay2 k gk) v (ix2 r l)
      = pooled (fun n => (∑ e, norm (fun e => q (ix2 r e)) (fun e => gq (ix2 0 e)) e * norm (fun e => k (ix2 n e)) (fun e => gk (ix2 0 e)) e) * sc)
          (fun n => v (ix2 n l)) := by
  rw [pay5_ap]
  simp only [pay1_ap, pay2_ap, scale_out]

/-- The columns `o …` of a block of rows. -/
abbrev cols (o : ℕ) (inb : ∀ a, (![0, o] : Fin 2 → ℕ) a + S256x128.size a ≤ S256x1024.size a) : Rect S256x1024 :=
  Rect.unit (s := S256x1024) ![0, o] S256x128.size inb

/-- Head `n` of a block of heads. -/
abbrev page (n : ℕ) (inb : ∀ a, (![0, n, 0, 0] : Fin 4 → ℕ) a + S1x1x256x128.size a ≤ S1x8x256x128.size a) : Rect S1x8x256x128 :=
  Rect.unit (s := S1x8x256x128) ![0, n, 0, 0] S1x1x256x128.size inb

theorem ld_cols (X : FVec Ideal S256x1024 .f32) (o : ℕ) (inb) (a : Fin 256) (l : Fin 128) (h : o + l.val < 1024) :
    View.ld (Val := Elt Ideal) (e' := .f32) X (cols o inb) (ix2 a l) = X (ix2 a ⟨o + l.val, h⟩) := by
  refine congrArg X ?_
  funext x
  match x with
  | ⟨0, _⟩ => apply Fin.ext; show 0 + 1 * a.val = a.val; omega
  | ⟨1, _⟩ => apply Fin.ext; show o + 1 * l.val = o + l.val; omega

theorem origin2 : (![0, 0] : Fin 2 → ℕ) = fun _ => 0 := by
  funext a
  match a with
  | ⟨0, _⟩ => rfl
  | ⟨1, _⟩ => rfl

theorem ld_gain (g : FVec Ideal S1x128 .f32) : View.ld (Val := Elt Ideal) (e' := .f32) g r0_1 = g :=
  View.ld_unit_zero (Val := Elt Ideal) (S := S1x128) (e := .f32) origin2 inb_S1x128_S1x128_0_0 g

/-- The attention of a block. -/
def blkAttn (x0 x1 x2 : FVec Ideal S256x1024 .f32) (x3 x4 : FVec Ideal S1x128 .f32) (a : Fin 256) (h : Fin 8) (d : Fin 128) : EReal :=
  pooled (fun n => (∑ e, norm (fun e => x0 (ix2 a ⟨128 * h.val + e.val, by omega⟩)) (fun e => x3 (ix2 0 e)) e
      * norm (fun e => x1 (ix2 n ⟨128 * h.val + e.val, by omega⟩)) (fun e => x4 (ix2 0 e)) e) * sc) (fun n => x2 (ix2 n ⟨128 * h.val + d.val, by omega⟩))

/-- A block's attention is the attention of the arguments its entries are read from. -/
theorem blkAttn_eq (x0 x1 x2 : FVec Ideal S256x1024 .f32) (x3 x4 : FVec Ideal S1x128 .f32) (P : FVec Ideal ⟨2, ![8192, 15360]⟩ .f32)
    (gq gk : FVec Ideal ⟨1, ![128]⟩ .f32) (b : Fin 32) (h : Fin 8) (a : Fin 256) (d : Fin 128)
    (e0 : ∀ f : Fin 128, x0 (ix2 a ⟨128 * h.val + f.val, by omega⟩) = feat P 0 b h a f)
    (e1 : ∀ (n : Fin 256) (f : Fin 128), x1 (ix2 n ⟨128 * h.val + f.val, by omega⟩) = feat P 1 b h n f)
    (e2 : ∀ (n : Fin 256) (f : Fin 128), x2 (ix2 n ⟨128 * h.val + f.val, by omega⟩) = feat P 2 b h n f)
    (e3 : ∀ f : Fin 128, x3 (ix2 0 f) = gq (ix1 f)) (e4 : ∀ f : Fin 128, x4 (ix2 0 f) = gk (ix1 f)) :
    blkAttn x0 x1 x2 x3 x4 a h d = attn P gq gk b h a d := by
  unfold blkAttn attn keys
  refine congr (congrArg pooled (funext fun k => ?_)) (funext fun k => e2 k d)
  refine congrArg (· * sc) (Finset.sum_congr rfl fun f _ => congr (congrArg HMul.hMul ?_) ?_)
  · exact congrFun (congr (congrArg norm (funext e0)) (funext e3)) f
  · exact congrFun (congr (congrArg norm (funext (e1 k))) (funext e4)) f

/-- The same by row and column. -/
def G5 (x0 x1 x2 : FVec Ideal S256x1024 .f32) (x3 x4 : FVec Ideal S1x128 .f32) (y : S256x1024.Idx) : EReal :=
  blkAttn x0 x1 x2 x3 x4 (y 0) ⟨(y 1).val / 128, by have := (y 1).isLt; change _ < 1024 at this; omega⟩ ⟨(y 1).val % 128, by omega⟩
/-- The normalised keys of a block. -/
def G6 (x1 : FVec Ideal S256x1024 .f32) (x4 : FVec Ideal S1x128 .f32) (y : S1x8x256x128.Idx) : EReal :=
  norm (fun e => x1 (ix2 (y 2) ⟨128 * (y 1).val + e.val, by have := (y 1).isLt; change _ < 8 at this; omega⟩)) (fun e => x4 (ix2 0 e)) (y 3)
/-- The values of a block. -/
def G7 (x2 : FVec Ideal S256x1024 .f32) (y : S1x8x256x128.Idx) : EReal :=
  x2 (ix2 (y 2) ⟨128 * (y 1).val + (y 3).val, by have := (y 1).isLt; change _ < 8 at this; have := (y 3).isLt; change _ < 128 at this; omega⟩)

theorem piece5 (x0 x1 x2 : FVec Ideal S256x1024 .f32) (x3 x4 : FVec Ideal S1x128 .f32) (o : ℕ) (inb) (n : Fin 8) (ho : o = 128 * n.val) (j : S256x128.Idx) :
    k0_pay5 (F := Ideal) (k0_pay1 (View.ld x0 (cols o inb)) (View.ld x3 r0_1)) (k0_pay2 (View.ld x1 (cols o inb)) (View.ld x4 r0_1)) (View.ld x2 (cols o inb)) j
      = G5 x0 x1 x2 x3 x4 ((cols o inb).emb j) := by
  subst ho
  have hj : j = ix2 (j 0) (j 1) := by
    funext x
    match x with
    | ⟨0, _⟩ => rfl
    | ⟨1, _⟩ => rfl
  have h1 : (j 1).val < 128 := (j 1).isLt
  rw [hj]
  refine (head_ap _ _ _ _ _ (j 0) (j 1)).trans ?_
  rw [ld_gain, ld_gain]
  have e : ∀ (X : FVec Ideal S256x1024 .f32) (a : Fin 256) (l : Fin 128),
      View.ld (Val := Elt Ideal) (e' := .f32) X (cols (128 * n.val) inb) (ix2 a l) = X (ix2 a ⟨128 * n.val + l.val, by omega⟩) := fun X a l => ld_cols X _ inb a l _
  have L : pooled (fun k => (∑ f, norm (fun f => View.ld (Val := Elt Ideal) (e' := .f32) x0 (cols (128 * n.val) inb) (ix2 (j 0) f)) (fun f => x3 (ix2 0 f)) f
        * norm (fun f => View.ld (Val := Elt Ideal) (e' := .f32) x1 (cols (128 * n.val) inb) (ix2 k f)) (fun f => x4 (ix2 0 f)) f) * sc)
        (fun k => View.ld (Val := Elt Ideal) (e' := .f32) x2 (cols (128 * n.val) inb) (ix2 k (j 1)))
      = blkAttn x0 x1 x2 x3 x4 (j 0) n (j 1) := by
    refine congr (congrArg pooled (funext fun k => ?_)) (funext fun k => e x2 k (j 1))
    refine congrArg (· * sc) (Finset.sum_congr rfl fun f _ => congr (congrArg HMul.hMul ?_) ?_)
    · exact congrArg (fun x => norm x (fun f => x3 (ix2 0 f)) f) (funext fun f => e x0 (j 0) f)
    · exact congrArg (fun x => norm x (fun f => x4 (ix2 0 f)) f) (funext fun f => e x1 k f)
  refine L.trans ?_
  have i0 : (((cols (128 * n.val) inb).emb (ix2 (j 0) (j 1)) : S256x1024.Idx) 0 : Fin 256) = j 0 := Fin.ext (by show 0 + 1 * (j 0).val = (j 0).val; omega)
  have i1 : ((((cols (128 * n.val) inb).emb (ix2 (j 0) (j 1)) : S256x1024.Idx) 1 : Fin 1024)).val = 128 * n.val + (j 1).val := by
    show 128 * n.val + 1 * (j 1).val = _; omega
  unfold G5
  have q1 : (⟨(((cols (128 * n.val) inb).emb (ix2 (j 0) (j 1)) : S256x1024.Idx) 1).val / 128, by rw [i1]; omega⟩ : Fin 8) = n := Fin.ext (by show _ / 128 = _; rw [i1]; omega)
  have q2 : (⟨(((cols (128 * n.val) inb).emb (ix2 (j 0) (j 1)) : S256x1024.Idx) 1).val % 128, by omega⟩ : Fin 128) = j 1 := Fin.ext (by show _ % 128 = _; rw [i1]; omega)
  exact (congr (congr (congrArg (blkAttn x0 x1 x2 x3 x4) i0) q1) q2).symm

theorem piece6 (x1 : FVec Ideal S256x1024 .f32) (x4 : FVec Ideal S1x128 .f32) (o : ℕ) (inb) (n : Fin 8) (ho : o = 128 * n.val) (n' : ℕ) (hn : n' = n.val) (inb') (j : S1x1x256x128.Idx) :
    k0_pay3 (F := Ideal) (View.ld x1 (cols o inb)) (View.ld x4 r0_1) j = G6 x1 x4 ((page n' inb').emb j) := by
  subst ho hn
  have hj : j = ix4 0 0 (j 2) (j 3) := by
    funext x
    match x with
    | ⟨0, _⟩ => exact Subsingleton.elim (α := Fin 1) _ _
    | ⟨1, _⟩ => exact Subsingleton.elim (α := Fin 1) _ _
    | ⟨2, _⟩ => rfl
    | ⟨3, _⟩ => rfl
  rw [hj]
  refine (pay3_ap _ _ (j 2) (j 3)).trans ?_
  rw [ld_gain]
  have e : ∀ (X : FVec Ideal S256x1024 .f32) (a : Fin 256) (l : Fin 128),
      View.ld (Val := Elt Ideal) (e' := .f32) X (cols (128 * n.val) inb) (ix2 a l) = X (ix2 a ⟨128 * n.val + l.val, by omega⟩) := fun X a l => ld_cols X _ inb a l _
  refine (congrArg (fun x => norm x (fun f => x4 (ix2 0 f)) (j 3)) (funext fun f => e x1 (j 2) f)).trans ?_
  have i1 : ((((page n.val inb').emb (ix4 0 0 (j 2) (j 3)) : S1x8x256x128.Idx) 1 : Fin 8)) = n := Fin.ext (by show n.val + 1 * 0 = n.val; omega)
  have i2 : ((((page n.val inb').emb (ix4 0 0 (j 2) (j 3)) : S1x8x256x128.Idx) 2 : Fin 256)) = j 2 := Fin.ext (by show 0 + 1 * (j 2).val = _; omega)
  have i3 : ((((page n.val inb').emb (ix4 0 0 (j 2) (j 3)) : S1x8x256x128.Idx) 3 : Fin 128)) = j 3 := Fin.ext (by show 0 + 1 * (j 3).val = _; omega)
  exact (congr (congr (congrArg (fun (h : Fin 8) (a : Fin 256) (d : Fin 128) => norm (fun e => x1 (ix2 a ⟨128 * h.val + e.val, by omega⟩)) (fun e => x4 (ix2 0 e)) d) i1) i2) i3).symm

theorem piece7 (x2 : FVec Ideal S256x1024 .f32) (o : ℕ) (inb) (n : Fin 8) (ho : o = 128 * n.val) (n' : ℕ) (hn : n' = n.val) (inb') (j : S1x1x256x128.Idx) :
    k0_pay4 (F := Ideal) (View.ld x2 (cols o inb)) j = G7 x2 ((page n' inb').emb j) := by
  subst ho hn
  have hj : j = ix4 0 0 (j 2) (j 3) := by
    funext x
    match x with
    | ⟨0, _⟩ => exact Subsingleton.elim (α := Fin 1) _ _
    | ⟨1, _⟩ => exact Subsingleton.elim (α := Fin 1) _ _
    | ⟨2, _⟩ => rfl
    | ⟨3, _⟩ => rfl
  rw [hj]
  have h3 : (j 3).val < 128 := (j 3).isLt
  refine (pay4_ap _ (j 2) (j 3)).trans ((ld_cols x2 _ inb (j 2) (j 3) (by omega)).trans ?_)
  have i1 : ((((page n.val inb').emb (ix4 0 0 (j 2) (j 3)) : S1x8x256x128.Idx) 1 : Fin 8)) = n := Fin.ext (by show n.val + 1 * 0 = n.val; omega)
  have i2 : ((((page n.val inb').emb (ix4 0 0 (j 2) (j 3)) : S1x8x256x128.Idx) 2 : Fin 256)) = j 2 := Fin.ext (by show 0 + 1 * (j 2).val = _; omega)
  have i3 : ((((page n.val inb').emb (ix4 0 0 (j 2) (j 3)) : S1x8x256x128.Idx) 3 : Fin 128)) = j 3 := Fin.ext (by show 0 + 1 * (j 3).val = _; omega)
  exact (congr (congr (congrArg (fun (h : Fin 8) (a : Fin 256) (d : Fin 128) => x2 (ix2 a ⟨128 * h.val + d.val, by omega⟩)) i1) i2) i3).symm

theorem out5 (x0 x1 x2 : FVec Ideal S256x1024 .f32) (x3 x4 : FVec Ideal S1x128 .f32) (y : S256x1024.Idx) :
    out0_5 (F := Ideal) x0 x1 x2 x3 x4 y = G5 x0 x1 x2 x3 x4 y := by
  unfold out0_5 k0_pay50 k0_pay49 k0_pay48 k0_pay47 k0_pay46
  refine View.canon_apply_of_pieces (Val := Elt Ideal) (e := .f32) (G5 x0 x1 x2 x3 x4) _ (fun p hp j => ?_) y (cover0_5 _ _ _ _ _ _ _ _ y)
  simp only [List.mem_cons, List.mem_nil_iff, or_false] at hp
  rcases hp with rfl | rfl | rfl | rfl | rfl | rfl | rfl | rfl
  · exact piece5 x0 x1 x2 x3 x4 896 _ 7 rfl j
  · exact piece5 x0 x1 x2 x3 x4 768 _ 6 rfl j
  · exact piece5 x0 x1 x2 x3 x4 640 _ 5 rfl j
  · exact piece5 x0 x1 x2 x3 x4 512 _ 4 rfl j
  · exact piece5 x0 x1 x2 x3 x4 384 _ 3 rfl j
  · exact piece5 x0 x1 x2 x3 x4 256 _ 2 rfl j
  · exact piece5 x0 x1 x2 x3 x4 128 _ 1 rfl j
  · exact piece5 x0 x1 x2 x3 x4 0 _ 0 rfl j

theorem out6 (x0 x1 x2 : FVec Ideal S256x1024 .f32) (x3 x4 : FVec Ideal S1x128 .f32) (y : S1x8x256x128.Idx) :
    out0_6 (F := Ideal) x0 x1 x2 x3 x4 y = G6 x1 x4 y := by
  unfold out0_6 k0_pay50 k0_pay49 k0_pay48 k0_pay47 k0_pay46
  refine View.canon_apply_of_pieces (Val := Elt Ideal) (e := .f32) (G6 x1 x4) _ (fun p hp j => ?_) y (cover0_6 _ _ _ _ _ _ _ _ y)
  simp only [List.mem_cons, List.mem_nil_iff, or_false] at hp
  rcases hp with rfl | rfl | rfl | rfl | rfl | rfl | rfl | rfl
  · exact piece6 x1 x4 896 _ 7 rfl 7 rfl inb_S1x8x256x128_S1x1x256x128_0_7_0_0 j
  · exact piece6 x1 x4 768 _ 6 rfl 6 rfl inb_S1x8x256x128_S1x1x256x128_0_6_0_0 j
  · exact piece6 x1 x4 640 _ 5 rfl 5 rfl inb_S1x8x256x128_S1x1x256x128_0_5_0_0 j
  · exact piece6 x1 x4 512 _ 4 rfl 4 rfl inb_S1x8x256x128_S1x1x256x128_0_4_0_0 j
  · exact piece6 x1 x4 384 _ 3 rfl 3 rfl inb_S1x8x256x128_S1x1x256x128_0_3_0_0 j
  · exact piece6 x1 x4 256 _ 2 rfl 2 rfl inb_S1x8x256x128_S1x1x256x128_0_2_0_0 j
  · exact piece6 x1 x4 128 _ 1 rfl 1 rfl inb_S1x8x256x128_S1x1x256x128_0_1_0_0 j
  · exact piece6 x1 x4 0 _ 0 rfl 0 rfl inb_S1x8x256x128_S1x1x256x128_0_0_0_0 j

theorem out7 (x0 x1 x2 : FVec Ideal S256x1024 .f32) (x3 x4 : FVec Ideal S1x128 .f32) (y : S1x8x256x128.Idx) :
    out0_7 (F := Ideal) x0 x1 x2 x3 x4 y = G7 x2 y := by
  unfold out0_7
  refine View.canon_apply_of_pieces (Val := Elt Ideal) (e := .f32) (G7 x2) _ (fun p hp j => ?_) y (cover0_7 _ _ _ _ _ _ _ _ y)
  simp only [List.mem_cons, List.mem_nil_iff, or_false] at hp
  rcases hp with rfl | rfl | rfl | rfl | rfl | rfl | rfl | rfl
  · exact piece7 x2 896 _ 7 rfl 7 rfl inb_S1x8x256x128_S1x1x256x128_0_7_0_0 j
  · exact piece7 x2 768 _ 6 rfl 6 rfl inb_S1x8x256x128_S1x1x256x128_0_6_0_0 j
  · exact piece7 x2 640 _ 5 rfl 5 rfl inb_S1x8x256x128_S1x1x256x128_0_5_0_0 j
  · exact piece7 x2 512 _ 4 rfl 4 rfl inb_S1x8x256x128_S1x1x256x128_0_4_0_0 j
  · exact piece7 x2 384 _ 3 rfl 3 rfl inb_S1x8x256x128_S1x1x256x128_0_3_0_0 j
  · exact piece7 x2 256 _ 2 rfl 2 rfl inb_S1x8x256x128_S1x1x256x128_0_2_0_0 j
  · exact piece7 x2 128 _ 1 rfl 1 rfl inb_S1x8x256x128_S1x1x256x128_0_1_0_0 j
  · exact piece7 x2 0 _ 0 rfl 0 rfl inb_S1x8x256x128_S1x1x256x128_0_0_0_0 j

variable (m : (ℓ : Loc nD τ sig) → Buf (Elt Ideal) ℓ) (c : Dev nD)

theorem flush5 (t : Fin cfg0.N) : (cfg0.win 5).flush t = true := (by decide +kernel : ∀ t : Fin grid0.N, win0_5.flush t = true) t
theorem flush6 (t : Fin cfg0.N) : (cfg0.win 6).flush t = true := (by decide +kernel : ∀ t : Fin grid0.N, win0_6.flush t = true) t
theorem flush7 (t : Fin cfg0.N) : (cfg0.win 7).flush t = true := (by decide +kernel : ∀ t : Fin grid0.N, win0_7.flush t = true) t
theorem index0 : ∀ t : Fin grid0.N, win0_0.index t = ![t.val, 3] := by decide +kernel
theorem index1 : ∀ t : Fin grid0.N, win0_1.index t = ![t.val, 4] := by decide +kernel
theorem index2 : ∀ t : Fin grid0.N, win0_2.index t = ![t.val, 5] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![t.val, 0] := by decide +kernel
theorem index6 : ∀ t : Fin grid0.N, win0_6.index t = ![t.val, 0, 0, 0] := by decide +kernel
theorem index7 : ∀ t : Fin grid0.N, win0_7.index t = ![t.val, 0, 0, 0] := by decide +kernel

/-- The gains as the region finds them are the arguments as rows. -/
theorem V_gq (k : Fin 128) : V m c main_v0 (ix2 0 k) = m ((c : Thread nD τ).loc main_arg1) (ix1 k) := by
  have h : V m c main_v0 = (broadcastInDim S1x128 ![1] bcast_S128_S1x128_1 (m ((c : Thread nD τ).loc main_arg1)) : FVec Ideal S1x128 .f32) := by
    unfold V
    simp only [hostOps0, StableHlo.TRef.ternary, StableHlo.TRef.unary, StableHlo.TRef.toBuf, StableHlo.TRef.ofBuf, cast_eq]
    after_results_simp
  rw [h]
  generalize m ((c : Thread nD τ).loc main_arg1) = g
  change FVec Ideal S128 .f32 at g
  pointwise

theorem V_gk (k : Fin 128) : V m c main_v1 (ix2 0 k) = m ((c : Thread nD τ).loc main_arg2) (ix1 k) := by
  have h : V m c main_v1 = (broadcastInDim S1x128 ![1] bcast_S128_S1x128_1 (m ((c : Thread nD τ).loc main_arg2)) : FVec Ideal S1x128 .f32) := by
    unfold V
    simp only [hostOps0, StableHlo.TRef.ternary, StableHlo.TRef.unary, StableHlo.TRef.toBuf, StableHlo.TRef.ofBuf, cast_eq]
    after_results_simp
  rw [h]
  generalize m ((c : Thread nD τ).loc main_arg2) = g
  change FVec Ideal S128 .f32 at g
  pointwise

theorem blk3 (t : Fin cfg0.N) (k : Fin 128) : iblk m c 3 t (ix2 0 k) = m ((c : Thread nD τ).loc main_arg1) (ix1 k) := by
  refine Eq.trans (congrArg (V m c main_v0) ?_) (V_gq m c k)
  funext x
  match x with
  | ⟨0, _⟩ => apply Fin.ext; show win0_3.index t 0 * 1 + 1 * 0 = 0; rw [index3]; rfl
  | ⟨1, _⟩ => apply Fin.ext; show win0_3.index t 1 * 128 + 1 * k.val = k.val; rw [index3]; show 0 * 128 + 1 * k.val = _; omega

theorem blk4 (t : Fin cfg0.N) (k : Fin 128) : iblk m c 4 t (ix2 0 k) = m ((c : Thread nD τ).loc main_arg2) (ix1 k) := by
  refine Eq.trans (congrArg (V m c main_v1) ?_) (V_gk m c k)
  funext x
  match x with
  | ⟨0, _⟩ => apply Fin.ext; show win0_4.index t 0 * 1 + 1 * 0 = 0; rw [index4]; rfl
  | ⟨1, _⟩ => apply Fin.ext; show win0_4.index t 1 * 128 + 1 * k.val = k.val; rw [index4]; show 0 * 128 + 1 * k.val = _; omega

theorem blk0 (t : Fin cfg0.N) (b : Fin 32) (hb : b.val = t.val) (a : Fin 256) (h : Fin 8) (d : Fin 128) (hl : 128 * h.val + d.val < 1024) :
    iblk m c 0 t (ix2 a ⟨128 * h.val + d.val, hl⟩) = feat (m ((c : Thread nD τ).loc main_arg0)) 0 b h a d := by
  refine (congrFun (V_main_arg0 m c) _).trans (congrArg (m ((c : Thread nD τ).loc main_arg0)) ?_)
  funext x
  match x with
  | ⟨0, _⟩ => apply Fin.ext; show win0_0.index t 0 * 256 + 1 * a.val = 256 * b.val + a.val; rw [index0]; show t.val * 256 + 1 * a.val = _; omega
  | ⟨1, _⟩ => apply Fin.ext; show win0_0.index t 1 * 1024 + 1 * (128 * h.val + d.val) = 3072 + 1024 * 0 + 128 * h.val + d.val; rw [index0]; show 3 * 1024 + 1 * (128 * h.val + d.val) = _; omega

theorem blk1 (t : Fin cfg0.N) (b : Fin 32) (hb : b.val = t.val) (a : Fin 256) (h : Fin 8) (d : Fin 128) (hl : 128 * h.val + d.val < 1024) :
    iblk m c 1 t (ix2 a ⟨128 * h.val + d.val, hl⟩) = feat (m ((c : Thread nD τ).loc main_arg0)) 1 b h a d := by
  refine (congrFun (V_main_arg0 m c) _).trans (congrArg (m ((c : Thread nD τ).loc main_arg0)) ?_)
  funext x
  match x with
  | ⟨0, _⟩ => apply Fin.ext; show win0_1.index t 0 * 256 + 1 * a.val = 256 * b.val + a.val; rw [index1]; show t.val * 256 + 1 * a.val = _; omega
  | ⟨1, _⟩ => apply Fin.ext; show win0_1.index t 1 * 1024 + 1 * (128 * h.val + d.val) = 3072 + 1024 * 1 + 128 * h.val + d.val; rw [index1]; show 4 * 1024 + 1 * (128 * h.val + d.val) = _; omega

theorem blk2 (t : Fin cfg0.N) (b : Fin 32) (hb : b.val = t.val) (a : Fin 256) (h : Fin 8) (d : Fin 128) (hl : 128 * h.val + d.val < 1024) :
    iblk m c 2 t (ix2 a ⟨128 * h.val + d.val, hl⟩) = feat (m ((c : Thread nD τ).loc main_arg0)) 2 b h a d := by
  refine (congrFun (V_main_arg0 m c) _).trans (congrArg (m ((c : Thread nD τ).loc main_arg0)) ?_)
  funext x
  match x with
  | ⟨0, _⟩ => apply Fin.ext; show win0_2.index t 0 * 256 + 1 * a.val = 256 * b.val + a.val; rw [index2]; show t.val * 256 + 1 * a.val = _; omega
  | ⟨1, _⟩ => apply Fin.ext; show win0_2.index t 1 * 1024 + 1 * (128 * h.val + d.val) = 3072 + 1024 * 2 + 128 * h.val + d.val; rw [index2]; show 5 * 1024 + 1 * (128 * h.val + d.val) = _; omega

/-- The keys' array after the run. -/
theorem arr6 (b : Fin 32) (h : Fin 8) (p : Fin 256) (d : Fin 128) :
    (dats m 0 c).arrAt 6 cfg0.N (ix4 b h p d) = keys (m ((c : Thread nD τ).loc main_arg0)) (m ((c : Thread nD τ).loc main_arg2)) b h p d := by
  let t : Fin cfg0.N := (⟨b.val, b.isLt⟩ : Fin 32)
  have e := congrFun ((dats m 0 c).read_blk_arrAt_eq_flushed 6 Value.disjoint6 cfg0.N t t.isLt (flush6 t)) (ix4 0 h p d)
  rw [Value.flushed6] at e
  have ei : ((cfg0.win 6).blk t).view.emb (ix4 0 h p d) = ix4 b h p d := by
    funext x
    match x with
    | ⟨0, _⟩ => apply Fin.ext; show win0_6.index t 0 * 1 + 1 * 0 = b.val; rw [index6]; show b.val * 1 + 1 * 0 = _; omega
    | ⟨1, _⟩ => apply Fin.ext; show win0_6.index t 1 * 8 + 1 * h.val = h.val; rw [index6]; show 0 * 8 + 1 * h.val = _; omega
    | ⟨2, _⟩ => apply Fin.ext; show win0_6.index t 2 * 256 + 1 * p.val = p.val; rw [index6]; show 0 * 256 + 1 * p.val = _; omega
    | ⟨3, _⟩ => apply Fin.ext; show win0_6.index t 3 * 128 + 1 * d.val = d.val; rw [index6]; show 0 * 128 + 1 * d.val = _; omega
  rw [← ei]
  refine e.trans ((out6 (iblk m c 0 t) (iblk m c 1 t) (iblk m c 2 t) (iblk m c 3 t) (iblk m c 4 t) (ix4 0 h p d)).trans ?_)
  have e1 : (fun e : Fin 128 => iblk m c 1 t (ix2 p ⟨128 * h.val + e.val, by omega⟩)) = feat (m ((c : Thread nD τ).loc main_arg0)) 1 b h p := funext fun e => blk1 m c t b rfl p h e _
  have e4 : (fun e : Fin 128 => iblk m c 4 t (ix2 0 e)) = fun e => m ((c : Thread nD τ).loc main_arg2) (ix1 e) := funext fun e => blk4 m c t e
  exact congrFun (congr (congrArg norm e1) e4) d

/-- The values' array after the run. -/
theorem arr7 (b : Fin 32) (h : Fin 8) (p : Fin 256) (d : Fin 128) :
    (dats m 0 c).arrAt 7 cfg0.N (ix4 b h p d) = feat (m ((c : Thread nD τ).loc main_arg0)) 2 b h p d := by
  let t : Fin cfg0.N := (⟨b.val, b.isLt⟩ : Fin 32)
  have e := congrFun ((dats m 0 c).read_blk_arrAt_eq_flushed 7 Value.disjoint7 cfg0.N t t.isLt (flush7 t)) (ix4 0 h p d)
  rw [Value.flushed7] at e
  have ei : ((cfg0.win 7).blk t).view.emb (ix4 0 h p d) = ix4 b h p d := by
    funext x
    match x with
    | ⟨0, _⟩ => apply Fin.ext; show win0_7.index t 0 * 1 + 1 * 0 = b.val; rw [index7]; show b.val * 1 + 1 * 0 = _; omega
    | ⟨1, _⟩ => apply Fin.ext; show win0_7.index t 1 * 8 + 1 * h.val = h.val; rw [index7]; show 0 * 8 + 1 * h.val = _; omega
    | ⟨2, _⟩ => apply Fin.ext; show win0_7.index t 2 * 256 + 1 * p.val = p.val; rw [index7]; show 0 * 256 + 1 * p.val = _; omega
    | ⟨3, _⟩ => apply Fin.ext; show win0_7.index t 3 * 128 + 1 * d.val = d.val; rw [index7]; show 0 * 128 + 1 * d.val = _; omega
  rw [← ei]
  refine e.trans ((out7 (iblk m c 0 t) (iblk m c 1 t) (iblk m c 2 t) (iblk m c 3 t) (iblk m c 4 t) (ix4 0 h p d)).trans ?_)
  exact blk2 m c t b rfl p h d _

/-- The attention's array after the run. -/
theorem arr5 (R : Fin 8192) (L : Fin 1024) :
    (dats m 0 c).arrAt 5 cfg0.N (ix2 R L)
      = attn (m ((c : Thread nD τ).loc main_arg0)) (m ((c : Thread nD τ).loc main_arg1)) (m ((c : Thread nD τ).loc main_arg2))
          ⟨R.val / 256, by omega⟩ ⟨L.val / 128, by omega⟩ ⟨R.val % 256, by omega⟩ ⟨L.val % 128, by omega⟩ := by
  let b : Fin 32 := ⟨R.val / 256, by omega⟩
  let t : Fin cfg0.N := b
  let a : Fin 256 := ⟨R.val % 256, by omega⟩
  let h : Fin 8 := ⟨L.val / 128, by omega⟩
  have e := congrFun ((dats m 0 c).read_blk_arrAt_eq_flushed 5 Value.disjoint5 cfg0.N t t.isLt (flush5 t)) (ix2 a L)
  rw [Value.flushed5] at e
  have ei : ((cfg0.win 5).blk t).view.emb (ix2 a L) = ix2 R L := by
    funext x
    match x with
    | ⟨0, _⟩ => apply Fin.ext; show win0_5.index t 0 * 256 + 1 * (R.val % 256) = R.val; rw [index5]; show R.val / 256 * 256 + 1 * (R.val % 256) = _; omega
    | ⟨1, _⟩ => apply Fin.ext; show win0_5.index t 1 * 1024 + 1 * L.val = L.val; rw [index5]; show 0 * 1024 + 1 * L.val = _; omega
  rw [← ei]
  refine e.trans ((out5 (iblk m c 0 t) (iblk m c 1 t) (iblk m c 2 t) (iblk m c 3 t) (iblk m c 4 t) (ix2 a L)).trans ?_)
  exact blkAttn_eq _ _ _ _ _ _ _ _ b h a ⟨L.val % 128, by omega⟩ (fun f => blk0 m c t b rfl a h f _) (fun n f => blk1 m c t b rfl n h f _)
    (fun n f => blk2 m c t b rfl n h f _) (fun f => blk3 m c t f) (fun f => blk4 m c t f)

end Kernel

end Cert.Ctx
end
end
-- ==== Proof.CtxRef.lean ====
/- What the reference of the attention of the context tokens computes. -/
module

public import proofs.«01_k».proof.Proof.Gen.Reference7Ideal.Run
public import proofs.«01_k».proof.Proof.CtxDefs

set_option maxRecDepth 16384

@[expose] public section
noncomputable section
namespace Cert.Ctx
open Idealize.ShloMosaic Idealize.ShloMosaic.TcCoe Idealize.ShloMosaic.Tactic
open Cert.Na (sc)

section Reference
open Cert.Reference7Ideal Cert.Reference7Ideal.Gen Cert.Reference7Ideal.Facts Idealize.ShloMosaic.StableHlo

/-- The reference's queries by head. -/
def rq (P : FVec Ideal S8192x15360 .f32) : FVec Ideal S32x8x256x128 .f32 :=
  transpose S32x8x256x128 [0, 2, 1, 3] (shapeCast _ (extractStridedSlice S8192x1024 ![0, 3072] P slices_S8192x15360_S8192x1024_0_3072) shapeCasts_S8192x1024_S32x256x8x128) transposes_S32x256x8x128_S32x8x256x128_0_2_1_3
/-- The reference's keys by head. -/
def rk (P : FVec Ideal S8192x15360 .f32) : FVec Ideal S32x8x256x128 .f32 :=
  transpose S32x8x256x128 [0, 2, 1, 3] (shapeCast _ (extractStridedSlice S8192x1024 ![0, 4096] P slices_S8192x15360_S8192x1024_0_4096) shapeCasts_S8192x1024_S32x256x8x128) transposes_S32x256x8x128_S32x8x256x128_0_2_1_3
/-- The reference's values by head. -/
def rv (P : FVec Ideal S8192x15360 .f32) : FVec Ideal S32x8x256x128 .f32 :=
  transpose S32x8x256x128 [0, 2, 1, 3] (shapeCast _ (extractStridedSlice S8192x1024 ![0, 5120] P slices_S8192x15360_S8192x1024_0_5120) shapeCasts_S8192x1024_S32x256x8x128) transposes_S32x256x8x128_S32x8x256x128_0_2_1_3
/-- The reference's normalisation. -/
def rnorm (x : FVec Ideal S32x8x256x128 .f32) (g : FVec Ideal S128 .f32) : FVec Ideal S32x8x256x128 .f32 :=
  mulf (mulf x (broadcastInDim S32x8x256x128 ![0, 1, 2, 3] bcast_S32x8x256x1_S32x8x256x128_0_1_2_3 (Host.rsqrt (addf (Host.divf (broadcastInDim S32x8x256x1 ![0, 1, 2] bcast_S32x8x256_S32x8x256x1_0_1_2 (Host.reduceAdd (mulf x x) (constant S_ .f32 0x00000000#32) reducesTo_S32x8x256x128_S32x8x256_d3 h_S_)) (broadcastInDim S32x8x256x1 ![] bcast_S_S32x8x256x1 (constant S_ .f32 0x43000000#32))) (broadcastInDim S32x8x256x1 ![] bcast_S_S32x8x256x1 (constant S_ .f32 0x358637BD#32)))))) (broadcastInDim S32x8x256x128 ![0, 1, 2, 3] bcast_S1x1x1x128_S32x8x256x128_0_1_2_3 (broadcastInDim S1x1x1x128 ![3] bcast_S128_S1x1x1x128_3 g))
/-- The reference's scores. -/
def rs (q k : FVec Ideal S32x8x256x128 .f32) : FVec Ideal S32x8x256x256 .f32 :=
  mulf (Host.dotGeneral dot_S32x8x256x128_S32x8x256x128_S32x8x256x256_3_3_2_2_01_01 none q k) (broadcastInDim S32x8x256x256 ![] bcast_S_S32x8x256x256 (constant S_ .f32 0x3DB504F3#32))
/-- The scores' maxima. -/
def rm (s : FVec Ideal S32x8x256x256 .f32) : FVec Ideal S32x8x256 .f32 :=
  Host.reduce FloatOps.maximumf s (constant S_ .f32 0xFF800000#32) reducesTo_S32x8x256x256_S32x8x256_d3 h_S_
/-- The exponentials. -/
def re (s : FVec Ideal S32x8x256x256 .f32) : FVec Ideal S32x8x256x256 .f32 :=
  Host.exp (subf s (broadcastInDim S32x8x256x256 ![0, 1, 2, 3] bcast_S32x8x256x1_S32x8x256x256_0_1_2_3 (broadcastInDim S32x8x256x1 ![0, 1, 2] bcast_S32x8x256_S32x8x256x1_0_1_2 (maximumf (broadcastInDim S32x8x256 ![] bcast_S_S32x8x256 (constant S_ .f32 0xFF800000#32)) (rm s)))))
/-- The weighted values by head. -/
def ro (s : FVec Ideal S32x8x256x256 .f32) (v : FVec Ideal S32x8x256x128 .f32) : FVec Ideal S32x8x256x128 .f32 :=
  Host.dotGeneral dot_S32x8x256x256_S32x8x256x128_S32x8x256x128_3_2_2_3_01_01 none (Host.divf (re s) (broadcastInDim S32x8x256x256 ![0, 1, 2, 3] bcast_S32x8x256x1_S32x8x256x256_0_1_2_3 (broadcastInDim S32x8x256x1 ![0, 1, 2] bcast_S32x8x256_S32x8x256x1_0_1_2 (Host.reduceAdd (re s) (constant S_ .f32 0x00000000#32) reducesTo_S32x8x256x256_S32x8x256_d3 h_S_)))) v
/-- What the reference computes. -/
def out (P : FVec Ideal S8192x15360 .f32) (gq gk : FVec Ideal S128 .f32) : FVec Ideal S8192x1024 .f32 :=
  shapeCast _ (transpose S32x256x8x128 [0, 2, 1, 3] (ro (rs (rnorm (rq P) gq) (rnorm (rk P) gk)) (rv P)) transposes_S32x8x256x128_S32x256x8x128_0_2_1_3) shapeCasts_S32x256x8x128_S8192x1024

theorem rq_ap (P : FVec Ideal S8192x15360 .f32) (b : Fin 32) (h : Fin 8) (p : Fin 256) (d : Fin 128) : rq P (ix4 b h p d) = feat P 0 b h p d := by
  pointwise [rq]
  unfold feat
  refine congrArg P (congrArg₂ ix2 (Fin.ext ?_) (Fin.ext ?_))
  · show b.val * 256 + p.val = 256 * b.val + p.val; omega
  · show 3072 + (h.val * 128 + d.val) = 3072 + 1024 * 0 + 128 * h.val + d.val; omega
theorem rk_ap (P : FVec Ideal S8192x15360 .f32) (b : Fin 32) (h : Fin 8) (p : Fin 256) (d : Fin 128) : rk P (ix4 b h p d) = feat P 1 b h p d := by
  pointwise [rk]
  unfold feat
  refine congrArg P (congrArg₂ ix2 (Fin.ext ?_) (Fin.ext ?_))
  · show b.val * 256 + p.val = 256 * b.val + p.val; omega
  · show 4096 + (h.val * 128 + d.val) = 3072 + 1024 * 1 + 128 * h.val + d.val; omega
theorem rv_ap (P : FVec Ideal S8192x15360 .f32) (b : Fin 32) (h : Fin 8) (p : Fin 256) (d : Fin 128) : rv P (ix4 b h p d) = feat P 2 b h p d := by
  pointwise [rv]
  unfold feat
  refine congrArg P (congrArg₂ ix2 (Fin.ext ?_) (Fin.ext ?_))
  · show b.val * 256 + p.val = 256 * b.val + p.val; omega
  · show 5120 + (h.val * 128 + d.val) = 3072 + 1024 * 2 + 128 * h.val + d.val; omega

theorem rnorm_ap (x : FVec Ideal S32x8x256x128 .f32) (g : FVec Ideal S128 .f32) (b : Fin 32) (h : Fin 8) (p : Fin 256) (d : Fin 128) :
    rnorm x g (ix4 b h p d) = norm (fun e => x (ix4 b h p e)) (fun e => g (ix1 e)) d := by
  unfold norm
  pointwise [rnorm]

theorem rs_ap (q k : FVec Ideal S32x8x256x128 .f32) (b : Fin 32) (h : Fin 8) (p n : Fin 256) :
    rs q k (ix4 b h p n) = (∑ e, q (ix4 b h p e) * k (ix4 b h n e)) * sc := by
  pointwise [rs]
  rfl

theorem rm_ap (s : FVec Ideal S32x8x256x256 .f32) (b : Fin 32) (h : Fin 8) (p : Fin 256) :
    rm s (ix3 b h p) = Finset.univ.sup fun n => s (ix4 b h p n) := by
  unfold rm
  rw [Host.reduce_eq_fold, Shape.ReducesTo.fold_fiber_r4_a3]
  show (Finset.univ : Finset (Fin 256)).fold max (Ideal.ofBits .f32 0xFF800000#32) (fun n => s (ix4 b h p n)) = _
  rw [bot_word]
  rfl

theorem exp_ap (s : FVec Ideal S32x8x256x256 .f32) (m : FVec Ideal S32x8x256 .f32) (b : Fin 32) (h : Fin 8) (p n : Fin 256) :
    (Host.exp (subf s (broadcastInDim S32x8x256x256 ![0, 1, 2, 3] bcast_S32x8x256x1_S32x8x256x256_0_1_2_3 (broadcastInDim S32x8x256x1 ![0, 1, 2] bcast_S32x8x256_S32x8x256x1_0_1_2 (maximumf (broadcastInDim S32x8x256 ![] bcast_S_S32x8x256 (constant S_ .f32 0xFF800000#32)) m))))) (ix4 b h p n) = Ideal.exp (s (ix4 b h p n) - max (Ideal.ofBits .f32 0xFF800000#32) (m (ix3 b h p))) := by
  pointwise

theorem re_ap (s : FVec Ideal S32x8x256x256 .f32) (b : Fin 32) (h : Fin 8) (p n : Fin 256) :
    re s (ix4 b h p n) = Ideal.exp (s (ix4 b h p n) - Finset.univ.sup fun n => s (ix4 b h p n)) := by
  refine (exp_ap _ _ b h p n).trans ?_
  rw [rm_ap, bot_word, max_eq_right bot_le]

theorem ro_ap (s : FVec Ideal S32x8x256x256 .f32) (v : FVec Ideal S32x8x256x128 .f32) (b : Fin 32) (h : Fin 8) (p : Fin 256) (d : Fin 128) :
    ro s v (ix4 b h p d) = pooled (fun n => s (ix4 b h p n)) (fun n => v (ix4 b h n d)) := by
  unfold pooled
  pointwise [ro]
  simp only [re_ap]

theorem rkeys_ap (P : FVec Ideal S8192x15360 .f32) (gk : FVec Ideal S128 .f32) (b : Fin 32) (h : Fin 8) (p : Fin 256) (d : Fin 128) :
    rnorm (rk P) gk (ix4 b h p d) = keys P gk b h p d := by
  rw [rnorm_ap]
  simp only [rk_ap]
  rfl

theorem out_ap (P : FVec Ideal S8192x15360 .f32) (gq gk : FVec Ideal S128 .f32) (R : Fin 8192) (L : Fin 1024) :
    out P gq gk (ix2 R L) = attn P gq gk ⟨R.val / 256, by omega⟩ ⟨L.val / 128, by omega⟩ ⟨R.val % 256, by omega⟩ ⟨L.val % 128, by omega⟩ := by
  pointwise [out]
  rw [ro_ap]
  simp only [rs_ap, rkeys_ap, rv_ap]
  simp only [rnorm_ap, rq_ap]
  rfl

/-- The reference's run ends with the attention, the keys and the values of its arguments, which are unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51) = out (m ((c.tc : Thread nD τ).loc main_arg0)) (m ((c.tc : Thread nD τ).loc main_arg1)) (m ((c.tc : Thread nD τ).loc main_arg2))
      ∧ r.2.mem ((c.tc : Thread nD τ).loc main_v31) = rnorm (rk (m ((c.tc : Thread nD τ).loc main_arg0))) (m ((c.tc : Thread nD τ).loc main_arg2))
      ∧ r.2.mem ((c.tc : Thread nD τ).loc main_v34) = rv (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2.1.trans rfl, (h c).2.2.1.trans rfl, (h c).2.2.2⟩) (Value.run m ρ)

end Reference

end Cert.Ctx
end
end
-- ==== Proof.Ctx.lean ====
/- The kernel of the attention of the context tokens and its reference compute the same attention, normalised keys and values. -/
module

public import proofs.«01_k».proof.Proof.CtxKer
public import proofs.«01_k».proof.Proof.CtxRef

set_option maxRecDepth 16384

@[expose] public section
noncomputable section
namespace Cert.Ctx
open Idealize.ShloMosaic Idealize.ShloMosaic.TcCoe Idealize.ShloMosaic.Tactic
open Cert.Na (sc)

section Values
open Cert.Kernel7Ideal Cert.Kernel7Ideal.Gen
variable (m : (ℓ : Loc nD τ sig) → Buf (Elt Ideal) ℓ) (c : Dev nD)

theorem eta2 {n0 n1 : ℕ} (i : (⟨2, ![n0, n1]⟩ : Shape).Idx) : i = ix2 (i 0) (i 1) := by
  funext x
  match x with
  | ⟨0, _⟩ => rfl
  | ⟨1, _⟩ => rfl

theorem eta4 {n0 n1 n2 n3 : ℕ} (i : (⟨4, ![n0, n1, n2, n3]⟩ : Shape).Idx) : i = ix4 (i 0) (i 1) (i 2) (i 3) := by
  funext x
  match x with
  | ⟨0, _⟩ => rfl
  | ⟨1, _⟩ => rfl
  | ⟨2, _⟩ => rfl
  | ⟨3, _⟩ => rfl

/-- The kernel's attention is the reference's, … -/
theorem value5 : (dats m 0 c).arrAt 5 cfg0.N
    = out (m ((c.tc : Thread nD τ).loc main_arg0)) (m ((c.tc : Thread nD τ).loc main_arg1)) (m ((c.tc : Thread nD τ).loc main_arg2)) := by
  funext i
  rw [eta2 i]
  exact (arr5 m c (i 0) (i 1)).trans (out_ap _ _ _ (i 0) (i 1)).symm

/-- … and so are the keys … -/
theorem value6 : (dats m 0 c).arrAt 6 cfg0.N
    = rnorm (rk (m ((c.tc : Thread nD τ).loc main_arg0))) (m ((c.tc : Thread nD τ).loc main_arg2)) := by
  funext i
  rw [eta4 i]
  exact (arr6 m c (i 0) (i 1) (i 2) (i 3)).trans (rkeys_ap _ _ (i 0) (i 1) (i 2) (i 3)).symm

/-- … and the values. -/
theorem value7 : (dats m 0 c).arrAt 7 cfg0.N = rv (m ((c.tc : Thread nD τ).loc main_arg0)) := by
  funext i
  rw [eta4 i]
  exact (arr7 m c (i 0) (i 1) (i 2) (i 3)).trans (rv_ap _ (i 0) (i 1) (i 2) (i 3)).symm

end Values

end Cert.Ctx
end
end
-- ==== Proof.lean ====
/- The certificate of seven calls of the layer, each with its frames and its value against the plain reference: the
   input projection with the decays, the neighbourhood attention, the attention of the context tokens, the gated merge of the
   branches, the output projection of the mixers and the two halves of the feed-forward part. The mathematics is in the modules
   InProj*, Na*, Ctx, Merge, OutProj, Up and Down beside this file; here it is put together. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.NaPre
public import proofs.«01_k».proof.Proof.NaRef
public import proofs.«01_k».proof.Proof.Up
public import proofs.«01_k».proof.Proof.Down
public import proofs.«01_k».proof.Proof.OutProj
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Merge
public import proofs.«01_k».proof.Proof.InProj
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Ctx
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import Idealize.ShloMosaic.Adequacy
public import Idealize.ShloMosaic.Init

@[expose] public section

noncomputable section

namespace Cert.Proof

open Idealize.ShloMosaic Idealize.SL.Sem Idealize.ShloMosaic.TcCoe

attribute [local instance] Cert.Kernel.Gen.facts Cert.KernelIdeal.Gen.facts Cert.ReferenceIdeal.Gen.facts Cert.Na.preFacts
  Cert.Kernel2.Gen.facts Cert.Kernel2Ideal.Gen.facts Cert.Reference2Ideal.Gen.facts
  Cert.Kernel3.Gen.facts Cert.Kernel3Ideal.Gen.facts Cert.Reference3Ideal.Gen.facts
  Cert.Kernel4.Gen.facts Cert.Kernel4Ideal.Gen.facts Cert.Reference4Ideal.Gen.facts
  Cert.Kernel5.Gen.facts Cert.Kernel5Ideal.Gen.facts Cert.Reference5Ideal.Gen.facts
  Cert.Kernel6.Gen.facts Cert.Kernel6Ideal.Gen.facts Cert.Reference6Ideal.Gen.facts
  Cert.Kernel7.Gen.facts Cert.Kernel7Ideal.Gen.facts Cert.Reference7Ideal.Gen.facts

/-- The reference of the neighbourhood attention ends with its arguments unchanged and no semaphore raised. -/
theorem na_ref_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- What the kernel's run leaves in its result is what the reference computes of the same arguments. -/
theorem na_value (m : (ℓ : Loc Cert.KernelIdeal.nD Cert.KernelIdeal.τ Cert.KernelIdeal.sig) → Buf (Elt Ideal) ℓ)
    (hpre : Cert.Pre_KernelIdeal_finite m) (c : Dev Cert.KernelIdeal.nD) :
    (Cert.KernelIdeal.Gen.dats m 0 c).arrAt 8 Cert.KernelIdeal.cfg0.N
      = Cert.NaRef.out (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  obtain ⟨h1, h2, h3, h4, h5⟩ := hpre c
  have hf := Cert.Na.finite_of_pre _ _ _ _ _ _ h1 h2 h3 h4 h5
  funext i
  have hi : i = ix2 (i 0) (i 1) := by
    funext x
    match x with
    | ⟨0, _⟩ => rfl
    | ⟨1, _⟩ => rfl
  rw [hi]
  exact (Cert.Na.arr_ap m c hf (i 0) (i 1)).trans (Cert.NaRef.out_ap _ _ _ _ _ _ (i 0) (i 1)).symm

/-- Over the extended reals the kernel and the reference compute one function of real inputs. -/
theorem na_algebraic : Cert.algebraic_KernelIdeal_ReferenceIdeal_pre_finite := fun m ρ m' ρ' hpre hag =>
  ⟨fun c => (Cert.KernelIdeal.Gen.dats m 0 c).arrAt 8 Cert.KernelIdeal.cfg0.N, Cert.KernelIdeal.Value.run_blocks m ρ,
    (θ_run Cert.ReferenceIdeal.defs _ _).mono (fun _ h c => ⟨(h c).1.trans (by
      obtain ⟨a0, a1, a2, a3, a4, a5⟩ := hag c
      rw [a0, a1, a2, a3, a4, a5]
      exact (na_value m hpre c).symm), (h c).2⟩) (Cert.NaRef.run_out m' ρ')⟩

/-- The reference of the first half of the feed-forward part ends with its arguments unchanged and no semaphore raised. -/
theorem up_ref_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Over the extended reals the kernel and the reference of the first half of the feed-forward part compute one function. -/
theorem up_algebraic : Cert.algebraic_Kernel2Ideal_Reference2Ideal := fun m ρ m' ρ' _ hag =>
  ⟨fun c => (Cert.Kernel2Ideal.Gen.dats m 0 c).arrAt 5 Cert.Kernel2Ideal.cfg0.N, Cert.Kernel2Ideal.Value.run_blocks m ρ,
    (θ_run Cert.Reference2Ideal.defs _ _).mono (fun _ h c => ⟨(h c).1.trans (by
      obtain ⟨a0, a1, a2, a3, a4⟩ := hag c
      rw [a0, a1, a2, a3, a4]
      exact (Cert.Up.value m c).symm), (h c).2⟩) (Cert.Up.run_out m' ρ')⟩

/-- The reference of the second half of the feed-forward part ends with its arguments unchanged and no semaphore raised. -/
theorem down_ref_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Over the extended reals the kernel and the reference of the second half of the feed-forward part compute one function. -/
theorem down_algebraic : Cert.algebraic_Kernel3Ideal_Reference3Ideal := fun m ρ m' ρ' _ hag =>
  ⟨fun c => (Cert.Kernel3Ideal.Gen.dats m 0 c).arrAt 4 Cert.Kernel3Ideal.cfg0.N, Cert.Kernel3Ideal.Value.run_blocks m ρ,
    (θ_run Cert.Reference3Ideal.defs _ _).mono (fun _ h c => ⟨(h c).1.trans (by
      obtain ⟨a0, a1, a2, a3⟩ := hag c
      rw [a0, a1, a2, a3]
      exact (Cert.Down.value m c).symm), (h c).2⟩) (Cert.Down.run_out m' ρ')⟩

/-- The reference of the output projection ends with its arguments unchanged and no semaphore raised. -/
theorem out_ref_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Over the extended reals the kernel and the reference of the output projection compute one function. -/
theorem out_algebraic : Cert.algebraic_Kernel4Ideal_Reference4Ideal := fun m ρ m' ρ' _ hag =>
  ⟨fun c => (Cert.Kernel4Ideal.Gen.dats m 0 c).arrAt 4 Cert.Kernel4Ideal.cfg0.N, Cert.Kernel4Ideal.Value.run_blocks m ρ,
    (θ_run Cert.Reference4Ideal.defs _ _).mono (fun _ h c => ⟨(h c).1.trans (by
      obtain ⟨a0, a1, a2, a3⟩ := hag c
      rw [a0, a1, a2, a3]
      exact (Cert.OutProj.value m c).symm), (h c).2⟩) (Cert.OutProj.run_out m' ρ')⟩

/-- The reference of the gated merge ends with its arguments unchanged and no semaphore raised. -/
theorem merge_ref_frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Over the extended reals the kernel and the reference of the gated merge compute one function. -/
theorem merge_algebraic : Cert.algebraic_Kernel5Ideal_Reference5Ideal := fun m ρ m' ρ' _ hag =>
  ⟨fun c => (Cert.Kernel5Ideal.Gen.dats m 0 c).arrAt 12 Cert.Kernel5Ideal.cfg0.N, Cert.Kernel5Ideal.Value.run_blocks m ρ,
    (θ_run Cert.Reference5Ideal.defs _ _).mono (fun _ h c => ⟨(h c).1.trans (by
      obtain ⟨a0, a1, a2, a3, a4, a5, a6, a7, a8⟩ := hag c
      rw [a0, a1, a2, a3, a4, a5, a6, a7, a8]
      exact (Cert.Merge.value m c).symm), (h c).2⟩) (Cert.Merge.run_out m' ρ')⟩

/-- The kernel body of the input projection is the same under both of its printings, label by label. -/
theorem inproj_body_eq : Cert.Kernel6.defs₀ (F := Bits) = Cert.Kernel6Ideal.defs₀ (F := Bits) := by
  unfold Cert.Kernel6.defs₀ Cert.Kernel6Ideal.defs₀
  refine congrArg Defs.onTc ?_
  funext l a
  obtain ⟨n, hn⟩ := l
  cases n with
  | zero =>
    obtain ⟨t, s⟩ := a
    rfl
  | succ n => exact absurd hn (Nat.not_lt.2 (Nat.le_add_left _ _))

/-- So is the table of the kernel body and its pipeline. -/
theorem inproj_defs_eq : Cert.Kernel6.defs (F := Bits) = Cert.Kernel6Ideal.defs (F := Bits) :=
  congrArg (Pipeline.defs (Cert.Kernel6Ideal.pcfgs (F := Bits))) inproj_body_eq

/-- A run under one body table is a run under an equal one. -/
theorem run_of_eq {nD : Nat} {τ : Topo} {sig : RefSig} {Val : EltTy → Type} {Λ : Labels} {d d' : Defs nD τ sig Val Λ} (e : d = d')
    {p : (c : Thread nD τ) → Prog (TpuEff nD τ sig Val Λ c.2) PUnit} {s Q} (h : θ_run d' p s Q) : θ_run d p s Q := e ▸ h

/-- The input projection ends with its arguments unchanged and no semaphore raised, in its own formats … -/
theorem inproj_frame : Cert.quiescent_Kernel6 := fun m ρ _ =>
  run_of_eq inproj_defs_eq (Cert.InProj.frame (F := Bits) m ρ)

/-- … and over the extended reals; … -/
theorem inproj_ideal_frame : Cert.quiescent_Kernel6Ideal := fun m ρ _ => Cert.InProj.frame (F := Ideal) m ρ

/-- … and so does its reference. -/
theorem inproj_ref_frame : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- Over the extended reals the kernel and the reference of the input projection compute the same two functions. -/
theorem inproj_algebraic : Cert.algebraic_Kernel6Ideal_Reference6Ideal := fun m ρ m' ρ' _ hag =>
  ⟨fun c => (Cert.InProj.dats m 0 c).arrAt 8 Cert.Kernel6Ideal.cfg0.N, fun c => (Cert.InProj.dats m 0 c).arrAt 9 Cert.Kernel6Ideal.cfg0.N,
    Cert.InProj.run_blocks m ρ,
    (θ_run Cert.Reference6Ideal.defs _ _).mono (fun _ h c => ⟨(h c).1.trans (by
      obtain ⟨a0, a1, a2, a3, a4, a5, a6⟩ := hag c
      rw [a0, a1, a2, a3, a4]
      exact (Cert.InProj.value0 m c).symm), (h c).2.1.trans (by
      obtain ⟨a0, a1, a2, a3, a4, a5, a6⟩ := hag c
      rw [a0, a1, a2, a3, a4, a5, a6]
      exact (Cert.InProj.value1 m c).symm), (h c).2.2⟩) (Cert.InProj.run_out m' ρ')⟩

/-- The reference of the attention of the context tokens ends with its arguments unchanged and no semaphore raised. -/
theorem ctx_ref_frame : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- Over the extended reals the kernel and the reference of the attention of the context tokens compute the same three functions. -/
theorem ctx_algebraic : Cert.algebraic_Kernel7Ideal_Reference7Ideal := fun m ρ m' ρ' _ hag =>
  ⟨fun c => (Cert.Kernel7Ideal.Gen.dats m 0 c).arrAt 5 Cert.Kernel7Ideal.cfg0.N, fun c => (Cert.Kernel7Ideal.Gen.dats m 0 c).arrAt 6 Cert.Kernel7Ideal.cfg0.N,
    fun c => (Cert.Kernel7Ideal.Gen.dats m 0 c).arrAt 7 Cert.Kernel7Ideal.cfg0.N, Cert.Kernel7Ideal.Value.run_blocks m ρ,
    (θ_run Cert.Reference7Ideal.defs _ _).mono (fun _ h c => ⟨(h c).1.trans (by
      obtain ⟨a0, a1, a2⟩ := hag c
      rw [a0, a1, a2]
      exact (Cert.Ctx.value5 m c).symm), (h c).2.1.trans (by
      obtain ⟨a0, a1, a2⟩ := hag c
      rw [a0, a2]
      exact (Cert.Ctx.value6 m c).symm), (h c).2.2.1.trans (by
      obtain ⟨a0, a1, a2⟩ := hag c
      rw [a0]
      exact (Cert.Ctx.value7 m c).symm), (h c).2.2.2⟩) (Cert.Ctx.run_out m' ρ')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Na.preFacts,
    fun m ρ _ => Cert.Kernel.Gen.frame m ρ, fun m ρ _ => Cert.KernelIdeal.Gen.frame m ρ, fun m ρ _ => Cert.KernelIdeal.Gen.frame m ρ,
    na_ref_frame, fun m ρ _ => na_ref_frame m ρ trivial,
    fun m ρ _ => Cert.Kernel2.Gen.frame m ρ, fun m ρ _ => Cert.Kernel2Ideal.Gen.frame m ρ, up_ref_frame,
    fun m ρ _ => Cert.Kernel3.Gen.frame m ρ, fun m ρ _ => Cert.Kernel3Ideal.Gen.frame m ρ, down_ref_frame,
    fun m ρ _ => Cert.Kernel4.Gen.frame m ρ, fun m ρ _ => Cert.Kernel4Ideal.Gen.frame m ρ, out_ref_frame,
    fun m ρ _ => Cert.Kernel5.Gen.frame m ρ, fun m ρ _ => Cert.Kernel5Ideal.Gen.frame m ρ, merge_ref_frame,
    inproj_frame, inproj_ideal_frame, inproj_ref_frame,
    fun m ρ _ => Cert.Kernel7.Gen.frame m ρ, fun m ρ _ => Cert.Kernel7Ideal.Gen.frame m ρ, ctx_ref_frame,
    trivial, na_algebraic, trivial, up_algebraic, trivial, down_algebraic, trivial, out_algebraic,
    trivial, merge_algebraic, trivial, inproj_algebraic, trivial, ctx_algebraic⟩

end Cert.Proof

end
